-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueRefIdeal (m : (ℓ : Loc Cert.KeyValueRefIdeal.nD Cert.KeyValueRefIdeal.τ Cert.KeyValueRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_rows_finite [hPre_rows_finite : Cert.Pre_rows_finite.Facts] (m : (ℓ : Loc Cert.PoolIdeal.nD Cert.PoolIdeal.τ Cert.PoolIdeal.sig) → Buf (Elt Ideal) ℓ) : Prop :=
  ∀ c : Dev Cert.PoolIdeal.nD,
    (Cert.Pre_rows_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_rows_finite [hPre_rows_finite : Cert.Pre_rows_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_rows_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4)
      ∧ r.2.mem ((c.tc : Thread Cert.QueryRefIdeal.nD Cert.QueryRefIdeal.τ).loc Cert.QueryRefIdeal.main_arg5) = m ((c.tc : Thread Cert.QueryRefIdeal.nD Cert.QueryRefIdeal.τ).loc Cert.QueryRefIdeal.main_arg5))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1)
      ∧ r.2.mem ((c.tc : Thread Cert.KeyValue.nD Cert.KeyValue.τ).loc Cert.KeyValue.main_arg2) = m ((c.tc : Thread Cert.KeyValue.nD Cert.KeyValue.τ).loc Cert.KeyValue.main_arg2)
      ∧ r.2.mem ((c.tc : Thread Cert.KeyValue.nD Cert.KeyValue.τ).loc Cert.KeyValue.main_arg3) = m ((c.tc : Thread Cert.KeyValue.nD Cert.KeyValue.τ).loc Cert.KeyValue.main_arg3)
      ∧ r.2.mem ((c.tc : Thread Cert.KeyValue.nD Cert.KeyValue.τ).loc Cert.KeyValue.main_arg4) = m ((c.tc : Thread Cert.KeyValue.nD Cert.KeyValue.τ).loc Cert.KeyValue.main_arg4)
      ∧ r.2.mem ((c.tc : Thread Cert.KeyValue.nD Cert.KeyValue.τ).loc Cert.KeyValue.main_arg5) = m ((c.tc : Thread Cert.KeyValue.nD Cert.KeyValue.τ).loc Cert.KeyValue.main_arg5))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
      ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
      ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3)
      ∧ r.2.mem ((c.tc : Thread Cert.KeyValueIdeal.nD Cert.KeyValueIdeal.τ).loc Cert.KeyValueIdeal.main_arg4) = m ((c.tc : Thread Cert.KeyValueIdeal.nD Cert.KeyValueIdeal.τ).loc Cert.KeyValueIdeal.main_arg4)
      ∧ r.2.mem ((c.tc : Thread Cert.KeyValueIdeal.nD Cert.KeyValueIdeal.τ).loc Cert.KeyValueIdeal.main_arg5) = m ((c.tc : Thread Cert.KeyValueIdeal.nD Cert.KeyValueIdeal.τ).loc Cert.KeyValueIdeal.main_arg5))
      ∧ r.2.sem = fun _ => 0)

def quiescent_KeyValueRefIdeal [hKeyValueRefIdeal : Cert.KeyValueRefIdeal.Facts] : Prop :=
  ∀ (m : (ℓ : Loc Cert.KeyValueRefIdeal.nD Cert.KeyValueRefIdeal.τ Cert.KeyValueRefIdeal.sig) → Buf (Elt Ideal) ℓ) (g : Dev Cert.KeyValueRefIdeal.nD → PrngReg), Pre_KeyValueRefIdeal m →
    θ_run (Cert.KeyValueRefIdeal.defs (F := Ideal)) (onTc (τ := Cert.KeyValueRefIdeal.τ) (Cert.KeyValueRefIdeal.main (F := Ideal))) ⟨m, fun _ => 0, g⟩ (fun r => (∀ c : Dev Cert.KeyValueRefIdeal.nD,
      r.2.mem ((c.tc : Thread Cert.KeyValueRefIdeal.nD Cert.KeyValueRefIdeal.τ).loc Cert.KeyValueRefIdeal.main_arg0) = m ((c.tc : Thread Cert.KeyValueRefIdeal.nD Cert.KeyValueRefIdeal.τ).loc Cert.KeyValueRefIdeal.main_arg0)
      ∧ r.2.mem ((c.tc : Thread Cert.KeyValueRefIdeal.nD Cert.KeyValueRefIdeal.τ).loc Cert.KeyValueRefIdeal.main_arg1) = m ((c.tc : Thread Cert.KeyValueRefIdeal.nD Cert.KeyValueRefIdeal.τ).loc Cert.KeyValueRefIdeal.main_arg1)
      ∧ r.2.mem ((c.tc : Thread Cert.KeyValueRefIdeal.nD Cert.KeyValueRefIdeal.τ).loc Cert.KeyValueRefIdeal.main_arg2) = m ((c.tc : Thread Cert.KeyValueRefIdeal.nD Cert.KeyValueRefIdeal.τ).loc Cert.KeyValueRefIdeal.main_arg2)
      ∧ r.2.mem ((c.tc : Thread Cert.KeyValueRefIdeal.nD Cert.KeyValueRefIdeal.τ).loc Cert.KeyValueRefIdeal.main_arg3) = m ((c.tc : Thread Cert.KeyValueRefIdeal.nD Cert.KeyValueRefIdeal.τ).loc Cert.KeyValueRefIdeal.main_arg3)
      ∧ r.2.mem ((c.tc : Thread Cert.KeyValueRefIdeal.nD Cert.KeyValueRefIdeal.τ).loc Cert.KeyValueRefIdeal.main_arg4) = m ((c.tc : Thread Cert.KeyValueRefIdeal.nD Cert.KeyValueRefIdeal.τ).loc Cert.KeyValueRefIdeal.main_arg4)
      ∧ r.2.mem ((c.tc : Thread Cert.KeyValueRefIdeal.nD Cert.KeyValueRefIdeal.τ).loc Cert.KeyValueRefIdeal.main_arg5) = m ((c.tc : Thread Cert.KeyValueRefIdeal.nD Cert.KeyValueRefIdeal.τ).loc Cert.KeyValueRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolIdeal_pre_rows_finite [hPoolIdeal : Cert.PoolIdeal.Facts] [hPre_rows_finite : Cert.Pre_rows_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_rows_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def quiescent_PoolRefIdeal_pre_rows_finite [hPoolRefIdeal : Cert.PoolRefIdeal.Facts] [hPre_rows_finite : Cert.Pre_rows_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_rows_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)
      ∧ m' ((c.tc : Thread Cert.QueryRefIdeal.nD Cert.QueryRefIdeal.τ).loc Cert.QueryRefIdeal.main_arg5) = m ((c.tc : Thread Cert.QueryIdeal.nD Cert.QueryIdeal.τ).loc Cert.QueryIdeal.main_arg5)) →
    ∃ (v0 : (c : Dev Cert.QueryIdeal.nD) → Buf (Elt Ideal) ((c.tc : Thread Cert.QueryIdeal.nD Cert.QueryIdeal.τ).loc Cert.QueryIdeal.main_v4_0)) (v1 : (c : Dev Cert.QueryIdeal.nD) → Buf (Elt Ideal) ((c.tc : Thread Cert.QueryIdeal.nD Cert.QueryIdeal.τ).loc Cert.QueryIdeal.main_v4_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4_0) = v0 c
          ∧ r.2.mem ((c.tc : Thread Cert.QueryIdeal.nD Cert.QueryIdeal.τ).loc Cert.QueryIdeal.main_v4_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v42) = v0 c
          ∧ r.2.mem ((c.tc : Thread Cert.QueryRefIdeal.nD Cert.QueryRefIdeal.τ).loc Cert.QueryRefIdeal.main_v43) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4)
          ∧ r.2.mem ((c.tc : Thread Cert.QueryRefIdeal.nD Cert.QueryRefIdeal.τ).loc Cert.QueryRefIdeal.main_arg5) = m' ((c.tc : Thread Cert.QueryRefIdeal.nD Cert.QueryRefIdeal.τ).loc Cert.QueryRefIdeal.main_arg5))

def preserves_Output_OutputIdeal : Prop :=
  True

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)) →
    ∃ (v0 : (c : Dev Cert.OutputIdeal.nD) → Buf (Elt Ideal) ((c.tc : Thread Cert.OutputIdeal.nD Cert.OutputIdeal.τ).loc Cert.OutputIdeal.main_v1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v1) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v22) = v0 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4)
          ∧ r.2.mem ((c.tc : Thread Cert.OutputRefIdeal.nD Cert.OutputRefIdeal.τ).loc Cert.OutputRefIdeal.main_arg5) = m' ((c.tc : Thread Cert.OutputRefIdeal.nD Cert.OutputRefIdeal.τ).loc Cert.OutputRefIdeal.main_arg5))

def preserves_KeyValue_KeyValueIdeal : Prop :=
  True

def algebraic_KeyValueIdeal_KeyValueRefIdeal [hKeyValueIdeal : Cert.KeyValueIdeal.Facts] [hKeyValueRefIdeal : Cert.KeyValueRefIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueRefIdeal.nD Cert.KeyValueRefIdeal.τ Cert.KeyValueRefIdeal.sig) → Buf (Elt Ideal) ℓ) (g' : Dev Cert.KeyValueRefIdeal.nD → PrngReg), Pre_KeyValueIdeal m →
    (∀ c : Dev Cert.KeyValueIdeal.nD,
      m' ((c.tc : Thread Cert.KeyValueRefIdeal.nD Cert.KeyValueRefIdeal.τ).loc Cert.KeyValueRefIdeal.main_arg0) = m ((c.tc : Thread Cert.KeyValueIdeal.nD Cert.KeyValueIdeal.τ).loc Cert.KeyValueIdeal.main_arg0)
      ∧ m' ((c.tc : Thread Cert.KeyValueRefIdeal.nD Cert.KeyValueRefIdeal.τ).loc Cert.KeyValueRefIdeal.main_arg1) = m ((c.tc : Thread Cert.KeyValueIdeal.nD Cert.KeyValueIdeal.τ).loc Cert.KeyValueIdeal.main_arg1)
      ∧ m' ((c.tc : Thread Cert.KeyValueRefIdeal.nD Cert.KeyValueRefIdeal.τ).loc Cert.KeyValueRefIdeal.main_arg2) = m ((c.tc : Thread Cert.KeyValueIdeal.nD Cert.KeyValueIdeal.τ).loc Cert.KeyValueIdeal.main_arg2)
      ∧ m' ((c.tc : Thread Cert.KeyValueRefIdeal.nD Cert.KeyValueRefIdeal.τ).loc Cert.KeyValueRefIdeal.main_arg3) = m ((c.tc : Thread Cert.KeyValueIdeal.nD Cert.KeyValueIdeal.τ).loc Cert.KeyValueIdeal.main_arg3)
      ∧ m' ((c.tc : Thread Cert.KeyValueRefIdeal.nD Cert.KeyValueRefIdeal.τ).loc Cert.KeyValueRefIdeal.main_arg4) = m ((c.tc : Thread Cert.KeyValueIdeal.nD Cert.KeyValueIdeal.τ).loc Cert.KeyValueIdeal.main_arg4)
      ∧ m' ((c.tc : Thread Cert.KeyValueRefIdeal.nD Cert.KeyValueRefIdeal.τ).loc Cert.KeyValueRefIdeal.main_arg5) = m ((c.tc : Thread Cert.KeyValueIdeal.nD Cert.KeyValueIdeal.τ).loc Cert.KeyValueIdeal.main_arg5)) →
    ∃ (v0 : (c : Dev Cert.KeyValueIdeal.nD) → Buf (Elt Ideal) ((c.tc : Thread Cert.KeyValueIdeal.nD Cert.KeyValueIdeal.τ).loc Cert.KeyValueIdeal.main_v4_0)) (v1 : (c : Dev Cert.KeyValueIdeal.nD) → Buf (Elt Ideal) ((c.tc : Thread Cert.KeyValueIdeal.nD Cert.KeyValueIdeal.τ).loc Cert.KeyValueIdeal.main_v4_1)) (v2 : (c : Dev Cert.KeyValueIdeal.nD) → Buf (Elt Ideal) ((c.tc : Thread Cert.KeyValueIdeal.nD Cert.KeyValueIdeal.τ).loc Cert.KeyValueIdeal.main_v4_2)) (v3 : (c : Dev Cert.KeyValueIdeal.nD) → Buf (Elt Ideal) ((c.tc : Thread Cert.KeyValueIdeal.nD Cert.KeyValueIdeal.τ).loc Cert.KeyValueIdeal.main_v4_3)) (v4 : (c : Dev Cert.KeyValueIdeal.nD) → Buf (Elt Ideal) ((c.tc : Thread Cert.KeyValueIdeal.nD Cert.KeyValueIdeal.τ).loc Cert.KeyValueIdeal.main_v4_4)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v4_0) = v0 c
          ∧ r.2.mem ((c.tc : Thread Cert.KeyValueIdeal.nD Cert.KeyValueIdeal.τ).loc Cert.KeyValueIdeal.main_v4_1) = v1 c
          ∧ r.2.mem ((c.tc : Thread Cert.KeyValueIdeal.nD Cert.KeyValueIdeal.τ).loc Cert.KeyValueIdeal.main_v4_2) = v2 c
          ∧ r.2.mem ((c.tc : Thread Cert.KeyValueIdeal.nD Cert.KeyValueIdeal.τ).loc Cert.KeyValueIdeal.main_v4_3) = v3 c
          ∧ r.2.mem ((c.tc : Thread Cert.KeyValueIdeal.nD Cert.KeyValueIdeal.τ).loc Cert.KeyValueIdeal.main_v4_4) = v4 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
          ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
          ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3)
          ∧ r.2.mem ((c.tc : Thread Cert.KeyValueIdeal.nD Cert.KeyValueIdeal.τ).loc Cert.KeyValueIdeal.main_arg4) = m ((c.tc : Thread Cert.KeyValueIdeal.nD Cert.KeyValueIdeal.τ).loc Cert.KeyValueIdeal.main_arg4)
          ∧ r.2.mem ((c.tc : Thread Cert.KeyValueIdeal.nD Cert.KeyValueIdeal.τ).loc Cert.KeyValueIdeal.main_arg5) = m ((c.tc : Thread Cert.KeyValueIdeal.nD Cert.KeyValueIdeal.τ).loc Cert.KeyValueIdeal.main_arg5))
      ∧ θ_run (Cert.KeyValueRefIdeal.defs (F := Ideal)) (onTc (τ := Cert.KeyValueRefIdeal.τ) (Cert.KeyValueRefIdeal.main (F := Ideal))) ⟨m', fun _ => 0, g'⟩ (fun r => ∀ c : Dev Cert.KeyValueRefIdeal.nD,
          r.2.mem ((c.tc : Thread Cert.KeyValueRefIdeal.nD Cert.KeyValueRefIdeal.τ).loc Cert.KeyValueRefIdeal.main_v39) = v0 c
          ∧ r.2.mem ((c.tc : Thread Cert.KeyValueRefIdeal.nD Cert.KeyValueRefIdeal.τ).loc Cert.KeyValueRefIdeal.main_v41) = v1 c
          ∧ r.2.mem ((c.tc : Thread Cert.KeyValueRefIdeal.nD Cert.KeyValueRefIdeal.τ).loc Cert.KeyValueRefIdeal.main_v50) = v2 c
          ∧ r.2.mem ((c.tc : Thread Cert.KeyValueRefIdeal.nD Cert.KeyValueRefIdeal.τ).loc Cert.KeyValueRefIdeal.main_v52) = v3 c
          ∧ r.2.mem ((c.tc : Thread Cert.KeyValueRefIdeal.nD Cert.KeyValueRefIdeal.τ).loc Cert.KeyValueRefIdeal.main_v54) = v4 c
          ∧ r.2.mem ((c.tc : Thread Cert.KeyValueRefIdeal.nD Cert.KeyValueRefIdeal.τ).loc Cert.KeyValueRefIdeal.main_arg0) = m' ((c.tc : Thread Cert.KeyValueRefIdeal.nD Cert.KeyValueRefIdeal.τ).loc Cert.KeyValueRefIdeal.main_arg0)
          ∧ r.2.mem ((c.tc : Thread Cert.KeyValueRefIdeal.nD Cert.KeyValueRefIdeal.τ).loc Cert.KeyValueRefIdeal.main_arg1) = m' ((c.tc : Thread Cert.KeyValueRefIdeal.nD Cert.KeyValueRefIdeal.τ).loc Cert.KeyValueRefIdeal.main_arg1)
          ∧ r.2.mem ((c.tc : Thread Cert.KeyValueRefIdeal.nD Cert.KeyValueRefIdeal.τ).loc Cert.KeyValueRefIdeal.main_arg2) = m' ((c.tc : Thread Cert.KeyValueRefIdeal.nD Cert.KeyValueRefIdeal.τ).loc Cert.KeyValueRefIdeal.main_arg2)
          ∧ r.2.mem ((c.tc : Thread Cert.KeyValueRefIdeal.nD Cert.KeyValueRefIdeal.τ).loc Cert.KeyValueRefIdeal.main_arg3) = m' ((c.tc : Thread Cert.KeyValueRefIdeal.nD Cert.KeyValueRefIdeal.τ).loc Cert.KeyValueRefIdeal.main_arg3)
          ∧ r.2.mem ((c.tc : Thread Cert.KeyValueRefIdeal.nD Cert.KeyValueRefIdeal.τ).loc Cert.KeyValueRefIdeal.main_arg4) = m' ((c.tc : Thread Cert.KeyValueRefIdeal.nD Cert.KeyValueRefIdeal.τ).loc Cert.KeyValueRefIdeal.main_arg4)
          ∧ r.2.mem ((c.tc : Thread Cert.KeyValueRefIdeal.nD Cert.KeyValueRefIdeal.τ).loc Cert.KeyValueRefIdeal.main_arg5) = m' ((c.tc : Thread Cert.KeyValueRefIdeal.nD Cert.KeyValueRefIdeal.τ).loc Cert.KeyValueRefIdeal.main_arg5))

def preserves_Pool_PoolIdeal : Prop :=
  True

def algebraic_PoolIdeal_PoolRefIdeal_pre_rows_finite [hPoolIdeal : Cert.PoolIdeal.Facts] [hPoolRefIdeal : Cert.PoolRefIdeal.Facts] [hPre_rows_finite : Cert.Pre_rows_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_rows_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v127) = v0 c
          ∧ r.2.mem ((c.tc : Thread Cert.PoolRefIdeal.nD Cert.PoolRefIdeal.τ).loc Cert.PoolRefIdeal.main_v128) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8))

def Claim : Prop :=
  ∃ (hKernel : Cert.Kernel.Facts) (hKernelIdeal : Cert.KernelIdeal.Facts) (hReferenceIdeal : Cert.ReferenceIdeal.Facts) (hQuery : Cert.Query.Facts) (hQueryIdeal : Cert.QueryIdeal.Facts) (hQueryRefIdeal : Cert.QueryRefIdeal.Facts) (hOutput : Cert.Output.Facts) (hOutputIdeal : Cert.OutputIdeal.Facts) (hOutputRefIdeal : Cert.OutputRefIdeal.Facts) (hKeyValue : Cert.KeyValue.Facts) (hKeyValueIdeal : Cert.KeyValueIdeal.Facts) (hKeyValueRefIdeal : Cert.KeyValueRefIdeal.Facts) (hPool : Cert.Pool.Facts) (hPoolIdeal : Cert.PoolIdeal.Facts) (hPoolRefIdeal : Cert.PoolRefIdeal.Facts) (hPre_scores_finite : Cert.Pre_scores_finite.Facts) (hPre_rows_finite : Cert.Pre_rows_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Query (hQuery := hQuery)
    ∧ quiescent_QueryIdeal (hQueryIdeal := hQueryIdeal)
    ∧ quiescent_QueryRefIdeal (hQueryRefIdeal := hQueryRefIdeal)
    ∧ quiescent_Output (hOutput := hOutput)
    ∧ quiescent_OutputIdeal (hOutputIdeal := hOutputIdeal)
    ∧ quiescent_OutputRefIdeal (hOutputRefIdeal := hOutputRefIdeal)
    ∧ quiescent_KeyValue (hKeyValue := hKeyValue)
    ∧ quiescent_KeyValueIdeal (hKeyValueIdeal := hKeyValueIdeal)
    ∧ quiescent_KeyValueRefIdeal (hKeyValueRefIdeal := hKeyValueRefIdeal)
    ∧ quiescent_Pool (hPool := hPool)
    ∧ quiescent_PoolIdeal (hPoolIdeal := hPoolIdeal)
    ∧ quiescent_PoolIdeal_pre_rows_finite (hPoolIdeal := hPoolIdeal) (hPre_rows_finite := hPre_rows_finite)
    ∧ quiescent_PoolRefIdeal (hPoolRefIdeal := hPoolRefIdeal)
    ∧ quiescent_PoolRefIdeal_pre_rows_finite (hPoolRefIdeal := hPoolRefIdeal) (hPre_rows_finite := hPre_rows_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Query_QueryIdeal
    ∧ algebraic_QueryIdeal_QueryRefIdeal (hQueryIdeal := hQueryIdeal) (hQueryRefIdeal := hQueryRefIdeal)
    ∧ preserves_Output_OutputIdeal
    ∧ algebraic_OutputIdeal_OutputRefIdeal (hOutputIdeal := hOutputIdeal) (hOutputRefIdeal := hOutputRefIdeal)
    ∧ preserves_KeyValue_KeyValueIdeal
    ∧ algebraic_KeyValueIdeal_KeyValueRefIdeal (hKeyValueIdeal := hKeyValueIdeal) (hKeyValueRefIdeal := hKeyValueRefIdeal)
    ∧ preserves_Pool_PoolIdeal
    ∧ algebraic_PoolIdeal_PoolRefIdeal_pre_rows_finite (hPoolIdeal := hPoolIdeal) (hPoolRefIdeal := hPoolRefIdeal) (hPre_rows_finite := hPre_rows_finite)
-- ==== Pre_rows_finite.lean ====
abbrev S4x4096x1024 : Shape := ⟨3, ![4, 4096, 1024]⟩
abbrev S4x1x3072 : Shape := ⟨3, ![4, 1, 3072]⟩
abbrev S4x15x1024 : Shape := ⟨3, ![4, 15, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4111x1024 : Shape := ⟨3, ![4, 4111, 1024]⟩

class Facts : Prop where
  slices_S4x1x3072_S4x1x1024_0_0_0 : S4x1x3072.Slices ![0, 0, 0] S4x1x1024
  slices_S4x1x3072_S4x1x1024_0_0_1024 : S4x1x3072.Slices ![0, 0, 1024] S4x1x1024
  slices_S4x1x3072_S4x1x1024_0_0_2048 : S4x1x3072.Slices ![0, 0, 2048] S4x1x1024
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x1x1024 : S_.BroadcastsInDim S4x1x1024 (![] : Fin 0 → Fin S4x1x1024.rank)
  bcast_S4x1x1024_S4x4096x1024_0_1_2 : S4x1x1024.BroadcastsInDim S4x4096x1024 (![0, 1, 2] : Fin 3 → Fin S4x4096x1024.rank)
  bitsLt_bf16_f32 : FTy.bits .bf16 < FTy.bits .f32
  slices_S4x4096x2048_S4x4096x1024_0_0_0 : S4x4096x2048.Slices ![0, 0, 0] S4x4096x1024
  concatenates_S4x15x1024_S4x4096x1024_S4x4111x1024_d1 : Shape.Concatenates [S4x15x1024, S4x4096x1024] S4x4111x1024 1
  bcast_S_S4x4111x1024 : S_.BroadcastsInDim S4x4111x1024 (![] : Fin 0 → Fin S4x4111x1024.rank)
  dot_S4x4096x1024_S1024x2048_S4x4096x2048_2_0_01_1_n_n_wf : DotDims.WF S4x4096x1024 S1024x2048 S4x4096x2048 [2] [0] [0, 1] [1] [] []

variable [Facts]

def dot_S4x4096x1024_S1024x2048_S4x4096x2048_2_0_01_1_n_n : DotDims S4x4096x1024 S1024x2048 S4x4096x2048 where
  lhsContracting := [2]
  rhsContracting := [0]
  lhsNonContracting := [0, 1]
  rhsNonContracting := [1]
  lhsBatch := []
  rhsBatch := []
  wf := dot_S4x4096x1024_S1024x2048_S4x4096x2048_2_0_01_1_n_n_wf
def fn_part1 {F : FTy → Type} [FloatOps F] (main_arg2 : FVec F S4x15x1024 .f32) (main_arg5 : FVec F S1024x2048 .bf16) (main_v0 : FVec F S4x1x1024 .f32) (main_v19 : FVec F S4x4096x1024 .f32) : IVec S4x4111x1024 1 :=
  let main_v20 : FVec F S4x4096x1024 .f32 := broadcastInDim S4x4096x1024 ![0, 1, 2] bcast_S4x1x1024_S4x4096x1024_0_1_2 main_v0
  let main_v21 : FVec F S4x4096x1024 .f32 := addf main_v19 main_v20
  let main_v22 : FVec F S4x4096x1024 .bf16 := (truncf .bf16 · bitsLt_bf16_f32) main_v21
  let main_v23 : FVec F S4x4096x2048 .f32 := (fun l r => Host.dotGeneral dot_S4x4096x1024_S1024x2048_S4x4096x2048_2_0_01_1_n_n none l r) main_v22 main_arg5
  let main_v24 : FVec F S4x4096x1024 .f32 := (extractStridedSlice S4x4096x1024 ![0, 0, 0] · slices_S4x4096x2048_S4x4096x1024_0_0_0) main_v23
  let main_v25 : FVec F S4x4111x1024 .f32 := (fun a b => concatenate S4x4111x1024 1 [⟨S4x15x1024, a⟩, ⟨S4x4096x1024, b⟩] concatenates_S4x15x1024_S4x4096x1024_S4x4111x1024_d1) main_arg2 main_v24
  let main_v26 : FVec F S4x4111x1024 .f32 := Host.absf main_v25
  let main_cst_3 : FVec F S_ .f32 := constant S_ .f32 0x7F800000#32
  let main_v27 : FVec F S4x4111x1024 .f32 := broadcastInDim S4x4111x1024 ![] bcast_S_S4x4111x1024 main_cst_3
  let main_v28 : IVec S4x4111x1024 1 := cmpf .olt main_v26 main_v27
  main_v28

def fn {F : FTy → Type} [FloatOps F] (main_arg0 : FVec F S4x4096x1024 .f32) (main_arg1 : FVec F S4x1x3072 .f32) (main_arg2 : FVec F S4x15x1024 .f32) (main_arg3 : FVec F S1024 .f32) (main_arg4 : FVec F S1024 .f32) (main_arg5 : FVec F S1024x2048 .bf16) (main_arg6 : FVec F S4x256x256 .bf16) (main_arg7 : FVec F S1024 .f32) (main_arg8 : FVec F S1024x1024 .bf16) : IVec S4x4111x1024 1 :=
  let main_v0 : FVec F S4x1x1024 .f32 := (extractStridedSlice S4x1x1024 ![0, 0, 0] · slices_S4x1x3072_S4x1x1024_0_0_0) main_arg1
  let main_v1 : FVec F S4x1x1024 .f32 := (extractStridedSlice S4x1x1024 ![0, 0, 1024] · slices_S4x1x3072_S4x1x1024_0_0_1024) main_arg1
  let main_v2 : FVec F S4x1x1024 .f32 := (extractStridedSlice S4x1x1024 ![0, 0, 2048] · slices_S4x1x3072_S4x1x1024_0_0_2048) main_arg1
  let main_v3 : FVec F S4x4096x1024 .f32 := mulf main_arg0 main_arg0
  let main_cst : FVec F S_ .f32 := constant S_ .f32 0x00000000#32
  let main_v4 : FVec F S4x4096 .f32 := (fun x v => Host.reduceAdd x v reducesTo_S4x4096x1024_S4x4096_d2 h_S_) main_v3 main_cst
  let main_v5 : FVec F S4x4096x1 .f32 := broadcastInDim S4x4096x1 ![0, 1] bcast_S4x4096_S4x4096x1_0_1 main_v4
  let main_cst_0 : FVec F S_ .f32 := constant S_ .f32 0x44800000#32
  let main_v6 : FVec F S4x4096x1 .f32 := broadcastInDim S4x4096x1 ![] bcast_S_S4x4096x1 main_cst_0
  let main_v7 : FVec F S4x4096x1 .f32 := Host.divf main_v5 main_v6
  let main_cst_1 : FVec F S_ .f32 := constant S_ .f32 0x358637BD#32
  let main_v8 : FVec F S4x4096x1 .f32 := broadcastInDim S4x4096x1 ![] bcast_S_S4x4096x1 main_cst_1
  let main_v9 : FVec F S4x4096x1 .f32 := addf main_v7 main_v8
  let main_v10 : FVec F S4x4096x1 .f32 := Host.rsqrt main_v9
  let main_v11 : FVec F S4x4096x1024 .f32 := broadcastInDim S4x4096x1024 ![0, 1, 2] bcast_S4x4096x1_S4x4096x1024_0_1_2 main_v10
  let main_v12 : FVec F S4x4096x1024 .f32 := mulf main_arg0 main_v11
  let main_v13 : FVec F S1x1x1024 .f32 := broadcastInDim S1x1x1024 ![2] bcast_S1024_S1x1x1024_2 main_arg3
  let main_v14 : FVec F S4x4096x1024 .f32 := broadcastInDim S4x4096x1024 ![0, 1, 2] bcast_S1x1x1024_S4x4096x1024_0_1_2 main_v13
  let main_v15 : FVec F S4x4096x1024 .f32 := mulf main_v12 main_v14
  let main_cst_2 : FVec F S_ .f32 := constant S_ .f32 0x3F800000#32
  let main_v16 : FVec F S4x1x1024 .f32 := broadcastInDim S4x1x1024 ![] bcast_S_S4x1x1024 main_cst_2
  let main_v17 : FVec F S4x1x1024 .f32 := addf main_v16 main_v1
  let main_v18 : FVec F S4x4096x1024 .f32 := broadcastInDim S4x4096x1024 ![0, 1, 2] bcast_S4x1x1024_S4x4096x1024_0_1_2 main_v17
  let main_v19 : FVec F S4x4096x1024 .f32 := mulf main_v15 main_v18
  fn_part1 (F := F) main_arg2 main_arg5 main_v0 main_v19
-- ==== Pre_scores_finite.lean ====
abbrev S4x4096x1024 : Shape := ⟨3, ![4, 4096, 1024]⟩
abbrev S4x8x16x128x256 : Shape := ⟨5, ![4, 8, 16, 128, 256]⟩
abbrev S4x16x1024 : Shape := ⟨3, ![4, 16, 1024]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)

variable [Facts]

def fn {F : FTy → Type} [FloatOps F] (main_arg0 : FVec F S4x4096x1024 .bf16) (main_arg1 : FVec F S4x4096x1024 .bf16) (main_arg2 : FVec F S4x8x16x128x256 .bf16) (main_arg3 : FVec F S4x16x1024 .f32) : IVec S4x4096x1024 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_v4 : FVec F S4x4096x1024 .f32 := (extf .f32 · bitsLt_bf16_f32) main_arg1
  let main_v5 : FVec F S4x4096x1024 .f32 := Host.absf main_v4
  let main_cst_0 : FVec F S_ .f32 := constant S_ .f32 0x7F800000#32
  let main_v6 : FVec F S4x4096x1024 .f32 := broadcastInDim S4x4096x1024 ![] bcast_S_S4x4096x1024 main_cst_0
  let main_v7 : IVec S4x4096x1024 1 := cmpf .olt main_v5 main_v6
  let main_v8 : IVec S4x4096x1024 1 := andi main_v3 main_v7
  main_v8
-- ==== Kernel.lean ====
abbrev S4x4096x1024 : Shape := ⟨3, ![4, 4096, 1024]⟩
abbrev S4x8x16x128x256 : Shape := ⟨5, ![4, 8, 16, 128, 256]⟩
abbrev S4x16x1024 : Shape := ⟨3, ![4, 16, 1024]⟩
abbrev S1x256x128 : Shape := ⟨3, ![1, 256, 128]⟩
abbrev S1x4096x128 : Shape := ⟨3, ![1, 4096, 128]⟩
abbrev S1x1x16x128x256 : Shape := ⟨5, ![1, 1, 16, 128, 256]⟩
abbrev S1x16x128 : Shape := ⟨3, ![1, 16, 128]⟩
abbrev S16x256 : Shape := ⟨2, ![16, 256]⟩
abbrev S256x128 : Shape := ⟨2, ![256, 128]⟩
abbrev S128x256 : Shape := ⟨2, ![128, 256]⟩
abbrev S16x128 : Shape := ⟨2, ![16, 128]⟩
abbrev S1x256 : Shape := ⟨2, ![1, 256]⟩
abbrev S256x256 : Shape := ⟨2, ![256, 256]⟩
abbrev S256 : Shape := ⟨1, ![256]⟩
abbrev S1x1x1x128x256 : Shape := ⟨5, ![1, 1, 1, 128, 256]⟩

abbrev nBuf : Space → Nat
  | .hbm => 5
  | .vmem => 11
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x8x16x128x256, .bf16⟩
  | .hbm, ⟨3, _⟩ => ⟨S4x16x1024, .f32⟩
  | .hbm, ⟨4, _⟩ => ⟨S4x4096x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x16x128x256, .bf16⟩
  | .local _ .vmem, ⟨5, _⟩ => ⟨S1x1x16x128x256, .bf16⟩
  | .local _ .vmem, ⟨6, _⟩ => ⟨S1x16x128, .f32⟩
  | .local _ .vmem, ⟨7, _⟩ => ⟨S1x16x128, .f32⟩
  | .local _ .vmem, ⟨8, _⟩ => ⟨S1x256x128, .f32⟩
  | .local _ .vmem, ⟨9, _⟩ => ⟨S1x256x128, .f32⟩
  | .local _ .vmem, ⟨10, _⟩ => ⟨S16x256, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c256_i32 : BitVec 32 := 256#32
  let v316 : BitVec 32 := Scalar.muli arg2 c256_i32
  v316
def k0_off1 (i : grid0.Coords) : Fin 3 → Nat :=
  let c0_111 : Index := 0#32
  let arg2 : BitVec 32 := BitVec.ofNat 32 (i 2).val
  let c256_i32 : BitVec 32 := 256#32
  let v316 : BitVec 32 := Scalar.muli arg2 c256_i32
  let v317 : BitVec 32 := v316
  let v318 : Index := Scalar.indexCast v317
  let c0_112 : Index := 0#32
  ![0, v318.toNat, 0]
def k0_off2 (i : grid0.Coords) : Fin 5 → Nat :=
  let c0_118 : Index := 0#32
  let c0_119 : Index := 0#32
  let arg2 : BitVec 32 := BitVec.ofNat 32 (i 2).val
  let v336 : Index := Scalar.indexCast arg2
  let c0_120 : Index := 0#32
  let c0_121 : Index := 0#32
  ![0, 0, v336.toNat, 0, 0]
@[reducible] def k0_t1_loop (i : grid0.Coords) : Scf.Loop 32 :=
  let c0_i32_123 : BitVec 32 := 0#32
  let arg2 : BitVec 32 := BitVec.ofNat 32 (i 2).val
  let v341 : BitVec 32 := Scalar.subi arg2 c0_i32_123
  let c1_i32_124 : BitVec 32 := 1#32
  let v343 : BitVec 32 := Scalar.divsi v341 c1_i32_124
  let v344 : BitVec 32 := Scalar.muli v343 c1_i32_124
  let v345 : BitVec 32 := Scalar.addi c0_i32_123 v344
  let c1_i32_125 : BitVec 32 := 1#32
  ⟨c0_i32_123, v345, c1_i32_125⟩
def k0_mult2 (i : grid0.Coords) (k0_t1 : Fin (k0_t1_loop i).trips) : BitVec 32 :=
  let c0_i32_123 : BitVec 32 := 0#32
  let c1_i32_125 : BitVec 32 := 1#32
  let arg9 : BitVec 32 := Scf.iv c0_i32_123 c1_i32_125 k0_t1
  let c256_i32_130 : BitVec 32 := 256#32
  let v354 : BitVec 32 := Scalar.muli arg9 c256_i32_130
  v354
def k0_off3 (i : grid0.Coords) (k0_t1 : Fin (k0_t1_loop i).trips) : Fin 3 → Nat :=
  let c0_131 : Index := 0#32
  let c0_i32_123 : BitVec 32 := 0#32
  let c1_i32_125 : BitVec 32 := 1#32
  let arg9 : BitVec 32 := Scf.iv c0_i32_123 c1_i32_125 k0_t1
  let c256_i32_130 : BitVec 32 := 256#32
  let v354 : BitVec 32 := Scalar.muli arg9 c256_i32_130
  let v355 : BitVec 32 := v354
  let v356 : Index := Scalar.indexCast v355
  let c0_132 : Index := 0#32
  ![0, v356.toNat, 0]
def k0_off4 (i : grid0.Coords) (k0_t1 : Fin (k0_t1_loop i).trips) : Fin 2 → Nat :=
  let c0_i32_123 : BitVec 32 := 0#32
  let c1_i32_125 : BitVec 32 := 1#32
  let arg9 : BitVec 32 := Scf.iv c0_i32_123 c1_i32_125 k0_t1
  let v362 : Index := Scalar.indexCast arg9
  let c0_135 : Index := 0#32
  ![v362.toNat, 0]
def k0_off5 (i : grid0.Coords) (k0_t1 : Fin (k0_t1_loop i).trips) : Fin 5 → Nat :=
  let c0_138 : Index := 0#32
  let c0_139 : Index := 0#32
  let c0_i32_123 : BitVec 32 := 0#32
  let c1_i32_125 : BitVec 32 := 1#32
  let arg9 : BitVec 32 := Scf.iv c0_i32_123 c1_i32_125 k0_t1
  let v380 : Index := Scalar.indexCast arg9
  let c0_140 : Index := 0#32
  let c0_141 : Index := 0#32
  ![0, 0, v380.toNat, 0, 0]
@[reducible] def k0_t2_loop (i : grid0.Coords) : Scf.Loop 32 :=
  let c0_i32_123 : BitVec 32 := 0#32
  let arg2 : BitVec 32 := BitVec.ofNat 32 (i 2).val
  let v341 : BitVec 32 := Scalar.subi arg2 c0_i32_123
  let c1_i32_124 : BitVec 32 := 1#32
  let v343 : BitVec 32 := Scalar.divsi v341 c1_i32_124
  let v344 : BitVec 32 := Scalar.muli v343 c1_i32_124
  let v345 : BitVec 32 := Scalar.addi c0_i32_123 v344
  let v342 : BitVec 32 := Scalar.addi c0_i32_123 v341
  let c1_i32_126 : BitVec 32 := 1#32
  ⟨v345, v342, c1_i32_126⟩
def k0_mult3 (i : grid0.Coords) (k0_t2 : Fin (k0_t2_loop i).trips) : BitVec 32 :=
  let c0_i32_123 : BitVec 32 := 0#32
  let arg2 : BitVec 32 := BitVec.ofNat 32 (i 2).val
  let v341 : BitVec 32 := Scalar.subi arg2 c0_i32_123
  let c1_i32_124 : BitVec 32 := 1#32
  let v343 : BitVec 32 := Scalar.divsi v341 c1_i32_124
  let v344 : BitVec 32 := Scalar.muli v343 c1_i32_124
  let v345 : BitVec 32 := Scalar.addi c0_i32_123 v344
  let c1_i32_126 : BitVec 32 := 1#32
  let arg9 : BitVec 32 := Scf.iv v345 c1_i32_126 k0_t2
  let c256_i32_130 : BitVec 32 := 256#32
  let v354 : BitVec 32 := Scalar.muli arg9 c256_i32_130
  v354
def k0_off6 (i : grid0.Coords) (k0_t2 : Fin (k0_t2_loop i).trips) : Fin 3 → Nat :=
  let c0_131 : Index := 0#32
  let c0_i32_123 : BitVec 32 := 0#32
  let arg2 : BitVec 32 := BitVec.ofNat 32 (i 2).val
  let v341 : BitVec 32 := Scalar.subi arg2 c0_i32_123
  let c1_i32_124 : BitVec 32 := 1#32
  let v343 : BitVec 32 := Scalar.divsi v341 c1_i32_124
  let v344 : BitVec 32 := Scalar.muli v343 c1_i32_124
  let v345 : BitVec 32 := Scalar.addi c0_i32_123 v344
  let c1_i32_126 : BitVec 32 := 1#32
  let arg9 : BitVec 32 := Scf.iv v345 c1_i32_126 k0_t2
  let c256_i32_130 : BitVec 32 := 256#32
  let v354 : BitVec 32 := Scalar.muli arg9 c256_i32_130
  let v355 : BitVec 32 := v354
  let v356 : Index := Scalar.indexCast v355
  let c0_132 : Index := 0#32
  ![0, v356.toNat, 0]
def k0_off7 (i : grid0.Coords) (k0_t2 : Fin (k0_t2_loop i).trips) : Fin 2 → Nat :=
  let c0_i32_123 : BitVec 32 := 0#32
  let arg2 : BitVec 32 := BitVec.ofNat 32 (i 2).val
  let v341 : BitVec 32 := Scalar.subi arg2 c0_i32_123
  let c1_i32_124 : BitVec 32 := 1#32
  let v343 : BitVec 32 := Scalar.divsi v341 c1_i32_124
  let v344 : BitVec 32 := Scalar.muli v343 c1_i32_124
  let v345 : BitVec 32 := Scalar.addi c0_i32_123 v344
  let c1_i32_126 : BitVec 32 := 1#32
  let arg9 : BitVec 32 := Scf.iv v345 c1_i32_126 k0_t2
  let v362 : Index := Scalar.indexCast arg9
  let c0_135 : Index := 0#32
  ![v362.toNat, 0]
def k0_off8 (i : grid0.Coords) (k0_t2 : Fin (k0_t2_loop i).trips) : Fin 5 → Nat :=
  let c0_138 : Index := 0#32
  let c0_139 : Index := 0#32
  let c0_i32_123 : BitVec 32 := 0#32
  let arg2 : BitVec 32 := BitVec.ofNat 32 (i 2).val
  let v341 : BitVec 32 := Scalar.subi arg2 c0_i32_123
  let c1_i32_124 : BitVec 32 := 1#32
  let v343 : BitVec 32 := Scalar.divsi v341 c1_i32_124
  let v344 : BitVec 32 := Scalar.muli v343 c1_i32_124
  let v345 : BitVec 32 := Scalar.addi c0_i32_123 v344
  let c1_i32_126 : BitVec 32 := 1#32
  let arg9 : BitVec 32 := Scf.iv v345 c1_i32_126 k0_t2
  let v380 : Index := Scalar.indexCast arg9
  let c0_140 : Index := 0#32
  let c0_141 : Index := 0#32
  ![0, 0, v380.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4096x1024 : Shape := ⟨3, ![4, 4096, 1024]⟩
abbrev S4x8x16x128x256 : Shape := ⟨5, ![4, 8, 16, 128, 256]⟩
abbrev S4x16x1024 : Shape := ⟨3, ![4, 16, 1024]⟩
abbrev S4x4096x8x128 : Shape := ⟨4, ![4, 4096, 8, 128]⟩
abbrev S4x8x4096x128 : Shape := ⟨4, ![4, 8, 4096, 128]⟩
abbrev S4x16x256x8x128 : Shape := ⟨5, ![4, 16, 256, 8, 128]⟩
abbrev S4x8x16x256x128 : Shape := ⟨5, ![4, 8, 16, 256, 128]⟩
abbrev S4x16x8x128 : Shape := ⟨4, ![4, 16, 8, 128]⟩
abbrev S4x8x16x128 : Shape := ⟨4, ![4, 8, 16, 128]⟩
abbrev S4096 : Shape := ⟨1, ![4096]⟩
abbrev S_ : Shape := ⟨0, ![]⟩
abbrev S4x8x4096x16 : Shape := ⟨4, ![4, 8, 4096, 16]⟩
abbrev S16 : Shape := ⟨1, ![16]⟩
abbrev S1x1x1x16 : Shape := ⟨4, ![1, 1, 1, 16]⟩
abbrev S1x1x4096x1 : Shape := ⟨4, ![1, 1, 4096, 1]⟩
abbrev S1x1x4096x16 : Shape := ⟨4, ![1, 1, 4096, 16]⟩
abbrev S4x8x4096x3 : Shape := ⟨4, ![4, 8, 4096, 3]⟩
abbrev S3 : Shape := ⟨1, ![3]⟩
abbrev S1x1x1x3 : Shape := ⟨4, ![1, 1, 1, 3]⟩
abbrev S1x1x4096x3 : Shape := ⟨4, ![1, 1, 4096, 3]⟩
abbrev S4x8x4096x1 : Shape := ⟨4, ![4, 8, 4096, 1]⟩
abbrev S4x8x4096x4 : Shape := ⟨4, ![4, 8, 4096, 4]⟩
abbrev S4 : Shape := ⟨1, ![4]⟩
abbrev S4x1x1x1 : Shape := ⟨4, ![4, 1, 1, 1]⟩
abbrev S8 : Shape := ⟨1, ![8]⟩
abbrev S1x8x1x1 : Shape := ⟨4, ![1, 8, 1, 1]⟩
abbrev S4x8x4096x4x1 : Shape := ⟨5, ![4, 8, 4096, 4, 1]⟩
abbrev S4x8x4096x4x3 : Shape := ⟨5, ![4, 8, 4096, 4, 3]⟩
abbrev S4x8x4096x4x256x128 : Shape := ⟨6, ![4, 8, 4096, 4, 256, 128]⟩
abbrev S4x8x4096x4x256 : Shape := ⟨5, ![4, 8, 4096, 4, 256]⟩
abbrev S256 : Shape := ⟨1, ![256]⟩
abbrev S1x1x1x1x256 : Shape := ⟨5, ![1, 1, 1, 1, 256]⟩
abbrev S1x1x1x4x1 : Shape := ⟨5, ![1, 1, 1, 4, 1]⟩
abbrev S1x1x4096x4 : Shape := ⟨4, ![1, 1, 4096, 4]⟩
abbrev S1x1x4096x4x1 : Shape := ⟨5, ![1, 1, 4096, 4, 1]⟩
abbrev S1x1x4096x1x1 : Shape := ⟨5, ![1, 1, 4096, 1, 1]⟩
abbrev S4x8x4096x1024 : Shape := ⟨4, ![4, 8, 4096, 1024]⟩
abbrev S4x8x4096 : Shape := ⟨3, ![4, 8, 4096]⟩

abbrev nBuf : Space → Nat
  | .hbm => 167
  | .vmem => 0
  | .smem => 0
  | _ => 0

abbrev hbmTy0_0 (i : Nat) : BufTy := match i % 128 with
  | 0 => ⟨S4x4096x1024, .bf16⟩
  | 1 => ⟨S4x4096x1024, .bf16⟩
  | 2 => ⟨S4x8x16x128x256, .bf16⟩
  | 3 => ⟨S4x16x1024, .f32⟩
  | 4 => ⟨S4x4096x1024, .f32⟩
  | 5 => ⟨S4x4096x8x128, .f32⟩
  | 6 => ⟨S4x8x4096x128, .f32⟩
  | 7 => ⟨S4x4096x1024, .f32⟩
  | 8 => ⟨S4x16x256x8x128, .f32⟩
  | 9 => ⟨S4x8x16x256x128, .f32⟩
  | 10 => ⟨S4x8x16x128x256, .f32⟩
  | 11 => ⟨S4x8x16x256x128, .f32⟩
  | 12 => ⟨S4x16x8x128, .f32⟩
  | 13 => ⟨S4x8x16x128, .f32⟩
  | 14 => ⟨S4096, .i32⟩
  | 15 => ⟨S_, .i32⟩
  | 16 => ⟨S_, .i32⟩
  | 17 => ⟨S4096, .i32⟩
  | 18 => ⟨S4096, .i32⟩
  | 19 => ⟨S4096, .i32⟩
  | 20 => ⟨S_, .i32⟩
  | 21 => ⟨S4096, .i32⟩
  | 22 => ⟨S4096, .i1⟩
  | 23 => ⟨S4096, .i32⟩
  | 24 => ⟨S4096, .i32⟩
  | 25 => ⟨S_, .i32⟩
  | 26 => ⟨S4096, .i32⟩
  | 27 => ⟨S4096, .i1⟩
  | 28 => ⟨S4096, .i1⟩
  | 29 => ⟨S_, .i32⟩
  | 30 => ⟨S4096, .i32⟩
  | 31 => ⟨S4096, .i32⟩
  | 32 => ⟨S4096, .i32⟩
  | 33 => ⟨S4x8x4096x16, .f32⟩
  | 34 => ⟨S16, .i32⟩
  | 35 => ⟨S1x1x1x16, .i32⟩
  | 36 => ⟨S1x1x4096x1, .i32⟩
  | 37 => ⟨S1x1x4096x16, .i32⟩
  | 38 => ⟨S1x1x4096x16, .i32⟩
  | 39 => ⟨S1x1x4096x16, .i1⟩
  | 40 => ⟨S_, .f32⟩
  | 41 => ⟨S_, .f32⟩
  | 42 => ⟨S4x8x4096x16, .i1⟩
  | 43 => ⟨S4x8x4096x16, .f32⟩
  | 44 => ⟨S4x8x4096x16, .f32⟩
  | 45 => ⟨S4x8x4096x3, .f32⟩
  | 46 => ⟨S4x8x4096x3, .i32⟩
  | 47 => ⟨S3, .i32⟩
  | 48 => ⟨S1x1x1x3, .i32⟩
  | 49 => ⟨S1x1x4096x1, .i32⟩
  | 50 => ⟨S1x1x4096x3, .i32⟩
  | 51 => ⟨S1x1x4096x3, .i32⟩
  | 52 => ⟨S1x1x4096x3, .i1⟩
  | 53 => ⟨S1x1x4096x1, .i32⟩
  | 54 => ⟨S4x8x4096x1, .i32⟩
  | 55 => ⟨S4x8x4096x4, .i32⟩
  | 56 => ⟨S4, .i32⟩
  | 57 => ⟨S4x1x1x1, .i32⟩
  | 58 => ⟨S8, .i32⟩
  | 59 => ⟨S1x8x1x1, .i32⟩
  | 60 => ⟨S_, .i32⟩
  | 61 => ⟨S4x1x1x1, .i32⟩
  | 62 => ⟨S4x1x1x1, .i1⟩
  | 63 => ⟨S_, .i32⟩
  | 64 => ⟨S4x1x1x1, .i32⟩
  | 65 => ⟨S4x1x1x1, .i32⟩
  | 66 => ⟨S4x1x1x1, .i32⟩
  | 67 => ⟨S_, .i32⟩
  | 68 => ⟨S1x8x1x1, .i32⟩
  | 69 => ⟨S1x8x1x1, .i1⟩
  | 70 => ⟨S_, .i32⟩
  | 71 => ⟨S1x8x1x1, .i32⟩
  | 72 => ⟨S1x8x1x1, .i32⟩
  | 73 => ⟨S1x8x1x1, .i32⟩
  | 74 => ⟨S_, .i32⟩
  | 75 => ⟨S4x8x4096x4, .i32⟩
  | 76 => ⟨S4x8x4096x4, .i1⟩
  | 77 => ⟨S_, .i32⟩
  | 78 => ⟨S4x8x4096x4, .i32⟩
  | 79 => ⟨S4x8x4096x4, .i32⟩
  | 80 => ⟨S4x8x4096x4, .i32⟩
  | 81 => ⟨S4x8x4096x4, .i32⟩
  | 82 => ⟨S4x8x4096x4, .i32⟩
  | 83 => ⟨S4x8x4096x4x1, .i32⟩
  | 84 => ⟨S4x8x4096x4x1, .i32⟩
  | 85 => ⟨S4x8x4096x4x1, .i32⟩
  | 86 => ⟨S4x8x4096x4x3, .i32⟩
  | 87 => ⟨S4x8x4096x4x256x128, .f32⟩
  | 88 => ⟨S_, .i32⟩
  | 89 => ⟨S4x1x1x1, .i32⟩
  | 90 => ⟨S4x1x1x1, .i1⟩
  | 91 => ⟨S_, .i32⟩
  | 92 => ⟨S4x1x1x1, .i32⟩
  | 93 => ⟨S4x1x1x1, .i32⟩
  | 94 => ⟨S4x1x1x1, .i32⟩
  | 95 => ⟨S_, .i32⟩
  | 96 => ⟨S1x8x1x1, .i32⟩
  | 97 => ⟨S1x8x1x1, .i1⟩
  | 98 => ⟨S_, .i32⟩
  | 99 => ⟨S1x8x1x1, .i32⟩
  | 100 => ⟨S1x8x1x1, .i32⟩
  | 101 => ⟨S1x8x1x1, .i32⟩
  | 102 => ⟨S_, .i32⟩
  | 103 => ⟨S4x8x4096x4, .i32⟩
  | 104 => ⟨S4x8x4096x4, .i1⟩
  | 105 => ⟨S_, .i32⟩
  | 106 => ⟨S4x8x4096x4, .i32⟩
  | 107 => ⟨S4x8x4096x4, .i32⟩
  | 108 => ⟨S4x8x4096x4, .i32⟩
  | 109 => ⟨S4x8x4096x4, .i32⟩
  | 110 => ⟨S4x8x4096x4, .i32⟩
  | 111 => ⟨S4x8x4096x4x1, .i32⟩
  | 112 => ⟨S4x8x4096x4x1, .i32⟩
  | 113 => ⟨S4x8x4096x4x1, .i32⟩
  | 114 => ⟨S4x8x4096x4x3, .i32⟩
  | 115 => ⟨S4x8x4096x4x256x128, .f32⟩
  | 116 => ⟨S4x8x4096x4x256, .f32⟩
  | 117 => ⟨S_, .f32⟩
  | 118 => ⟨S4x8x4096x4x256, .f32⟩
  | 119 => ⟨S4x8x4096x4x256, .f32⟩
  | 120 => ⟨S4x8x4096x4x1, .i32⟩
  | 121 => ⟨S_, .i32⟩
  | 122 => ⟨S4x8x4096x4x1, .i32⟩
  | 123 => ⟨S4x8x4096x4x1, .i32⟩
  | 124 => ⟨S256, .i32⟩
  | 125 => ⟨S1x1x1x1x256, .i32⟩
  | 126 => ⟨S4x8x4096x4x256, .i32⟩
  | 127 => ⟨S4x8x4096x4x256, .i32⟩
  | _ => ⟨S4x4096x1024, .bf16⟩

abbrev hbmTy0_1 (i : Nat) : BufTy := match i % 128 with
  | 0 => ⟨S4x8x4096x4x256, .i32⟩
  | 1 => ⟨S4, .i32⟩
  | 2 => ⟨S_, .i32⟩
  | 3 => ⟨S4, .i32⟩
  | 4 => ⟨S4, .i1⟩
  | 5 => ⟨S1x1x1x4x1, .i1⟩
  | 6 => ⟨S_, .i1⟩
  | 7 => ⟨S1x1x4096x1, .i1⟩
  | 8 => ⟨S1x1x4096x4, .i1⟩
  | 9 => ⟨S1x1x4096x4x1, .i1⟩
  | 10 => ⟨S1x1x4096x1x1, .i32⟩
  | 11 => ⟨S4x8x4096x4x256, .i32⟩
  | 12 => ⟨S4x8x4096x4x256, .i1⟩
  | 13 => ⟨S4x8x4096x4x256, .i1⟩
  | 14 => ⟨S4x8x4096x4x256, .i1⟩
  | 15 => ⟨S4x8x4096x4x256, .i1⟩
  | 16 => ⟨S_, .f32⟩
  | 17 => ⟨S_, .f32⟩
  | 18 => ⟨S4x8x4096x4x256, .f32⟩
  | 19 => ⟨S4x8x4096x4x256, .f32⟩
  | 20 => ⟨S4x8x4096x1024, .f32⟩
  | 21 => ⟨S_, .f32⟩
  | 22 => ⟨S4x8x4096, .f32⟩
  | 23 => ⟨S_, .f32⟩
  | 24 => ⟨S4x8x4096, .f32⟩
  | 25 => ⟨S4x8x4096, .f32⟩
  | 26 => ⟨S4x8x4096x1, .f32⟩
  | 27 => ⟨S4x8x4096x1024, .f32⟩
  | 28 => ⟨S4x8x4096x1024, .f32⟩
  | 29 => ⟨S4x8x4096x1024, .f32⟩
  | 30 => ⟨S_, .f32⟩
  | 31 => ⟨S4x8x4096, .f32⟩
  | 32 => ⟨S4x8x4096x1, .f32⟩
  | 33 => ⟨S4x8x4096x1024, .f32⟩
  | 34 => ⟨S4x8x4096x1024, .f32⟩
  | 35 => ⟨S4x8x4096x4x256, .f32⟩
  | 36 => ⟨S4x8x4096x128, .f32⟩
  | 37 => ⟨S4x4096x8x128, .f32⟩
  | 38 => ⟨S4x4096x1024, .f32⟩
  | _ => ⟨S4x4096x1024, .bf16⟩

abbrev hbmTy (i : Nat) : BufTy := match i / 128 with
  | 0 => hbmTy0_0 i
  | 1 => hbmTy0_1 i
  | _ => ⟨S4x4096x1024, .bf16⟩

abbrev bufTy : (tb : Table) → Fin (tcTables nBuf tb) → BufTy
  | .hbm, ⟨i, _⟩ => hbmTy i
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_values : Ref sig .tc := ⟨.hbm, 45, rfl⟩
abbrev main_indices : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_0 : Ref sig .tc := ⟨.hbm, 60, rfl⟩
abbrev main_v33 : Ref sig .tc := ⟨.hbm, 61, rfl⟩
abbrev main_v34 : Ref sig .tc := ⟨.hbm, 62, rfl⟩
abbrev main_c_1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_2 : Ref sig .tc := ⟨.hbm, 67, rfl⟩
abbrev main_v38 : Ref sig .tc := ⟨.hbm, 68, rfl⟩
abbrev main_v39 : Ref sig .tc := ⟨.hbm, 69, rfl⟩
abbrev main_c_3 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_4 : Ref sig .tc := ⟨.hbm, 74, rfl⟩
abbrev main_v43 : Ref sig .tc := ⟨.hbm, 75, rfl⟩
abbrev main_v44 : Ref sig .tc := ⟨.hbm, 76, rfl⟩
abbrev main_c_5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_6 : Ref sig .tc := ⟨.hbm, 88, rfl⟩
abbrev main_v55 : Ref sig .tc := ⟨.hbm, 89, rfl⟩
abbrev main_v56 : Ref sig .tc := ⟨.hbm, 90, rfl⟩
abbrev main_c_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_8 : Ref sig .tc := ⟨.hbm, 95, rfl⟩
abbrev main_v60 : Ref sig .tc := ⟨.hbm, 96, rfl⟩
abbrev main_v61 : Ref sig .tc := ⟨.hbm, 97, rfl⟩
abbrev main_c_9 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_10 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_12 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_13 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_14 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_15 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call2_v0 : Ref sig .tc := ⟨.hbm, 141, rfl⟩
abbrev main_call2_v1 : Ref sig .tc := ⟨.hbm, 142, rfl⟩
abbrev main_v98 : Ref sig .tc := ⟨.hbm, 143, rfl⟩
abbrev main_cst_16 : Ref sig .tc := ⟨.hbm, 144, rfl⟩
abbrev main_call3_v0 : Ref sig .tc := ⟨.hbm, 145, rfl⟩
abbrev main_call3_v1 : Ref sig .tc := ⟨.hbm, 146, rfl⟩
abbrev main_v99 : Ref sig .tc := ⟨.hbm, 147, rfl⟩
abbrev main_v100 : Ref sig .tc := ⟨.hbm, 148, rfl⟩
abbrev main_cst_17 : Ref sig .tc := ⟨.hbm, 149, rfl⟩
abbrev main_v101 : Ref sig .tc := ⟨.hbm, 150, rfl⟩
abbrev main_cst_18 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_19 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]
-- ==== Query.lean ====
abbrev S4x4096x1024 : Shape := ⟨3, ![4, 4096, 1024]⟩
abbrev S4x1x3072 : Shape := ⟨3, ![4, 1, 3072]⟩
abbrev S1024 : Shape := ⟨1, ![1024]⟩
abbrev S1024x2048 : Shape := ⟨2, ![1024, 2048]⟩
abbrev S4096x64 : Shape := ⟨2, ![4096, 64]⟩
abbrev S4096x128 : Shape := ⟨2, ![4096, 128]⟩
abbrev S1x1024 : Shape := ⟨2, ![1, 1024]⟩
abbrev S1x512x1024 : Shape := ⟨3, ![1, 512, 1024]⟩
abbrev S1x1x3072 : Shape := ⟨3, ![1, 1, 3072]⟩
abbrev S512x128 : Shape := ⟨2, ![512, 128]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩
abbrev S1x512x128 : Shape := ⟨3, ![1, 512, 128]⟩

abbrev nBuf : Space → Nat
  | .hbm => 12
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1x3072, .f32⟩
  | .hbm, ⟨2, _⟩ => ⟨S1024, .f32⟩
  | .hbm, ⟨3, _⟩ => ⟨S1024x2048, .bf16⟩
  | .hbm, ⟨4, _⟩ => ⟨S4096x64, .f32⟩
  | .hbm, ⟨5, _⟩ => ⟨S4096x64, .f32⟩
  | .hbm, ⟨6, _⟩ => ⟨S4096x128, .f32⟩
  | .hbm, ⟨7, _⟩ => ⟨S4096x64, .f32⟩
  | .hbm, ⟨8, _⟩ => ⟨S4096x128, .f32⟩
  | .hbm, ⟨9, _⟩ => ⟨S1x1024, .f32⟩
  | .hbm, ⟨10, _⟩ => ⟨S4x4096x1024, .bf16⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QueryRefIdeal.lean ====
abbrev S4x4096x1024 : Shape := ⟨3, ![4, 4096, 1024]⟩
abbrev S4x1x3072 : Shape := ⟨3, ![4, 1, 3072]⟩
abbrev S1024 : Shape := ⟨1, ![1024]⟩
abbrev S1024x2048 : Shape := ⟨2, ![1024, 2048]⟩
abbrev S4096x64 : Shape := ⟨2, ![4096, 64]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x8x128 : Shape := ⟨4, ![4, 4096, 8, 128]⟩
abbrev S1x4096x1x64 : Shape := ⟨4, ![1, 4096, 1, 64]⟩
abbrev S4x4096x8x64 : Shape := ⟨4, ![4, 4096, 8, 64]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x3072, .f32⟩
  | .hbm, ⟨2, _⟩ => ⟨S1024, .f32⟩
  | .hbm, ⟨3, _⟩ => ⟨S1024x2048, .bf16⟩
  | .hbm, ⟨4, _⟩ => ⟨S4096x64, .f32⟩
  | .hbm, ⟨5, _⟩ => ⟨S4096x64, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .bf16⟩
  | .hbm, ⟨33, _⟩ => ⟨S4x4096x2048, .f32⟩
  | .hbm, ⟨34, _⟩ => ⟨S4x4096x1024, .f32⟩
  | .hbm, ⟨35, _⟩ => ⟨S4x4096x8x128, .f32⟩
  | .hbm, ⟨36, _⟩ => ⟨S1x4096x1x64, .f32⟩
  | .hbm, ⟨37, _⟩ => ⟨S1x4096x1x64, .f32⟩
  | .hbm, ⟨38, _⟩ => ⟨S4x4096x8x64, .f32⟩
  | .hbm, ⟨39, _⟩ => ⟨S4x4096x8x64, .f32⟩
  | .hbm, ⟨40, _⟩ => ⟨S4x4096x8x64, .f32⟩
  | .hbm, ⟨41, _⟩ => ⟨S4x4096x8x64, .f32⟩
  | .hbm, ⟨42, _⟩ => ⟨S4x4096x8x64, .f32⟩
  | .hbm, ⟨43, _⟩ => ⟨S4x4096x8x64, .f32⟩
  | .hbm, ⟨44, _⟩ => ⟨S4x4096x8x64, .f32⟩
  | .hbm, ⟨45, _⟩ => ⟨S4x4096x8x64, .f32⟩
  | .hbm, ⟨46, _⟩ => ⟨S4x4096x8x64, .f32⟩
  | .hbm, ⟨47, _⟩ => ⟨S4x4096x8x64, .f32⟩
  | .hbm, ⟨48, _⟩ => ⟨S4x4096x8x64, .f32⟩
  | .hbm, ⟨49, _⟩ => ⟨S4x4096x8x64, .f32⟩
  | .hbm, ⟨50, _⟩ => ⟨S4x4096x8x128, .f32⟩
  | .hbm, ⟨51, _⟩ => ⟨S4x4096x1024, .f32⟩
  | .hbm, ⟨52, _⟩ => ⟨S4x4096x1024, .bf16⟩
  | .hbm, ⟨53, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Output.lean ====
abbrev S4x4096x1024 : Shape := ⟨3, ![4, 4096, 1024]⟩
abbrev S4x1x3072 : Shape := ⟨3, ![4, 1, 3072]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S1x1x3072 : Shape := ⟨3, ![1, 1, 3072]⟩
abbrev S512x1024 : Shape := ⟨2, ![512, 1024]⟩
abbrev S1x1x1024 : Shape := ⟨3, ![1, 1, 1024]⟩
abbrev S1x512 : Shape := ⟨2, ![1, 512]⟩
abbrev S1x512x1 : Shape := ⟨3, ![1, 512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x1x3072, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024, .f32⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutputRefIdeal.lean ====
abbrev S4x4096x1024 : Shape := ⟨3, ![4, 4096, 1024]⟩
abbrev S4x1x3072 : Shape := ⟨3, ![4, 1, 3072]⟩
abbrev S1024 : Shape := ⟨1, ![1024]⟩
abbrev S1024x1024 : Shape := ⟨2, ![1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x1x3072, .f32⟩
  | .hbm, ⟨4, _⟩ => ⟨S1024, .f32⟩
  | .hbm, ⟨5, _⟩ => ⟨S1024x1024, .bf16⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .bf16⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== KeyValue.lean ====
abbrev S4x4096x1024 : Shape := ⟨3, ![4, 4096, 1024]⟩
abbrev S4x1x2048 : Shape := ⟨3, ![4, 1, 2048]⟩
abbrev S1024 : Shape := ⟨1, ![1024]⟩
abbrev S1024x2048 : Shape := ⟨2, ![1024, 2048]⟩
abbrev S4096x64 : Shape := ⟨2, ![4096, 64]⟩
abbrev S4096x128 : Shape := ⟨2, ![4096, 128]⟩
abbrev S1x1024 : Shape := ⟨2, ![1, 1024]⟩
abbrev S4x4096x8x128 : Shape := ⟨4, ![4, 4096, 8, 128]⟩
abbrev S4x8x16x128x256 : Shape := ⟨5, ![4, 8, 16, 128, 256]⟩
abbrev S4x8x2x1024 : Shape := ⟨4, ![4, 8, 2, 1024]⟩
abbrev S1x512x1024 : Shape := ⟨3, ![1, 512, 1024]⟩
abbrev S1x1x2048 : Shape := ⟨3, ![1, 1, 2048]⟩
abbrev S512x128 : Shape := ⟨2, ![512, 128]⟩
abbrev S1x512x8x128 : Shape := ⟨4, ![1, 512, 8, 128]⟩
abbrev S1x8x2x128x256 : Shape := ⟨5, ![1, 8, 2, 128, 256]⟩
abbrev S1x1x2x1024 : Shape := ⟨4, ![1, 1, 2, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩
abbrev S1x512x128 : Shape := ⟨3, ![1, 512, 128]⟩
abbrev S1x512x1x128 : Shape := ⟨4, ![1, 512, 1, 128]⟩
abbrev S2x256x128 : Shape := ⟨3, ![2, 256, 128]⟩
abbrev S2x128 : Shape := ⟨2, ![2, 128]⟩
abbrev S1x1x2x128 : Shape := ⟨4, ![1, 1, 2, 128]⟩
abbrev S256x128 : Shape := ⟨2, ![256, 128]⟩
abbrev S128x256 : Shape := ⟨2, ![128, 256]⟩
abbrev S1x1x1x128x256 : Shape := ⟨5, ![1, 1, 1, 128, 256]⟩

abbrev nBuf : Space → Nat
  | .hbm => 15
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x1x2048, .f32⟩
  | .hbm, ⟨2, _⟩ => ⟨S1024, .f32⟩
  | .hbm, ⟨3, _⟩ => ⟨S1024x2048, .bf16⟩
  | .hbm, ⟨4, _⟩ => ⟨S4096x64, .f32⟩
  | .hbm, ⟨5, _⟩ => ⟨S4096x64, .f32⟩
  | .hbm, ⟨6, _⟩ => ⟨S4096x128, .f32⟩
  | .hbm, ⟨7, _⟩ => ⟨S4096x64, .f32⟩
  | .hbm, ⟨8, _⟩ => ⟨S4096x128, .f32⟩
  | .hbm, ⟨9, _⟩ => ⟨S1x1024, .f32⟩
  | .hbm, ⟨10, _⟩ => ⟨S4x4096x8x128, .f32⟩
  | .hbm, ⟨11, _⟩ => ⟨S4x4096x8x128, .f32⟩
  | .hbm, ⟨12, _⟩ => ⟨S4x4096x1024, .bf16⟩
  | .hbm, ⟨13, _⟩ => ⟨S4x8x16x128x256, .bf16⟩
  | .hbm, ⟨14, _⟩ => ⟨S4x8x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1024, .f32⟩
  | .local _ .vmem, ⟨5, _⟩ => ⟨S1024x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x8x128, .f32⟩
  | .local _ .vmem, ⟨11, _⟩ => ⟨S1x512x8x128, .f32⟩
  | .local _ .vmem, ⟨12, _⟩ => ⟨S1x512x8x128, .f32⟩
  | .local _ .vmem, ⟨13, _⟩ => ⟨S1x512x8x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x8x2x128x256, .bf16⟩
  | .local _ .vmem, ⟨17, _⟩ => ⟨S1x8x2x128x256, .bf16⟩
  | .local _ .vmem, ⟨18, _⟩ => ⟨S1x1x2x1024, .f32⟩
  | .local _ .vmem, ⟨19, _⟩ => ⟨S1x1x2x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KeyValueRefIdeal.lean ====
abbrev S4x4096x1024 : Shape := ⟨3, ![4, 4096, 1024]⟩
abbrev S4x1x2048 : Shape := ⟨3, ![4, 1, 2048]⟩
abbrev S1024 : Shape := ⟨1, ![1024]⟩
abbrev S1024x2048 : Shape := ⟨2, ![1024, 2048]⟩
abbrev S4096x64 : Shape := ⟨2, ![4096, 64]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x8x128 : Shape := ⟨4, ![4, 4096, 8, 128]⟩
abbrev S1x4096x1x64 : Shape := ⟨4, ![1, 4096, 1, 64]⟩
abbrev S4x4096x8x64 : Shape := ⟨4, ![4, 4096, 8, 64]⟩
abbrev S4x16x256x8x128 : Shape := ⟨5, ![4, 16, 256, 8, 128]⟩
abbrev S4x8x16x256x128 : Shape := ⟨5, ![4, 8, 16, 256, 128]⟩
abbrev S4x8x16x128 : Shape := ⟨4, ![4, 8, 16, 128]⟩
abbrev S4x8x16x128x256 : Shape := ⟨5, ![4, 8, 16, 128, 256]⟩
abbrev S4x16x8x128 : Shape := ⟨4, ![4, 16, 8, 128]⟩
abbrev S4x8x2x1024 : Shape := ⟨4, ![4, 8, 2, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x2048, .f32⟩
  | .hbm, ⟨2, _⟩ => ⟨S1024, .f32⟩
  | .hbm, ⟨3, _⟩ => ⟨S1024x2048, .bf16⟩
  | .hbm, ⟨4, _⟩ => ⟨S4096x64, .f32⟩
  | .hbm, ⟨5, _⟩ => ⟨S4096x64, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .bf16⟩
  | .hbm, ⟨32, _⟩ => ⟨S4x4096x2048, .f32⟩
  | .hbm, ⟨33, _⟩ => ⟨S4x4096x1024, .f32⟩
  | .hbm, ⟨34, _⟩ => ⟨S4x4096x8x128, .f32⟩
  | .hbm, ⟨35, _⟩ => ⟨S1x4096x1x64, .f32⟩
  | .hbm, ⟨36, _⟩ => ⟨S1x4096x1x64, .f32⟩
  | .hbm, ⟨37, _⟩ => ⟨S4x4096x8x64, .f32⟩
  | .hbm, ⟨38, _⟩ => ⟨S4x4096x8x64, .f32⟩
  | .hbm, ⟨39, _⟩ => ⟨S4x4096x8x64, .f32⟩
  | .hbm, ⟨40, _⟩ => ⟨S4x4096x8x64, .f32⟩
  | .hbm, ⟨41, _⟩ => ⟨S4x4096x8x64, .f32⟩
  | .hbm, ⟨42, _⟩ => ⟨S4x4096x8x64, .f32⟩
  | .hbm, ⟨43, _⟩ => ⟨S4x4096x8x64, .f32⟩
  | .hbm, ⟨44, _⟩ => ⟨S4x4096x8x64, .f32⟩
  | .hbm, ⟨45, _⟩ => ⟨S4x4096x8x64, .f32⟩
  | .hbm, ⟨46, _⟩ => ⟨S4x4096x8x64, .f32⟩
  | .hbm, ⟨47, _⟩ => ⟨S4x4096x8x64, .f32⟩
  | .hbm, ⟨48, _⟩ => ⟨S4x4096x8x64, .f32⟩
  | .hbm, ⟨49, _⟩ => ⟨S4x4096x8x128, .f32⟩
  | .hbm, ⟨50, _⟩ => ⟨S4x4096x1024, .f32⟩
  | .hbm, ⟨51, _⟩ => ⟨S4x4096x8x128, .f32⟩
  | .hbm, ⟨52, _⟩ => ⟨S4x16x256x8x128, .f32⟩
  | .hbm, ⟨53, _⟩ => ⟨S4x8x16x256x128, .f32⟩
  | .hbm, ⟨54, _⟩ => ⟨S4x16x256x8x128, .f32⟩
  | .hbm, ⟨55, _⟩ => ⟨S4x8x16x256x128, .f32⟩
  | .hbm, ⟨56, _⟩ => ⟨S_, .f32⟩
  | .hbm, ⟨57, _⟩ => ⟨S4x8x16x128, .f32⟩
  | .hbm, ⟨58, _⟩ => ⟨S_, .f32⟩
  | .hbm, ⟨59, _⟩ => ⟨S4x8x16x128, .f32⟩
  | .hbm, ⟨60, _⟩ => ⟨S4x8x16x128, .f32⟩
  | .hbm, ⟨61, _⟩ => ⟨S4x4096x1024, .f32⟩
  | .hbm, ⟨62, _⟩ => ⟨S4x4096x1024, .bf16⟩
  | .hbm, ⟨63, _⟩ => ⟨S4x8x16x128x256, .f32⟩
  | .hbm, ⟨64, _⟩ => ⟨S4x8x16x128x256, .bf16⟩
  | .hbm, ⟨65, _⟩ => ⟨S4x16x8x128, .f32⟩
  | .hbm, ⟨66, _⟩ => ⟨S4x8x2x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Pool.lean ====
abbrev S4x4096x1024 : Shape := ⟨3, ![4, 4096, 1024]⟩
abbrev S4x1x3072 : Shape := ⟨3, ![4, 1, 3072]⟩
abbrev S4x15x1024 : Shape := ⟨3, ![4, 15, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S1x1024 : Shape := ⟨2, ![1, 1024]⟩
abbrev S1x512x1024 : Shape := ⟨3, ![1, 512, 1024]⟩
abbrev S1x1x3072 : Shape := ⟨3, ![1, 1, 3072]⟩
abbrev S1x15x1024 : Shape := ⟨3, ![1, 15, 1024]⟩
abbrev S1x528x1024 : Shape := ⟨3, ![1, 528, 1024]⟩
abbrev S1x16x1024 : Shape := ⟨3, ![1, 16, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 14
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x1x3072, .f32⟩
  | .hbm, ⟨2, _⟩ => ⟨S4x15x1024, .f32⟩
  | .hbm, ⟨3, _⟩ => ⟨S1024, .f32⟩
  | .hbm, ⟨4, _⟩ => ⟨S1024, .f32⟩
  | .hbm, ⟨5, _⟩ => ⟨S1024x2048, .bf16⟩
  | .hbm, ⟨6, _⟩ => ⟨S4x256x256, .bf16⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x4096x1024, .f32⟩
  | .hbm, ⟨13, _⟩ => ⟨S4x15x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x15x1024, .f32⟩
  | .local _ .vmem, ⟨5, _⟩ => ⟨S1x15x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S4x256x256, .bf16⟩
  | .local _ .vmem, ⟨10, _⟩ => ⟨S1x1024, .f32⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x15x1024, .f32⟩
  | .local _ .vmem, ⟨15, _⟩ => ⟨S1x15x1024, .f32⟩
  | .local _ .vmem, ⟨16, _⟩ => ⟨S1x528x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v196 : BitVec 1 := Scalar.cmpi .eq arg1 c7_i32
  let v197 : BitVec 32 := Scalar.extui v196
  let c0_i32_138 : BitVec 32 := 0#32
  let v198 : BitVec 1 := Scalar.cmpi .ne v197 c0_i32_138
  v198

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x15x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x15x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== PoolRefIdeal.lean ====
abbrev S4x4096x1024 : Shape := ⟨3, ![4, 4096, 1024]⟩
abbrev S4x1x3072 : Shape := ⟨3, ![4, 1, 3072]⟩
abbrev S4x15x1024 : Shape := ⟨3, ![4, 15, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4111x1024 : Shape := ⟨3, ![4, 4111, 1024]⟩
abbrev S4x4112x1024 : Shape := ⟨3, ![4, 4112, 1024]⟩
abbrev S4096 : Shape := ⟨1, ![4096]⟩
abbrev S4x4096x256 : Shape := ⟨3, ![4, 4096, 256]⟩
abbrev S1x4096x1 : Shape := ⟨3, ![1, 4096, 1]⟩
abbrev S1x256x256 : Shape := ⟨3, ![1, 256, 256]⟩
abbrev S256x256 : Shape := ⟨2, ![256, 256]⟩

abbrev nBuf : Space → Nat
  | .hbm => 164
  | .vmem => 0
  | .smem => 0
  | _ => 0

abbrev hbmTy0_0 (i : Nat) : BufTy := match i % 128 with
  | 0 => ⟨S4x4096x1024, .f32⟩
  | 1 => ⟨S4x1x3072, .f32⟩
  | 2 => ⟨S4x15x1024, .f32⟩
  | 3 => ⟨S1024, .f32⟩
  | 4 => ⟨S1024, .f32⟩
  | 5 => ⟨S1024x2048, .bf16⟩
  | 6 => ⟨S4x256x256, .bf16⟩
  | 7 => ⟨S1024, .f32⟩
  | 8 => ⟨S1024x1024, .bf16⟩
  | 9 => ⟨S4x1x1024, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S4x4096x1024, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S_, .f32⟩
  | 23 => ⟨S4x4096x1, .f32⟩
  | 24 => ⟨S4x4096x1, .f32⟩
  | 25 => ⟨S4x4096x1, .f32⟩
  | 26 => ⟨S4x4096x1024, .f32⟩
  | 27 => ⟨S4x4096x1024, .f32⟩
  | 28 => ⟨S1x1x1024, .f32⟩
  | 29 => ⟨S4x4096x1024, .f32⟩
  | 30 => ⟨S4x4096x1024, .f32⟩
  | 31 => ⟨S_, .f32⟩
  | 32 => ⟨S4x1x1024, .f32⟩
  | 33 => ⟨S4x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S4x4096x1024, .bf16⟩
  | 39 => ⟨S4x4096x2048, .f32⟩
  | 40 => ⟨S4x4096x1024, .f32⟩
  | 41 => ⟨S4x4111x1024, .f32⟩
  | 42 => ⟨S_, .f32⟩
  | 43 => ⟨S_, .f32⟩
  | 44 => ⟨S4x4111x1024, .f32⟩
  | 45 => ⟨S4x1x1024, .f32⟩
  | 46 => ⟨S_, .f32⟩
  | 47 => ⟨S4x1x1024, .f32⟩
  | 48 => ⟨S4x4112x1024, .f32⟩
  | 49 => ⟨S4096, .i32⟩
  | 50 => ⟨S4x4096x1024, .f32⟩
  | 51 => ⟨S4x4096x256, .f32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .f32⟩
  | 59 => ⟨S1x4096x1, .f32⟩
  | 60 => ⟨S4x4096x256, .f32⟩
  | 61 => ⟨S4x4096x256, .f32⟩
  | 62 => ⟨S4x4096x256, .f32⟩
  | 63 => ⟨S4x4096x256, .f32⟩
  | 64 => ⟨S4x4096x256, .f32⟩
  | 65 => ⟨S4x4096x256, .f32⟩
  | 66 => ⟨S4x4096x256, .bf16⟩
  | 67 => ⟨S1x256x256, .bf16⟩
  | 68 => ⟨S256x256, .bf16⟩
  | 69 => ⟨S4x4096x256, .f32⟩
  | 70 => ⟨S4x4096x256, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S1x4096x1, .f32⟩
  | 79 => ⟨S4x4096x256, .f32⟩
  | 80 => ⟨S4x4096x256, .f32⟩
  | 81 => ⟨S4x4096x256, .f32⟩
  | 82 => ⟨S4x4096x256, .f32⟩
  | 83 => ⟨S4x4096x256, .f32⟩
  | 84 => ⟨S4x4096x256, .f32⟩
  | 85 => ⟨S4x4096x256, .bf16⟩
  | 86 => ⟨S1x256x256, .bf16⟩
  | 87 => ⟨S256x256, .bf16⟩
  | 88 => ⟨S4x4096x256, .f32⟩
  | 89 => ⟨S4x4096x256, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S1x4096x1, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S4x4096x256, .f32⟩
  | 104 => ⟨S4x4096x256, .bf16⟩
  | 105 => ⟨S1x256x256, .bf16⟩
  | 106 => ⟨S256x256, .bf16⟩
  | 107 => ⟨S4x4096x256, .f32⟩
  | 108 => ⟨S4x4096x256, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .f32⟩
  | 116 => ⟨S1x4096x1, .f32⟩
  | 117 => ⟨S4x4096x256, .f32⟩
  | 118 => ⟨S4x4096x256, .f32⟩
  | 119 => ⟨S4x4096x256, .f32⟩
  | 120 => ⟨S4x4096x256, .f32⟩
  | 121 => ⟨S4x4096x256, .f32⟩
  | 122 => ⟨S4x4096x256, .f32⟩
  | 123 => ⟨S4x4096x256, .bf16⟩
  | 124 => ⟨S1x256x256, .bf16⟩
  | 125 => ⟨S256x256, .bf16⟩
  | 126 => ⟨S4x4096x256, .f32⟩
  | 127 => ⟨S4x4096x1024, .f32⟩
  | _ => ⟨S4x4096x1024, .f32⟩

abbrev hbmTy0_1 (i : Nat) : BufTy := match i % 128 with
  | 0 => ⟨S1x1x1024, .f32⟩
  | 1 => ⟨S4x4096x1024, .f32⟩
  | 2 => ⟨S4x4096x1024, .f32⟩
  | 3 => ⟨S4x4096x1024, .f32⟩
  | 4 => ⟨S4x4096x1024, .f32⟩
  | 5 => ⟨S4x4096x1024, .f32⟩
  | 6 => ⟨S_, .f32⟩
  | 7 => ⟨S4x4096x1024, .f32⟩
  | 8 => ⟨S4x4096x1024, .f32⟩
  | 9 => ⟨S_, .f32⟩
  | 10 => ⟨S4x4096x1024, .f32⟩
  | 11 => ⟨S4x4096x1024, .f32⟩
  | 12 => ⟨S4x4096x1024, .f32⟩
  | 13 => ⟨S4x4096x1024, .f32⟩
  | 14 => ⟨S4x4096x1024, .bf16⟩
  | 15 => ⟨S4x4096x1024, .f32⟩
  | 16 => ⟨S4x4096x1024, .f32⟩
  | 17 => ⟨S_, .f32⟩
  | 18 => ⟨S4x4096, .f32⟩
  | 19 => ⟨S4x4096x1, .f32⟩
  | 20 => ⟨S_, .f32⟩
  | 21 => ⟨S4x4096x1, .f32⟩
  | 22 => ⟨S4x4096x1, .f32⟩
  | 23 => ⟨S_, .f32⟩
  | 24 => ⟨S4x4096x1, .f32⟩
  | 25 => ⟨S4x4096x1, .f32⟩
  | 26 => ⟨S4x4096x1, .f32⟩
  | 27 => ⟨S4x4096x1024, .f32⟩
  | 28 => ⟨S4x4096x1024, .f32⟩
  | 29 => ⟨S1x1x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x15x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_call0_cst : Ref sig .tc := ⟨.hbm, 42, rfl⟩
abbrev main_call0_call0_v0 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_5 : Ref sig .tc := ⟨.hbm, 71, rfl⟩
abbrev main_v53 : Ref sig .tc := ⟨.hbm, 72, rfl⟩
abbrev main_v54 : Ref sig .tc := ⟨.hbm, 73, rfl⟩
abbrev main_c_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_7 : Ref sig .tc := ⟨.hbm, 90, rfl⟩
abbrev main_v70 : Ref sig .tc := ⟨.hbm, 91, rfl⟩
abbrev main_v71 : Ref sig .tc := ⟨.hbm, 92, rfl⟩
abbrev main_c_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_9 : Ref sig .tc := ⟨.hbm, 109, rfl⟩
abbrev main_v87 : Ref sig .tc := ⟨.hbm, 110, rfl⟩
abbrev main_v88 : Ref sig .tc := ⟨.hbm, 111, rfl⟩
abbrev main_c_10 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_11 : Ref sig .tc := ⟨.hbm, 145, rfl⟩
abbrev main_v113 : Ref sig .tc := ⟨.hbm, 146, rfl⟩
abbrev main_v114 : Ref sig .tc := ⟨.hbm, 147, rfl⟩
abbrev main_cst_12 : Ref sig .tc := ⟨.hbm, 148, rfl⟩
abbrev main_v115 : Ref sig .tc := ⟨.hbm, 149, rfl⟩
abbrev main_v116 : Ref sig .tc := ⟨.hbm, 150, rfl⟩
abbrev main_cst_13 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩

abbrev nD : Nat := 1
abbrev τ : Topo := Topo.v7x

variable {F : FTy → Type} [FloatOps F]
-- ==== Proof.Attn.Block.lean ====
module

public import proofs.«01_k».proof.Proof.Gen.KernelIdeal.Value
public import Idealize.ShloMosaic.Lib.Pointwise
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

theorem z3 : (![0, 0, 0] : Fin 3 → Nat) = fun _ => 0 := funext fun a => by fin_cases a <;> rfl
theorem z2 : (![0, 0] : Fin 2 → Nat) = fun _ => 0 := funext fun a => by fin_cases a <;> rfl

/-- Row numbers of a 16 × 256 block. -/
abbrev rowIota : IVec S16x256 32 := iota .tc S16x256 32 [0] iota_S16x256_d0_w32

/-- The additive selection mask, from the gate scores. -/
def biasOf (i : grid0.Coords) (x0 : Vec F S1x256x128 .bf16) (x3 : Vec F S1x16x128 .f32) : FVec F S16x256 .f32 :=
  let a : BitVec 32 := BitVec.ofNat 32 (i 2).val
  let g := k0_pay16 x0 x3
  let r2 := k0_pay22 a g rowIota (k0_pay17 i x0 x3) (k0_pay19 x0 x3) (k0_pay20 x0 x3) k0_pay21
  let r3 := k0_pay25 a g rowIota r2 (k0_pay23 g rowIota) (Scalar.cmpi .sgt a 3#32) k0_pay24
  let r4 := k0_pay30 a g rowIota r3 (k0_pay27 g) (k0_pay28 g) (k0_pay29 rowIota)
  let r5 := k0_pay35 a g rowIota r4 (k0_pay32 g) (k0_pay33 g rowIota) k0_pay34
  let r6 := k0_pay38 a g rowIota r5 (k0_pay36 g) (k0_pay37 g)
  let r7 := k0_pay43 a g rowIota r6 (k0_pay40 g) (k0_pay41 g) (k0_pay42 rowIota)
  k0_pay46 a rowIota r7 (k0_pay44 g rowIota) (Scalar.cmpi .sgt a 15#32) k0_pay45

theorem out_eq (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S1x16x128 .f32) (harg6 : arg6.IsWhole) (arg7 : Memref sig .tc .vmem S1x256x128 .f32) (harg7 : arg7.IsWhole) (arg8 : Memref sig .tc .vmem S16x256 .f32) (harg8 : arg8.IsWhole)
    (x0 : Vec F S1x256x128 .bf16) (x1 : Vec F S1x4096x128 .bf16) (x2 : Vec F S1x1x16x128x256 .bf16) (x3 : Vec F S1x16x128 .f32) :
    ∃ v8 : BufTy.Contents (Elt F) arg8.view.ty, arg8.view.read (Elt F) v8 = biasOf i x0 x3 ∧
    out0_A_4 c i arg3 harg3 arg4 harg4 arg5 harg5 arg6 harg6 arg7 harg7 arg8 harg8 x0 x1 x2 x3 =
      let k0 := View.ld x1 (Rect.unit (s := S1x4096x128) (k0_off1 i) S1x256x128.size (k0_off1_inb i))
      let v0 := View.ld x2 (Rect.unit (s := S1x1x16x128x256) (k0_off2 i) S1x1x1x128x256.size (k0_off2_inb i))
      let q := k0_pay15 x0
      let s1 := st_k0_t1 Variants.none c none i arg3 harg3 arg4 harg4 arg5 harg5 arg6 harg6 arg7 harg7 arg8 harg8 q (harg4.unread x1) (harg5.unread x2) v8
        (k0_pay48 q k0, k0_pay50 q k0, k0_pay1 (k0_pay49 q k0) v0) (k0_t1_loop i).trips
      let s2 := st_k0_t2 Variants.none c none i arg3 harg3 arg4 harg4 arg5 harg5 arg6 harg6 arg7 harg7 arg8 harg8 q (harg4.unread x1) (harg5.unread x2) v8 s1 (k0_t2_loop i).trips
      k0_pay14 s2.2.1 s2.2.2 := by
  refine ⟨arg8.view.writes (Elt F) arg8.view.junk [⟨Rect.unit ![0, 0] S16x256.size inb_S16x256_S16x256_0_0, biasOf i x0 x3⟩], ?_, ?_⟩
  rotate_left
  · unfold out0_A_4
    rw [View.read_writes_eq_canon _ _ _ (cover0_A_4 c i arg3 harg3 arg4 harg4 arg5 harg5 arg6 harg6 arg7 harg7 arg8 harg8 x0 x1 x2 x3)]
    unfold kernelRun0_A
    dsimp only
    rw [View.canon_unit_zero z3]
    sl_unfold_words
    simp only [View.readAt_eq_ld, harg3.read_unread, harg4.read_unread, harg5.read_unread, harg6.read_unread, View.ld_unit_zero (S := S1x256x128) z3, View.ld_unit_zero (S := S1x16x128) z3]
    rfl
  · rw [View.read_writes_eq_canon _ _ _ (View.cover_of_tiledL _ S16x256.size (by sl_kernel_rfl))]
    rw [View.canon_unit_zero z2]

theorem trip1 (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S1x16x128 .f32) (harg6 : arg6.IsWhole) (arg7 : Memref sig .tc .vmem S1x256x128 .f32) (harg7 : arg7.IsWhole) (arg8 : Memref sig .tc .vmem S16x256 .f32) (harg8 : arg8.IsWhole)
   (q : FVec F S128x256 .bf16) (y4 : BufTy.Contents (Elt F) arg4.view.ty)  (y5 : BufTy.Contents (Elt F) arg5.view.ty)  (y8 : BufTy.Contents (Elt F) arg8.view.ty) (k : Fin (k0_t1_loop i).trips) (acc) :
   tripR_k0_t1 Variants.none c none i arg3 harg3 arg4 harg4 arg5 harg5 arg6 harg6 arg7 harg7 arg8 harg8 q y4 y5 y8 k acc =
     let kb := View.ld (arg4.view.read (Elt F) y4) (Rect.unit (s := S1x4096x128) (k0_off3 i k) S1x256x128.size (k0_off3_inb i k))
     let br := View.ld (arg8.view.read (Elt F) y8) (Rect.unit (s := S16x256) (k0_off4 i k) S1x256.size (k0_off4_inb i k))
     let vb := View.ld (arg5.view.read (Elt F) y5) (Rect.unit (s := S1x1x16x128x256) (k0_off5 i k) S1x1x1x128x256.size (k0_off5_inb i k))
     (k0_pay3 q acc.1 kb br, k0_pay6 q acc.1 acc.2.1 kb br, k0_pay7 q acc.1 acc.2.2 kb br vb) := by
  unfold tripR_k0_t1 trip_k0_t1
  rfl

/-! ## The carried values as a recursion over the key blocks -/

theorem trips1 (i : grid0.Coords) : (k0_t1_loop i).trips = (i 2).val := by
  have h : ∀ a : Fin 16, Scf.trips 0#32 (Scalar.addi 0#32 (Scalar.muli (Scalar.divsi (Scalar.subi (BitVec.ofNat 32 a.val) 0#32) 1#32) 1#32)) 1#32 = a.val := by
    decide +kernel
  exact h (i 2)

theorem trips2 (i : grid0.Coords) : (k0_t2_loop i).trips = 0 := by
  have h : ∀ a : Fin 16, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by
    decide +kernel
  exact h (i 2)

theorem word256 : ∀ a : Fin 16, (Scalar.indexCast (Scalar.muli (BitVec.ofNat 32 a.val) 256#32)).toNat = 256 * a.val := by
  decide +kernel
theorem word1 : ∀ a : Fin 16, (Scalar.indexCast (BitVec.ofNat 32 a.val)).toNat = a.val := by
  decide +kernel
theorem trip256 : ∀ a : Fin 16, (Scalar.indexCast (Scalar.muli (Scf.iv 0#32 1#32 a.val) 256#32)).toNat = 256 * a.val := by
  decide +kernel
theorem tripw1 : ∀ a : Fin 16, (Scalar.indexCast (Scf.iv 0#32 1#32 a.val)).toNat = a.val := by
  decide +kernel

/-- Block `n` of the keys. -/
def keyBlock (x1 : Vec F S1x4096x128 .bf16) (n : ℕ) : Vec F S1x256x128 .bf16 :=
  fun j => x1 (ix3 0 ⟨(256 * n + (j 1).val) % 4096, Nat.mod_lt _ (by decide)⟩ (j 2))

/-- Block `n` of the transposed values. -/
def valBlock (x2 : Vec F S1x1x16x128x256 .bf16) (n : ℕ) : Vec F S1x1x1x128x256 .bf16 :=
  fun j => x2 (ix5 0 0 ⟨n % 16, Nat.mod_lt _ (by decide)⟩ (j 3) (j 4))

/-- Row `n` of the selection mask. -/
def maskRow (b : FVec F S16x256 .f32) (n : ℕ) : Vec F S1x256 .f32 :=
  fun j => b (ix2 ⟨n % 16, Nat.mod_lt _ (by decide)⟩ (j 1))

theorem ld_key (x1 : Vec F S1x4096x128 .bf16) (off : Fin 3 → Nat) (inb) (n : ℕ) (hn : n < 16) (h : off 1 = 256 * n) (h0 : off 0 = 0) (h2 : off 2 = 0) :
    View.ld x1 (Rect.unit (s := S1x4096x128) off S1x256x128.size inb) = keyBlock x1 n := by
  rw [View.ld_unit]
  funext j
  unfold extractStridedSlice keyBlock
  congr 1
  funext a
  apply Fin.ext
  have hj : (j 1).val < 256 := (j 1).isLt
  have hj0 : (j 0).val < 1 := (j 0).isLt
  match a with
  | ⟨0, _⟩ => show off 0 + (j 0).val = 0; omega
  | ⟨1, _⟩ => show off 1 + (j 1).val = (256 * n + (j 1).val) % 4096; omega
  | ⟨2, _⟩ => show off 2 + (j 2).val = (j 2).val; omega

theorem ld_val (x2 : Vec F S1x1x16x128x256 .bf16) (off : Fin 5 → Nat) (inb) (n : ℕ) (hn : n < 16) (h : off 2 = n) (h0 : off 0 = 0) (h1 : off 1 = 0) (h3 : off 3 = 0) (h4 : off 4 = 0) :
    View.ld x2 (Rect.unit (s := S1x1x16x128x256) off S1x1x1x128x256.size inb) = valBlock x2 n := by
  rw [View.ld_unit]
  funext j
  unfold extractStridedSlice valBlock
  congr 1
  funext a
  apply Fin.ext
  have hj0 : (j 0).val < 1 := (j 0).isLt
  have hj1 : (j 1).val < 1 := (j 1).isLt
  have hj2 : (j 2).val < 1 := (j 2).isLt
  match a with
  | ⟨0, _⟩ => show off 0 + (j 0).val = 0; omega
  | ⟨1, _⟩ => show off 1 + (j 1).val = 0; omega
  | ⟨2, _⟩ => show off 2 + (j 2).val = n % 16; omega
  | ⟨3, _⟩ => show off 3 + (j 3).val = (j 3).val; omega
  | ⟨4, _⟩ => show off 4 + (j 4).val = (j 4).val; omega

theorem ld_mask (b : FVec F S16x256 .f32) (off : Fin 2 → Nat) (inb) (n : ℕ) (hn : n < 16) (h : off 0 = n) (h1 : off 1 = 0) :
    View.ld b (Rect.unit (s := S16x256) off S1x256.size inb) = maskRow b n := by
  rw [View.ld_unit]
  funext j
  unfold extractStridedSlice maskRow
  congr 1
  funext a
  apply Fin.ext
  have hj0 : (j 0).val < 1 := (j 0).isLt
  match a with
  | ⟨0, _⟩ => show off 0 + (j 0).val = n % 16; omega
  | ⟨1, _⟩ => show off 1 + (j 1).val = (j 1).val; omega

/-- The running maximum, sum and accumulator after the query's own block and `n` past blocks. -/
def carry (i : grid0.Coords) (x0 : Vec F S1x256x128 .bf16) (x1 : Vec F S1x4096x128 .bf16) (x2 : Vec F S1x1x16x128x256 .bf16)
    (x3 : Vec F S1x16x128 .f32) : ℕ → FVec F S1x256 .f32 × FVec F S1x256 .f32 × FVec F S128x256 .f32
  | 0 => (k0_pay48 (k0_pay15 x0) (keyBlock x1 (i 2).val), k0_pay50 (k0_pay15 x0) (keyBlock x1 (i 2).val),
      k0_pay1 (k0_pay49 (k0_pay15 x0) (keyBlock x1 (i 2).val)) (valBlock x2 (i 2).val))
  | n + 1 => (k0_pay3 (k0_pay15 x0) (carry i x0 x1 x2 x3 n).1 (keyBlock x1 n) (maskRow (biasOf i x0 x3) n),
      k0_pay6 (k0_pay15 x0) (carry i x0 x1 x2 x3 n).1 (carry i x0 x1 x2 x3 n).2.1 (keyBlock x1 n) (maskRow (biasOf i x0 x3) n),
      k0_pay7 (k0_pay15 x0) (carry i x0 x1 x2 x3 n).1 (carry i x0 x1 x2 x3 n).2.2 (keyBlock x1 n) (maskRow (biasOf i x0 x3) n) (valBlock x2 n))

theorem out_carry (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S1x16x128 .f32) (harg6 : arg6.IsWhole) (arg7 : Memref sig .tc .vmem S1x256x128 .f32) (harg7 : arg7.IsWhole) (arg8 : Memref sig .tc .vmem S16x256 .f32) (harg8 : arg8.IsWhole)
    (x0 : Vec F S1x256x128 .bf16) (x1 : Vec F S1x4096x128 .bf16) (x2 : Vec F S1x1x16x128x256 .bf16) (x3 : Vec F S1x16x128 .f32) :
    out0_A_4 c i arg3 harg3 arg4 harg4 arg5 harg5 arg6 harg6 arg7 harg7 arg8 harg8 x0 x1 x2 x3
      = k0_pay14 (carry i x0 x1 x2 x3 (i 2).val).2.1 (carry i x0 x1 x2 x3 (i 2).val).2.2 := by
  have hi : (i 2).val < 16 := (i 2).isLt
  obtain ⟨v8, hv8, h⟩ := out_eq c i arg3 harg3 arg4 harg4 arg5 harg5 arg6 harg6 arg7 harg7 arg8 harg8 x0 x1 x2 x3
  rw [h]
  dsimp only
  have hst : ∀ n, n ≤ (i 2).val →
      st_k0_t1 Variants.none c none i arg3 harg3 arg4 harg4 arg5 harg5 arg6 harg6 arg7 harg7 arg8 harg8 (k0_pay15 x0) (harg4.unread x1) (harg5.unread x2) v8
        (carry i x0 x1 x2 x3 0) n = carry i x0 x1 x2 x3 n := by
    intro n
    induction n with
    | zero => intro _; exact st_k0_t1_zero ..
    | succ n ih =>
      intro hn
      have hs := st_k0_t1_succ Variants.none c none i arg3 harg3 arg4 harg4 arg5 harg5 arg6 harg6 arg7 harg7 arg8 harg8 (k0_pay15 x0) (harg4.unread x1) (harg5.unread x2) v8
        (carry i x0 x1 x2 x3 0) ⟨n, by rw [trips1]; omega⟩
      dsimp only at hs
      rw [hs, ih (by omega), trip1, hv8, harg4.read_unread, harg5.read_unread]
      dsimp only
      rw [ld_key x1 _ _ n (by omega) (trip256 ⟨n, by omega⟩) rfl rfl, ld_val x2 _ _ n (by omega) (tripw1 ⟨n, by omega⟩) rfl rfl rfl rfl,
        ld_mask _ _ _ n (by omega) (tripw1 ⟨n, by omega⟩) rfl]
      rfl
  rw [ld_key x1 _ _ (i 2).val hi (word256 (i 2)) rfl rfl, ld_val x2 _ _ (i 2).val hi (word1 (i 2)) rfl rfl rfl rfl, trips1, trips2]
  rw [show (k0_pay48 (k0_pay15 x0) (keyBlock x1 (i 2).val), k0_pay50 (k0_pay15 x0) (keyBlock x1 (i 2).val),
      k0_pay1 (k0_pay49 (k0_pay15 x0) (keyBlock x1 (i 2).val)) (valBlock x2 (i 2).val)) = carry i x0 x1 x2 x3 0 from rfl, hst _ le_rfl]
  rfl

end Cert.KernelIdeal.Attn
-- ==== Proof.Attn.Select.lean ====
module

public import Idealize.ShloMosaic.Lib.SortFacts
public import Idealize.ShloMosaic.Lib.SortPrefix
public import Mathlib.Data.EReal.Basic

@[expose] public section

set_option maxRecDepth 16384

noncomputable section

/-! The selection alone: the first places of a stable descending sort of the gates are the blocks of smallest rank. -/

namespace Cert.Select

open Idealize.ShloMosaic

/-- `m` comes before `n`: a larger gate, or the same gate at an earlier place. -/
def Lt (g : Fin 16 → EReal) (m n : Fin 16) : Prop := g n < g m ∨ (g m = g n ∧ m < n)

theorem Lt.irrefl (g : Fin 16 → EReal) (n : Fin 16) : ¬ Lt g n n := by
  rintro (h | ⟨_, h⟩) <;> exact lt_irrefl _ h

theorem Lt.total (g : Fin 16 → EReal) {m n : Fin 16} (h : m ≠ n) : Lt g m n ∨ Lt g n m := by
  rcases lt_trichotomy (g m) (g n) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- `Lt` as a test. -/
def before (g : Fin 16 → EReal) (m n : Fin 16) : Bool := by classical exact decide (Lt g m n)

theorem before_iff (g : Fin 16 → EReal) (m n : Fin 16) : before g m n = true ↔ Lt g m n := by simp [before]

theorem strict (g : Fin 16 → EReal) : StrictTotalBefore (before g) where
  irrefl a := by rw [← Bool.not_eq_true, before_iff]; exact Lt.irrefl g a
  trans a b c := by
    simp only [before_iff]
    rintro (h | ⟨h, h'⟩) (k | ⟨k, k'⟩)
    · exact .inl (k.trans h)
    · exact .inl (k ▸ h)
    · exact .inl (h ▸ k)
    · exact .inr ⟨h.trans k, h'.trans k'⟩
  total a b h := by simp only [before_iff]; exact Lt.total g h

/-- On an increasing list two relations that agree backwards sort alike. -/
theorem stableSort_congr_lt (R R' : Fin 16 → Fin 16 → Bool) (l : List (Fin 16)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The sources are read off the sorted positions. -/
theorem sortedFrom_of_positions {n : ℕ} (R R' : Fin n → Fin n → Bool) (e : sortPositions n R = sortPositions n R') :
    sortedFrom R = sortedFrom R' := by
  funext k
  unfold sortedFrom
  rw [List.get_of_eq e]
  rfl

/-- The source of every place of the stable descending sort. -/
def place (g : Fin 16 → EReal) : Fin 16 → Fin 16 := sortedFrom (before g)

theorem sortedFrom_eq (g : Fin 16 → EReal) (R : Fin 16 → Fin 16 → Bool) (hR : ∀ a b, R a b = true ↔ g b < g a) :
    sortedFrom R = place g := by
  have e : sortPositions 16 R = sortPositions 16 (before g) := by
    refine stableSort_congr_lt _ _ _ (List.pairwise_lt_finRange 16) fun a b hab => ?_
    rw [Bool.eq_iff_iff, hR, before_iff]
    exact ⟨.inl, fun h => h.elim id fun h => absurd h.2 (not_lt.mpr hab.le)⟩
  exact sortedFrom_of_positions R (before g) e

theorem place_injective (g : Fin 16 → EReal) : Function.Injective (place g) := sortedFrom_injective _

theorem place_surjective (g : Fin 16 → EReal) : Function.Surjective (place g) := sortedFrom_surjective _

theorem lt_place (g : Fin 16 → EReal) (j k : Fin 16) : Lt g (place g j) (place g k) ↔ j < k := by
  have key : ∀ i j : Fin 16, i < j → ¬ Lt g (place g j) (place g i) := fun i j hij => by
    rw [← before_iff, Bool.not_eq_true]
    have hs := strict g
    unfold place
    exact sortedFrom_noInversion (before g) (before g) (fun a b h => hs.asymm a b h) (fun _ _ h => h) hs.negTrans i j hij
  constructor
  · intro h
    rcases lt_trichotomy j k with h1 | h1 | h1
    · exact h1
    · subst h1; exact absurd h (Lt.irrefl g _)
    · exact absurd h (key _ _ h1)
  · intro h
    exact (Lt.total g fun e => h.ne (place_injective g e)).resolve_right (key _ _ h)

open Classical in
/-- The blocks before `n`. -/
def ahead (g : Fin 16 → EReal) (n : Fin 16) : Finset (Fin 16) := Finset.univ.filter fun m => Lt g m n

theorem mem_ahead (g : Fin 16 → EReal) (m n : Fin 16) : m ∈ ahead g n ↔ Lt g m n := by simp [ahead]

theorem card_ahead_place (g : Fin 16 → EReal) (j : Fin 16) : (ahead g (place g j)).card = j.val := by
  have e : ahead g (place g j) = (Finset.Iio j).map ⟨place g, place_injective g⟩ := by
    ext m
    obtain ⟨k, rfl⟩ := place_surjective g m
    rw [mem_ahead, lt_place, Finset.mem_map]
    simp only [Finset.mem_Iio, Function.Embedding.coeFn_mk]
    exact ⟨fun h => ⟨k, h, rfl⟩, fun ⟨k', h, e⟩ => place_injective g e ▸ h⟩
  rw [e, Finset.card_map, Fin.card_Iio]

/-- The gates with the blocks from `a` on struck out. -/
def past (a : Fin 16) (g : Fin 16 → EReal) (n : Fin 16) : EReal := if n < a then g n else ⊥

/-- The rank of block `n` among the blocks before `a`. -/
def rank (a : Fin 16) (g : Fin 16 → EReal) (n : Fin 16) : ℕ :=
  (Finset.univ.filter fun m : Fin 16 => m < a ∧ (g n < g m ∨ (g m = g n ∧ m < n))).card

theorem rank_eq (a : Fin 16) (g : Fin 16 → EReal) (n : Fin 16) (h : n < a) : rank a g n = (ahead (past a g) n).card := by
  unfold rank
  congr 1
  ext m
  rw [mem_ahead]
  simp only [Finset.mem_filter, Finset.mem_univ, true_and, Lt, past, h, if_true]
  by_cases hm : m < a
  · simp [hm]
  · have hn : ¬ m < n := fun c => hm (c.trans h)
    simp [hm, hn]

theorem ahead_lt (a : Fin 16) (g : Fin 16 → EReal) (n : Fin 16) (h : n < a) : (ahead (past a g) n).card < a.val := by
  have hs : ahead (past a g) n ⊂ Finset.Iio a := by
    refine (Finset.ssubset_iff_of_subset fun m hm => ?_).mpr ⟨n, Finset.mem_Iio.mpr h, fun hn => Lt.irrefl _ _ ((mem_ahead _ _ _).mp hn)⟩
    rw [mem_ahead] at hm
    rw [Finset.mem_Iio]
    by_contra hc
    rcases hm with hm | ⟨_, hm⟩
    · simp [past, hc] at hm
    · exact hc (hm.trans h)
  have := Finset.card_lt_card hs
  rwa [Fin.card_Iio] at this

theorem le_ahead (a : Fin 16) (g : Fin 16 → EReal) (n : Fin 16) (h : ¬ n < a) : a.val ≤ (ahead (past a g) n).card := by
  have hs : Finset.Iio a ⊆ ahead (past a g) n := fun m hm => by
    rw [Finset.mem_Iio] at hm
    rw [mem_ahead]
    unfold Lt
    have e : past a g n = ⊥ := by simp [past, h]
    rw [e]
    rcases eq_or_lt_of_le (bot_le : ⊥ ≤ past a g m) with hb | hb
    · exact .inr ⟨hb.symm, lt_of_lt_of_le hm (not_lt.mp h)⟩
    · exact .inl hb
  have := Finset.card_le_card hs
  rwa [Fin.card_Iio] at this

/-- A place before `a` holds a block before `a`, whose rank is the place. -/
theorem place_lt (a : Fin 16) (g : Fin 16 → EReal) (j : Fin 16) (h : j < a) :
    place (past a g) j < a ∧ rank a g (place (past a g) j) = j.val := by
  have hlt : place (past a g) j < a := by
    by_contra hc
    have := le_ahead a g _ hc
    rw [card_ahead_place] at this
    exact absurd h (not_lt.mpr this)
  exact ⟨hlt, by rw [rank_eq a g _ hlt, card_ahead_place]⟩

/-- A block before `a` lies at the place its rank names. -/
theorem exists_place (a : Fin 16) (g : Fin 16 → EReal) (n : Fin 16) (h : n < a) :
    ∃ j, j < a ∧ j.val = rank a g n ∧ place (past a g) j = n := by
  obtain ⟨j, rfl⟩ := place_surjective (past a g) n
  have h1 := ahead_lt a g _ h
  have h2 := rank_eq a g _ h
  rw [card_ahead_place] at h1 h2
  exact ⟨j, h1, h2.symm, rfl⟩

end Cert.Select
-- ==== Proof.Attn.Bias.lean ====
module

public import proofs.«01_k».proof.Proof.Attn.Block
public import proofs.«01_k».proof.Proof.Attn.Select

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen
open Cert.Select (rank)

/-- What block `m` adds to the rank of every block. -/
def rankTerm (a : BitVec 32) (g : FVec Ideal S16x256 .f32) (m : ℕ) (h : S16x256.Slices ![m, 0] S1x256) : IVec S16x256 32 :=
  let row := broadcastTo S16x256 (extractStridedSlice S1x256 ![m, 0] g h) broadcasts_S1x256_S16x256
  Scalar.select (Scalar.cmpi .sgt a (BitVec.ofNat 32 m))
    (select (cmpf .ogt row g) (broadcast S16x256 1#32)
      (select (cmpf .oeq row g)
        (select (cmpi .sgt rowIota (broadcast S16x256 (BitVec.ofNat 32 m))) (broadcast S16x256 1#32) (broadcast S16x256 0#32))
        (broadcast S16x256 0#32)))
    (broadcast S16x256 0#32)

theorem rankTerm_apply (a : Fin 16) (g : FVec Ideal S16x256 .f32) (m : Fin 16) (h) (n : Fin 16) (r : Fin 256) :
    rankTerm (BitVec.ofNat 32 a.val) g m.val h (ix2 n r)
      = if m < a ∧ (g (ix2 n r) < g (ix2 m r) ∨ (g (ix2 m r) = g (ix2 n r) ∧ m < n)) then 1#32 else 0#32 := by
  unfold rankTerm
  pointwise
  have h1 : Scalar.cmpi .sgt (BitVec.ofNat 32 a.val) (BitVec.ofNat 32 m.val) = BitVec.ofBool (decide (m < a)) := by
    show IntOp.cmpi .sgt _ _ = _
    rw [WordCmp.cmpi_sgt_ofNat (by have := a.isLt; omega) (by have := m.isLt; omega)]; rfl
  have h2 : IntOp.cmpi .sgt (BitVec.ofNat 32 n.val) (BitVec.ofNat 32 m.val) = BitVec.ofBool (decide (m < n)) := by
    rw [WordCmp.cmpi_sgt_ofNat (by have := n.isLt; omega) (by have := m.isLt; omega)]; rfl
  rw [h1, h2]
  by_cases c1 : m < a <;> by_cases c2 : g (ix2 n r) < g (ix2 m r) <;> by_cases c3 : g (ix2 m r) = g (ix2 n r) <;>
    by_cases c4 : m < n <;> simp [Scalar.select, c1, c2, c3, c4]

theorem count_words (P : Fin 16 → Prop) [DecidablePred P] :
    (0#32 + (if P 0 then 1#32 else 0#32) + (if P 1 then 1#32 else 0#32) + (if P 2 then 1#32 else 0#32)
      + (if P 3 then 1#32 else 0#32) + (if P 4 then 1#32 else 0#32) + (if P 5 then 1#32 else 0#32)
      + (if P 6 then 1#32 else 0#32) + (if P 7 then 1#32 else 0#32) + (if P 8 then 1#32 else 0#32)
      + (if P 9 then 1#32 else 0#32) + (if P 10 then 1#32 else 0#32) + (if P 11 then 1#32 else 0#32)
      + (if P 12 then 1#32 else 0#32) + (if P 13 then 1#32 else 0#32) + (if P 14 then 1#32 else 0#32)
      + (if P 15 then 1#32 else 0#32) : BitVec 32) = BitVec.ofNat 32 (Finset.univ.filter P).card := by
  have e (p : Prop) [Decidable p] : (if p then 1#32 else 0#32) = BitVec.ofNat 32 (if p then 1 else 0) := by split <;> rfl
  simp only [e, ← BitVec.ofNat_add, Finset.card_filter]
  congr 1
  simp only [Fin.sum_univ_succ, Fin.sum_univ_zero]
  simp only [← add_assoc, zero_add, add_zero]
  rfl

/-- The number of blocks that come before a block, as the kernel adds it up. -/
def rankWords (a : BitVec 32) (g : FVec Ideal S16x256 .f32) : IVec S16x256 32 :=
  let s0 := addi (addi (addi (addi (addi (broadcast S16x256 0#32)
    (rankTerm a g 0 slices_S16x256_o0_0_S1x256)) (rankTerm a g 1 slices_S16x256_o1_0_S1x256))
    (rankTerm a g 2 slices_S16x256_o2_0_S1x256)) (rankTerm a g 3 slices_S16x256_o3_0_S1x256))
    (rankTerm a g 4 slices_S16x256_o4_0_S1x256)
  let s1 := addi (addi (addi (addi (addi s0
    (rankTerm a g 5 slices_S16x256_o5_0_S1x256)) (rankTerm a g 6 slices_S16x256_o6_0_S1x256))
    (rankTerm a g 7 slices_S16x256_o7_0_S1x256)) (rankTerm a g 8 slices_S16x256_o8_0_S1x256))
    (rankTerm a g 9 slices_S16x256_o9_0_S1x256)
  addi (addi (addi (addi (addi (addi s1
    (rankTerm a g 10 slices_S16x256_o10_0_S1x256)) (rankTerm a g 11 slices_S16x256_o11_0_S1x256))
    (rankTerm a g 12 slices_S16x256_o12_0_S1x256)) (rankTerm a g 13 slices_S16x256_o13_0_S1x256))
    (rankTerm a g 14 slices_S16x256_o14_0_S1x256)) (rankTerm a g 15 slices_S16x256_o15_0_S1x256)

theorem rankWords_apply (a : Fin 16) (g : FVec Ideal S16x256 .f32) (n : Fin 16) (r : Fin 256) :
    rankWords (BitVec.ofNat 32 a.val) g (ix2 n r) = BitVec.ofNat 32 (rank a (fun m => g (ix2 m r)) n) := by
  have T (m : Fin 16) (h) := rankTerm_apply a g m h n r
  have ad {x y x' y' : BitVec 32} (h : x = x') (h' : y = y') : x + y = x' + y' := by rw [h, h']
  refine Eq.trans ?_ (count_words fun m : Fin 16 => m < a ∧ (g (ix2 n r) < g (ix2 m r) ∨ (g (ix2 m r) = g (ix2 n r) ∧ m < n)))
  exact (ad (ad (ad (ad (ad (ad (ad (ad (ad (ad (ad (ad (ad (ad (ad (ad rfl (T 0 _)) (T 1 _)) (T 2 _)) (T 3 _)) (T 4 _)) (T 5 _)) (T 6 _)) (T 7 _)) (T 8 _)) (T 9 _)) (T 10 _)) (T 11 _)) (T 12 _)) (T 13 _)) (T 14 _)) (T 15 _))

/-- The bias of every block and query, from the gates and the block the queries lie in. -/
def biasFrom (a : BitVec 32) (g : FVec Ideal S16x256 .f32) : FVec Ideal S16x256 .f32 :=
  select (cmpi .sgt (select (cmpi .slt rowIota (broadcast S16x256 a))
      (select (cmpi .slt (rankWords a g) (broadcast S16x256 3#32)) (broadcast S16x256 1#32) (broadcast S16x256 0#32))
      (broadcast S16x256 0#32)) (broadcast S16x256 0#32))
    (broadcast S16x256 (Scalar.ofBits .f32 0x00000000#32)) (broadcast S16x256 (Scalar.ofBits .f32 0xFF800000#32))

theorem bias_eq (i : grid0.Coords) (x0 : Vec Ideal S1x256x128 .bf16) (x3 : Vec Ideal S1x16x128 .f32) :
    biasOf i x0 x3 = biasFrom (BitVec.ofNat 32 (i 2).val) (k0_pay16 x0 x3) := by
  unfold biasOf k0_pay46 biasFrom
  simp only [shapeCast_self]
  rfl

theorem biasFrom_apply (a : Fin 16) (g : FVec Ideal S16x256 .f32) (n : Fin 16) (r : Fin 256) :
    biasFrom (BitVec.ofNat 32 a.val) g (ix2 n r)
      = if n < a ∧ rank a (fun m => g (ix2 m r)) n < 3 then 0 else ⊥ := by
  have hr : rank a (fun m => g (ix2 m r)) n ≤ 16 := by
    unfold rank; exact (Finset.card_filter_le _ _).trans (by simp)
  have h1 : IntOp.cmpi .slt (BitVec.ofNat 32 n.val) (BitVec.ofNat 32 a.val) = BitVec.ofBool (decide (n < a)) := by
    rw [WordCmp.cmpi_slt_ofNat (by have := n.isLt; omega) (by have := a.isLt; omega)]; rfl
  have h2 : IntOp.cmpi .slt (BitVec.ofNat 32 (rank a (fun m => g (ix2 m r)) n)) 3#32
      = BitVec.ofBool (decide (rank a (fun m => g (ix2 m r)) n < 3)) := by
    rw [show 3#32 = BitVec.ofNat 32 3 from rfl, WordCmp.cmpi_slt_ofNat (by omega) (by omega)]
  have hw := rankWords_apply a g n r
  unfold biasFrom
  generalize rankWords (BitVec.ofNat 32 a.val) g = w at *
  generalize rank a (fun m => g (ix2 m r)) n = k at *
  pointwise
  have hb : Ideal.ofBits .f32 0xFF800000#32 = ⊥ := by simp [Ideal.ofBits, Ideal.ieee]
  rw [hw, h1, h2, hb]
  by_cases c1 : n < a <;> by_cases c2 : k < 3 <;> simp [Scalar.select, IntOp.cmpi, c1, c2]

theorem bias_apply (i : grid0.Coords) (a : Fin 16) (ha : (i 2).val = a.val) (x0 : Vec Ideal S1x256x128 .bf16)
    (x3 : Vec Ideal S1x16x128 .f32) (n : Fin 16) (r : Fin 256) :
    biasOf i x0 x3 (ix2 n r)
      = if n < a ∧ rank a (fun m => k0_pay16 x0 x3 (ix2 m r)) n < 3 then 0 else ⊥ := by
  rw [bias_eq, ha, biasFrom_apply]

end Cert.KernelIdeal.Attn
-- ==== Proof.Attn.Softmax.lean ====
module

public import Idealize.ShloMosaic.PureOps.Ideal.Laws

@[expose] public section

set_option maxRecDepth 16384

noncomputable section

/-! A softmax-weighted sum taken piece by piece: a running maximum, a running sum of exponentials and a running
weighted sum, the last two rescaled whenever the maximum grows. -/

namespace Cert.Softmax

open Idealize.ShloMosaic

variable {ι δ : Type} [DecidableEq ι]

/-- The exponential of a score less a real maximum. -/
theorem exp_sub_real (x : EReal) (hx : x ≠ ⊤) (m : ℝ) : ∃ p : ℝ, 0 ≤ p ∧ Ideal.exp (x - m) = (p : EReal) := by
  induction x with
  | bot => exact ⟨0, le_rfl, by rw [EReal.bot_sub]; rfl⟩
  | top => exact absurd rfl hx
  | coe r => exact ⟨Real.exp (r - m), (Real.exp_pos _).le, by rw [← EReal.coe_sub]; rfl⟩

/-- Passing from one maximum to another. -/
theorem exp_rescale (x : EReal) (hx : x ≠ ⊤) (m m' : ℝ) :
    Ideal.exp ((m : EReal) - m') * Ideal.exp (x - m) = Ideal.exp (x - m') := by
  induction x with
  | bot => rw [EReal.bot_sub, EReal.bot_sub]; show _ * (0 : EReal) = 0; rw [mul_zero]
  | top => exact absurd rfl hx
  | coe r =>
    rw [← EReal.coe_sub, ← EReal.coe_sub, ← EReal.coe_sub]
    show ((Real.exp (m - m') : ℝ) : EReal) * ((Real.exp (r - m) : ℝ) : EReal) = ((Real.exp (r - m') : ℝ) : EReal)
    rw [← EReal.coe_mul, ← Real.exp_add]
    congr 2; ring

/-- A real factor that is not negative distributes over any finite sum. -/
theorem mul_sum_of_nonneg (c : ℝ) (hc : 0 ≤ c) (A : Finset ι) (f : ι → EReal) :
    (c : EReal) * ∑ x ∈ A, f x = ∑ x ∈ A, (c : EReal) * f x := by
  induction A using Finset.induction_on with
  | empty => simp
  | insert a A ha ih =>
    rw [Finset.sum_insert ha, Finset.sum_insert ha, EReal.left_distrib_of_nonneg_of_ne_top (by exact_mod_cast hc) (EReal.coe_ne_top _), ih]

theorem coe_sum (A : Finset ι) (p : ι → ℝ) : ((∑ x ∈ A, p x : ℝ) : EReal) = ∑ x ∈ A, (p x : EReal) := by
  induction A using Finset.induction_on with
  | empty => simp
  | insert a A ha ih => rw [Finset.sum_insert ha, Finset.sum_insert ha, EReal.coe_add, ih]

/-- The running values over the scores `e` of `A`, with the weighted values `w`. -/
structure Run (e : ι → EReal) (w : δ → ι → EReal) (A : Finset ι) (m l : EReal) (acc : δ → EReal) : Prop where
  max : m = A.sup e
  sum : l = ∑ x ∈ A, Ideal.exp (e x - m)
  acc : ∀ d, acc d = ∑ x ∈ A, w d x * Ideal.exp (e x - m)

variable {e : ι → EReal} {w : δ → ι → EReal}

theorem Run.real {A : Finset ι} {m l : EReal} {acc : δ → EReal} (h : Run e w A m l acc) (he : ∀ x, e x ≠ ⊤)
    (hr : ∃ x ∈ A, e x ≠ ⊥) : ∃ r : ℝ, m = r := by
  have ht : m ≠ ⊤ := by
    rw [h.max]
    refine ((Finset.sup_lt_iff (bot_lt_top)).mpr fun x _ => lt_top_iff_ne_top.mpr (he x)).ne
  have hb : m ≠ ⊥ := by
    obtain ⟨x, hx, hxe⟩ := hr
    rw [h.max]
    exact fun c => hxe (le_bot_iff.mp (c ▸ Finset.le_sup (f := e) hx))
  exact ⟨m.toReal, (EReal.coe_toReal ht hb).symm⟩

/-- One more piece of scores. -/
theorem Run.step {A B : Finset ι} {m l : EReal} {acc : δ → EReal} (h : Run e w A m l acc) (he : ∀ x, e x ≠ ⊤)
    (hr : ∃ x ∈ A, e x ≠ ⊥) (hAB : Disjoint A B) :
    let m' := Max.max m (B.sup e)
    Run e w (A ∪ B) m' (Ideal.exp (m - m') * l + ∑ x ∈ B, Ideal.exp (e x - m'))
      (fun d => Ideal.exp (m - m') * acc d + ∑ x ∈ B, w d x * Ideal.exp (e x - m')) := by
  intro m'
  have hm' : m' = (A ∪ B).sup e := by rw [Finset.sup_union, ← h.max]
  obtain ⟨r, hmr⟩ := h.real he hr
  have h' : Run e w (A ∪ B) m' (∑ x ∈ A ∪ B, Ideal.exp (e x - m')) (fun d => ∑ x ∈ A ∪ B, w d x * Ideal.exp (e x - m')) :=
    ⟨hm', rfl, fun _ => rfl⟩
  obtain ⟨r', hmr'⟩ := h'.real he (by obtain ⟨x, hx, hxe⟩ := hr; exact ⟨x, Finset.mem_union_left _ hx, hxe⟩)
  rw [hmr'] at h' ⊢
  obtain ⟨α, hα0, hα⟩ := exp_sub_real (m : EReal) (by rw [hmr]; exact EReal.coe_ne_top _) r'
  refine ⟨hmr' ▸ hm', ?_, fun d => ?_⟩
  · rw [Finset.sum_union hAB, h.sum, hα, mul_sum_of_nonneg α hα0]
    congr 1
    refine Finset.sum_congr rfl fun x _ => ?_
    rw [← hα, hmr, exp_rescale _ (he x)]
  · show Ideal.exp (m - r') * acc d + _ = _
    rw [Finset.sum_union hAB, h.acc, hα, mul_sum_of_nonneg α hα0]
    congr 1
    refine Finset.sum_congr rfl fun x _ => ?_
    rw [← hα, hmr, mul_left_comm, exp_rescale _ (he x)]

/-- Dividing the weighted sum at the end is dividing every weight. -/
theorem Run.out {A : Finset ι} {m l : EReal} {acc : δ → EReal} (h : Run e w A m l acc) (he : ∀ x, e x ≠ ⊤)
    (hr : ∃ x ∈ A, e x ≠ ⊥) (d : δ) :
    Ideal.div (acc d) l = ∑ x ∈ A, w d x * Ideal.div (Ideal.exp (e x - m)) l := by
  obtain ⟨r, hmr⟩ := h.real he hr
  choose p hp0 hp using fun x => exp_sub_real (e x) (he x) r
  have hl : l = ((∑ x ∈ A, p x : ℝ) : EReal) := by
    rw [h.sum, hmr]
    simp only [hp]
    exact (coe_sum A p).symm
  have hpos : 0 < ∑ x ∈ A, p x := by
    obtain ⟨x, hx, hxe⟩ := hr
    refine Finset.sum_pos' (fun x _ => hp0 x) ⟨x, hx, ?_⟩
    have hc : e x = ((e x).toReal : EReal) := (EReal.coe_toReal (he x) hxe).symm
    have := hp x
    rw [hc, ← EReal.coe_sub] at this
    have e2 : p x = Real.exp ((e x).toReal - r) := (EReal.coe_eq_coe_iff.mp this).symm
    rw [e2]; exact Real.exp_pos _
  have hl0 : l ≠ 0 := by rw [hl]; exact_mod_cast hpos.ne'
  have hdiv : ∀ y, Ideal.div y l = ((((∑ x ∈ A, p x)⁻¹ : ℝ)) : EReal) * y := fun y => by
    unfold Ideal.div
    rw [if_neg hl0, hl, ← EReal.coe_inv, mul_comm]
  rw [hdiv, h.acc, mul_sum_of_nonneg _ (inv_nonneg.mpr hpos.le)]
  exact Finset.sum_congr rfl fun x _ => by rw [hdiv, mul_left_comm]

/-- Two score tables that hold the same scores, each with any number of masked places beside them. -/
structure Same {ι' : Type} (A : Finset ι) (B : Finset ι') (e : ι → EReal) (e' : ι' → EReal) (φ : ι' → ι) : Prop where
  inj : ∀ y ∈ B, ∀ z ∈ B, e' y ≠ ⊥ → e' z ≠ ⊥ → φ y = φ z → y = z
  maps : ∀ y ∈ B, e' y ≠ ⊥ → φ y ∈ A ∧ e (φ y) = e' y
  onto : ∀ x ∈ A, e x ≠ ⊥ → ∃ y ∈ B, e' y ≠ ⊥ ∧ φ y = x

namespace Same

variable {ι' : Type} {A : Finset ι} {B : Finset ι'} {e : ι → EReal} {e' : ι' → EReal} {φ : ι' → ι}

theorem sup_eq (h : Same A B e e' φ) : A.sup e = B.sup e' := by
  refine le_antisymm (Finset.sup_le fun x hx => ?_) (Finset.sup_le fun y hy => ?_)
  · by_cases hb : e x = ⊥
    · rw [hb]; exact bot_le
    · obtain ⟨y, hy, hye, rfl⟩ := h.onto x hx hb
      rw [(h.maps y hy hye).2]; exact Finset.le_sup hy
  · by_cases hb : e' y = ⊥
    · rw [hb]; exact bot_le
    · rw [← (h.maps y hy hb).2]; exact Finset.le_sup (h.maps y hy hb).1

theorem sum_eq (h : Same A B e e' φ) (f : ι → EReal) (f' : ι' → EReal) (hf : ∀ x ∈ A, e x = ⊥ → f x = 0)
    (hf' : ∀ y ∈ B, e' y = ⊥ → f' y = 0) (hff : ∀ y ∈ B, e' y ≠ ⊥ → f' y = f (φ y)) : ∑ x ∈ A, f x = ∑ y ∈ B, f' y := by
  symm
  refine Finset.sum_bij_ne_zero (fun y _ _ => φ y) (fun y hy h0 => ?_) (fun y hy h0 z hz h0' e => ?_) (fun x hx h0 => ?_)
    (fun y hy h0 => ?_)
  · exact (h.maps y hy fun c => h0 (hf' y hy c)).1
  · exact h.inj y hy z hz (fun c => h0 (hf' y hy c)) (fun c => h0' (hf' z hz c)) e
  · obtain ⟨y, hy, hye, rfl⟩ := h.onto x hx fun c => h0 (hf x hx c)
    exact ⟨y, hy, by rwa [hff y hy hye], rfl⟩
  · exact hff y hy fun c => h0 (hf' y hy c)

end Same

/-- The running values over one table give the softmax-weighted sum over the other. -/
theorem Run.out_same {ι' : Type} {A : Finset ι} {B : Finset ι'} {e : ι → EReal} {w : δ → ι → EReal} {e' : ι' → EReal}
    {φ : ι' → ι} {m l : EReal} {acc : δ → EReal} (h : Run e w A m l acc) (he : ∀ x, e x ≠ ⊤) (hr : ∃ x ∈ A, e x ≠ ⊥)
    (hs : Same A B e e' φ) (w' : δ → ι' → EReal) (hw : ∀ d, ∀ y ∈ B, e' y ≠ ⊥ → w' d y = w d (φ y)) (d : δ) :
    Ideal.div (acc d) l
      = ∑ y ∈ B, w' d y * Ideal.div (Ideal.exp (e' y - B.sup e')) (∑ z ∈ B, Ideal.exp (e' z - B.sup e')) := by
  obtain ⟨r, hmr⟩ := h.real he hr
  have hm : B.sup e' = r := by rw [← hs.sup_eq, ← h.max, hmr]
  have hz {x : EReal} (hx : x = ⊥) : Ideal.exp (x - r) = 0 := by rw [hx, EReal.bot_sub]; rfl
  have hl : l = ∑ z ∈ B, Ideal.exp (e' z - r) := by
    rw [h.sum, hmr]
    exact hs.sum_eq _ _ (fun x _ hx => hz hx) (fun y _ hy => hz hy) fun y hy hye => by rw [(hs.maps y hy hye).2]
  have hl0 : l ≠ 0 := by
    obtain ⟨x, hx, hxe⟩ := hr
    have hc : e x = ((e x).toReal : EReal) := (EReal.coe_toReal (he x) hxe).symm
    rw [h.sum]
    refine ne_of_gt (lt_of_lt_of_le ?_ (Finset.single_le_sum (f := fun x => Ideal.exp (e x - m)) (fun y _ => ?_) hx))
    · show 0 < Ideal.exp (e x - m)
      rw [hmr, hc, ← EReal.coe_sub]
      exact EReal.coe_pos.mpr (Real.exp_pos _)
    · show 0 ≤ Ideal.exp (e y - m)
      rw [hmr]; obtain ⟨p, hp, hpe⟩ := exp_sub_real (e y) (he y) r
      rw [hpe]; exact_mod_cast hp
  have hd0 {x : EReal} (hx : x = ⊥) : Ideal.div (Ideal.exp (x - r)) l = 0 := by
    rw [hz hx]; unfold Ideal.div; rw [if_neg hl0, zero_mul]
  rw [h.out he hr d, hm, ← hl, hmr]
  exact hs.sum_eq _ _ (fun x _ hx => by rw [hd0 hx, mul_zero]) (fun y _ hy => by rw [hd0 hy, mul_zero])
    fun y hy hye => by rw [hw d y hy hye, (hs.maps y hy hye).2]

end Cert.Softmax
-- ==== Proof.Attn.Payload.lean ====
module

public import proofs.«01_k».proof.Proof.Attn.Bias
public import proofs.«01_k».proof.Proof.Attn.Softmax

@[expose] public section

set_option maxRecDepth 16384

noncomputable section

/-! The running values of the kernel's loop, read at one query. -/

namespace Cert.KernelIdeal.Attn

open Idealize.ShloMosaic Idealize.ShloMosaic.TcCoe Idealize.ShloMosaic.Tactic
open Cert.KernelIdeal Cert.KernelIdeal.Gen

theorem negInf : Ideal.ofBits .f32 0xFF800000#32 = ⊥ := by simp [Ideal.ofBits, Ideal.ieee]

/-- The scale of the scores. -/
def scale : EReal := Ideal.ofBits .f32 0x3DB504F3#32

/-- The scaled score of key `t` of a block against query `r`. -/
def sc (x0 kb : FVec Ideal S1x256x128 .bf16) (t r : Fin 256) : EReal :=
  (∑ k : Fin 128, kb (ix3 0 t k) * x0 (ix3 0 r k)) * scale

theorem gate_apply (x0 : FVec Ideal S1x256x128 .bf16) (x3 : FVec Ideal S1x16x128 .f32) (n : Fin 16) (r : Fin 256) :
    k0_pay16 x0 x3 (ix2 n r) = ∑ k : Fin 128, x3 (ix3 0 n k) * x0 (ix3 0 r k) := by
  pointwise [k0_pay16, k0_pay15]

theorem own_apply (x0 kb : FVec Ideal S1x256x128 .bf16) (t r : Fin 256) :
    k0_pay47 (F := Ideal) (k0_pay15 x0) kb (ix2 t r) = if t ≤ r then sc x0 kb t r else ⊥ := by
  have h : IntOp.cmpi .sle (BitVec.ofNat 32 t.val) (BitVec.ofNat 32 r.val) = BitVec.ofBool (decide (t ≤ r)) := by
    rw [WordCmp.cmpi_sle_ofNat (by have := t.isLt; omega) (by have := r.isLt; omega)]; rfl
  pointwise [k0_pay47, k0_pay15]
  rw [h, negInf]
  unfold sc scale
  by_cases c : t ≤ r <;> simp [Scalar.select, c]

theorem score_apply (x0 kb : FVec Ideal S1x256x128 .bf16) (b : FVec Ideal S1x256 .f32) (t r : Fin 256) :
    k0_pay2 (F := Ideal) (k0_pay15 x0) kb b (ix2 t r) = sc x0 kb t r + b (ix2 0 r) := by
  pointwise [k0_pay2, k0_pay15, sc, scale]

variable (q : FVec Ideal S128x256 .bf16) (kb : FVec Ideal S1x256x128 .bf16) (b m l : FVec Ideal S1x256 .f32)
  (acc : FVec Ideal S128x256 .f32) (v : FVec Ideal S1x1x1x128x256 .bf16)

theorem max0_apply (r : Fin 256) : k0_pay48 q kb (ix2 0 r) = Finset.univ.sup fun t : Fin 256 => k0_pay47 q kb (ix2 t r) := by
  unfold k0_pay48
  generalize k0_pay47 q kb = p
  pointwise
  rw [negInf]
  rfl

theorem exp0_apply (t r : Fin 256) :
    k0_pay49 q kb (ix2 t r) = Ideal.exp (k0_pay47 q kb (ix2 t r) - k0_pay48 q kb (ix2 0 r)) := by
  unfold k0_pay49
  generalize k0_pay47 q kb = p
  generalize k0_pay48 q kb = p
  pointwise

theorem sum0_apply (r : Fin 256) : k0_pay50 q kb (ix2 0 r) = ∑ t : Fin 256, k0_pay49 q kb (ix2 t r) := by
  unfold k0_pay50
  generalize k0_pay49 q kb = p
  pointwise

theorem weigh_apply (p : FVec Ideal S256x256 .f32) (d : Fin 128) (r : Fin 256) :
    k0_pay1 p v (ix2 d r) = ∑ t : Fin 256, v (ix5 0 0 0 d t) * p (ix2 t r) := by
  pointwise [k0_pay1]

theorem max1_apply (r : Fin 256) :
    k0_pay3 q m kb b (ix2 0 r) = max (m (ix2 0 r)) (Finset.univ.sup fun t : Fin 256 => k0_pay2 q kb b (ix2 t r)) := by
  unfold k0_pay3
  generalize k0_pay2 q kb b = p
  pointwise
  rw [negInf]
  rfl

theorem factor_apply (r : Fin 256) :
    k0_pay4 q m kb b (ix2 0 r) = Ideal.exp (m (ix2 0 r) - k0_pay3 q m kb b (ix2 0 r)) := by
  unfold k0_pay4
  generalize k0_pay3 q m kb b = p
  pointwise

theorem exp1_apply (t r : Fin 256) :
    k0_pay5 q m kb b (ix2 t r) = Ideal.exp (k0_pay2 q kb b (ix2 t r) - k0_pay3 q m kb b (ix2 0 r)) := by
  unfold k0_pay5
  generalize k0_pay2 q kb b = p
  generalize k0_pay3 q m kb b = p
  pointwise

theorem sum1_apply (r : Fin 256) :
    k0_pay6 q m l kb b (ix2 0 r) = k0_pay4 q m kb b (ix2 0 r) * l (ix2 0 r) + ∑ t : Fin 256, k0_pay5 q m kb b (ix2 t r) := by
  unfold k0_pay6
  generalize k0_pay4 q m kb b = p
  generalize k0_pay5 q m kb b = p
  pointwise

theorem acc1_apply (d : Fin 128) (r : Fin 256) :
    k0_pay7 q m acc kb b v (ix2 d r)
      = k0_pay4 q m kb b (ix2 0 r) * acc (ix2 d r) + ∑ t : Fin 256, v (ix5 0 0 0 d t) * k0_pay5 q m kb b (ix2 t r) := by
  unfold k0_pay7
  generalize k0_pay4 q m kb b = p
  generalize k0_pay5 q m kb b = p
  pointwise

theorem quot_apply (r : Fin 256) (d : Fin 128) :
    k0_pay14 l acc (ix3 0 r d) = Ideal.div (acc (ix2 d r)) (l (ix2 0 r)) := by
  pointwise [k0_pay14]

end Cert.KernelIdeal.Attn
-- ==== Proof.Attn.Rows.lean ====
module

public import proofs.«01_k».proof.Proof.Attn.Payload

@[expose] public section

set_option maxRecDepth 16384

noncomputable section

/-! One query's row of the kernel: its masked scores, and the running values over them. -/

namespace Cert.KernelIdeal.Attn

open Idealize.ShloMosaic Idealize.ShloMosaic.TcCoe Idealize.ShloMosaic.Tactic
open Cert.KernelIdeal Cert.KernelIdeal.Gen Cert.Select Cert.Softmax

/-- Which blocks the row attends to, given its own block `a` and the gates `g`. -/
def Kept (a : Fin 16) (g : Fin 16 → EReal) (n : Fin 16) : Prop := n < a ∧ rank a g n < 3

instance (a : Fin 16) (g : Fin 16 → EReal) (n : Fin 16) : Decidable (Kept a g n) := by unfold Kept; infer_instance

/-- The masked scores of query `r` of block `a`, from its scores `s`. -/
def masked (a : Fin 16) (r : Fin 256) (g : Fin 16 → EReal) (s : Fin 16 → Fin 256 → EReal) (x : Fin 16 × Fin 256) : EReal :=
  if x.1 = a then (if x.2 ≤ r then s x.1 x.2 else ⊥) else if Kept a g x.1 then s x.1 x.2 else ⊥

/-- The places of block `n`. -/
def block (n : Fin 16) : Finset (Fin 16 × Fin 256) := Finset.univ.map ⟨fun t => (n, t), fun _ _ h => (Prod.mk.inj h).2⟩

theorem mem_block (n : Fin 16) (x : Fin 16 × Fin 256) : x ∈ block n ↔ x.1 = n := by
  unfold block
  simp only [Finset.mem_map, Finset.mem_univ, true_and, Function.Embedding.coeFn_mk]
  exact ⟨fun ⟨t, h⟩ => h ▸ rfl, fun h => ⟨x.2, Prod.ext h.symm rfl⟩⟩

theorem sum_block (n : Fin 16) (f : Fin 16 × Fin 256 → EReal) : ∑ x ∈ block n, f x = ∑ t, f (n, t) := by
  unfold block; rw [Finset.sum_map]; rfl

theorem sup_block (n : Fin 16) (f : Fin 16 × Fin 256 → EReal) : (block n).sup f = Finset.univ.sup fun t => f (n, t) := by
  unfold block; rw [Finset.sup_map]; rfl

/-- The places taken up after the own block and `k` past blocks. -/
def upto (a : Fin 16) (k : ℕ) : Finset (Fin 16 × Fin 256) := Finset.univ.filter fun x => x.1 = a ∨ x.1.val < k

theorem mem_upto (a : Fin 16) (k : ℕ) (x : Fin 16 × Fin 256) : x ∈ upto a k ↔ x.1 = a ∨ x.1.val < k := by simp [upto]

theorem upto_zero (a : Fin 16) : upto a 0 = block a := by ext x; rw [mem_upto, mem_block]; simp

theorem upto_succ (a : Fin 16) (k : ℕ) (hk : k < 16) : upto a (k + 1) = upto a k ∪ block ⟨k, hk⟩ := by
  ext x; rw [Finset.mem_union, mem_upto, mem_upto, mem_block, Fin.ext_iff, Fin.ext_iff]; show _ ∨ _ ↔ _ ∨ x.1.val = k; omega

theorem disjoint_upto (a : Fin 16) (k : ℕ) (hk : k < a.val) : Disjoint (upto a k) (block ⟨k, hk.trans a.isLt⟩) := by
  rw [Finset.disjoint_left]
  intro x h1 h2
  rw [mem_upto, Fin.ext_iff] at h1
  rw [mem_block, Fin.ext_iff] at h2
  have h2' : x.1.val = k := h2
  omega

variable (i : grid0.Coords) (a : Fin 16) (ha : (i 2).val = a.val) (x0 : Vec Ideal S1x256x128 .bf16) (x1 : Vec Ideal S1x4096x128 .bf16)
  (x2 : Vec Ideal S1x1x16x128x256 .bf16) (x3 : Vec Ideal S1x16x128 .f32) (r : Fin 256)

/-- The row's gates. -/
def gates (n : Fin 16) : EReal := k0_pay16 (F := Ideal) x0 x3 (ix2 n r)

/-- The row's scores. -/
def scores (n : Fin 16) (t : Fin 256) : EReal := sc x0 (keyBlock x1 n.val) t r

/-- The row's masked scores. -/
def table : Fin 16 × Fin 256 → EReal := masked a r (gates x0 x3 r) (scores x0 x1 r)

/-- The values weighed. -/
def weights (d : Fin 128) (x : Fin 16 × Fin 256) : EReal := valBlock (F := Ideal) x2 x.1.val (ix5 0 0 0 d x.2)

include ha in
theorem own_table (t : Fin 256) : k0_pay47 (F := Ideal) (k0_pay15 x0) (keyBlock x1 (i 2).val) (ix2 t r) = table a x0 x1 x3 r (a, t) := by
  rw [own_apply, ha]
  simp [table, masked, scores]

include ha in
theorem past_table (n : ℕ) (hn : n < a.val) (t : Fin 256) :
    k0_pay2 (F := Ideal) (k0_pay15 x0) (keyBlock x1 n) (maskRow (biasOf i x0 x3) n) (ix2 t r)
      = table a x0 x1 x3 r (⟨n, hn.trans a.isLt⟩, t) := by
  have hb : maskRow (biasOf i x0 x3) n (ix2 0 r) = if Kept a (gates x0 x3 r) ⟨n, hn.trans a.isLt⟩ then 0 else ⊥ := by
    have e : (⟨n % 16, Nat.mod_lt _ (by decide)⟩ : Fin 16) = ⟨n, hn.trans a.isLt⟩ := Fin.ext (Nat.mod_eq_of_lt (hn.trans a.isLt))
    show biasOf i x0 x3 (ix2 ⟨n % 16, Nat.mod_lt _ (by decide)⟩ r) = _
    rw [e, bias_apply i a ha]
    rfl
  rw [score_apply, hb]
  have hne : (⟨n, hn.trans a.isLt⟩ : Fin 16) ≠ a := fun c => by have := congrArg Fin.val c; simp only at this; omega
  unfold table masked
  rw [if_neg hne]
  by_cases c : Kept a (gates x0 x3 r) ⟨n, hn.trans a.isLt⟩
  · rw [if_pos c, if_pos c, add_zero]; rfl
  · rw [if_neg c, if_neg c, EReal.add_bot]

theorem carry0_max : (carry i x0 x1 x2 x3 0).1 = k0_pay48 (k0_pay15 x0) (keyBlock x1 (i 2).val) := by rw [carry]

theorem carry0_sum : (carry i x0 x1 x2 x3 0).2.1 = k0_pay50 (k0_pay15 x0) (keyBlock x1 (i 2).val) := by rw [carry]

theorem carry0_acc : (carry i x0 x1 x2 x3 0).2.2
    = k0_pay1 (k0_pay49 (k0_pay15 x0) (keyBlock x1 (i 2).val)) (valBlock x2 (i 2).val) := by rw [carry]

theorem carry_max (k : ℕ) : (carry i x0 x1 x2 x3 (k + 1)).1
    = k0_pay3 (k0_pay15 x0) (carry i x0 x1 x2 x3 k).1 (keyBlock x1 k) (maskRow (biasOf i x0 x3) k) := by rw [carry]

theorem carry_sum (k : ℕ) : (carry i x0 x1 x2 x3 (k + 1)).2.1
    = k0_pay6 (k0_pay15 x0) (carry i x0 x1 x2 x3 k).1 (carry i x0 x1 x2 x3 k).2.1 (keyBlock x1 k) (maskRow (biasOf i x0 x3) k) := by
  rw [carry]

theorem carry_acc (k : ℕ) : (carry i x0 x1 x2 x3 (k + 1)).2.2
    = k0_pay7 (k0_pay15 x0) (carry i x0 x1 x2 x3 k).1 (carry i x0 x1 x2 x3 k).2.2 (keyBlock x1 k) (maskRow (biasOf i x0 x3) k)
      (valBlock x2 k) := by
  rw [carry]

include ha in
/-- The loop's values over the row, before it and after every trip. -/
theorem run_carry (he : ∀ x, table a x0 x1 x3 r x ≠ ⊤) (hr : table a x0 x1 x3 r (a, r) ≠ ⊥) (k : ℕ) (hk : k ≤ a.val) :
    Run (table a x0 x1 x3 r) (weights x2) (upto a k) ((carry i x0 x1 x2 x3 k).1 (ix2 0 r)) ((carry i x0 x1 x2 x3 k).2.1 (ix2 0 r))
      fun d => (carry i x0 x1 x2 x3 k).2.2 (ix2 d r) := by
  induction k with
  | zero =>
    have hm : (carry i x0 x1 x2 x3 0).1 (ix2 0 r) = (upto a 0).sup (table a x0 x1 x3 r) := by
      rw [upto_zero, sup_block, carry0_max, max0_apply]
      exact congrArg _ (funext fun t => own_table i a ha x0 x1 x3 r t)
    have hexp (t : Fin 256) : k0_pay49 (k0_pay15 x0) (keyBlock x1 (i 2).val) (ix2 t r)
        = Ideal.exp (table a x0 x1 x3 r (a, t) - (carry i x0 x1 x2 x3 0).1 (ix2 0 r)) := by
      rw [exp0_apply, own_table i a ha x0 x1 x3 r, carry0_max]
    refine ⟨hm, ?_, fun d => ?_⟩
    · rw [upto_zero, sum_block, carry0_sum, sum0_apply]
      exact Finset.sum_congr rfl fun t _ => hexp t
    · rw [upto_zero, sum_block, carry0_acc, weigh_apply]
      exact Finset.sum_congr rfl fun t _ => by rw [hexp t, ha]; rfl
  | succ k ih =>
    have hka : k < a.val := hk
    have h := (ih hka.le).step he ⟨(a, r), (mem_upto _ _ _).mpr (.inl rfl), hr⟩ (disjoint_upto a k hka)
    rw [← upto_succ] at h
    have hm : (carry i x0 x1 x2 x3 (k + 1)).1 (ix2 0 r)
        = max ((carry i x0 x1 x2 x3 k).1 (ix2 0 r)) ((block ⟨k, hka.trans a.isLt⟩).sup (table a x0 x1 x3 r)) := by
      rw [sup_block, carry_max, max1_apply]
      exact congrArg _ (congrArg _ (funext fun t => past_table i a ha x0 x1 x3 r k hka t))
    have hexp (t : Fin 256) : k0_pay5 (k0_pay15 x0) (carry i x0 x1 x2 x3 k).1 (keyBlock x1 k) (maskRow (biasOf i x0 x3) k) (ix2 t r)
        = Ideal.exp (table a x0 x1 x3 r (⟨k, hka.trans a.isLt⟩, t) - (carry i x0 x1 x2 x3 (k + 1)).1 (ix2 0 r)) := by
      rw [exp1_apply, past_table i a ha x0 x1 x3 r k hka, carry_max]
    have hfac : k0_pay4 (k0_pay15 x0) (carry i x0 x1 x2 x3 k).1 (keyBlock x1 k) (maskRow (biasOf i x0 x3) k) (ix2 0 r)
        = Ideal.exp ((carry i x0 x1 x2 x3 k).1 (ix2 0 r) - (carry i x0 x1 x2 x3 (k + 1)).1 (ix2 0 r)) := by
      rw [factor_apply, carry_max]
    dsimp only at h
    rw [← hm] at h
    refine ⟨h.max, ?_, fun d => ?_⟩
    · rw [← h.sum, sum_block, carry_sum, sum1_apply, hfac]
      exact congrArg _ (Finset.sum_congr rfl fun t _ => hexp t)
    · rw [← h.acc d, sum_block, carry_acc, acc1_apply, hfac]
      exact congrArg _ (Finset.sum_congr rfl fun t _ => by rw [hexp t]; rfl)

end Cert.KernelIdeal.Attn
-- ==== Proof.Attn.Match.lean ====
module

public import proofs.«01_k».proof.Proof.Attn.Rows

@[expose] public section

set_option maxRecDepth 16384

noncomputable section

/-! The kernel masks the blocks a query does not attend to; the reference gathers the blocks it does. Both hold the same scores. -/

namespace Cert.Select

open Cert.Softmax Cert.KernelIdeal.Attn

variable (a : Fin 16) (r : Fin 256) (g : Fin 16 → EReal) (s : Fin 16 → Fin 256 → EReal)

/-- The block at place `j`: three picked ones, then the own block. -/
def picked (j : Fin 4) : Fin 16 := if j.val < 3 then place (past a g) ⟨j.val, by omega⟩ else a

/-- The masked score at place `j` of the gathered blocks, key `t`. -/
def gathered (y : Fin 4 × Fin 256) : EReal :=
  if y.1 = 3 then (if y.2 ≤ r then s a y.2 else ⊥) else if y.1.val < a.val then s (picked a g y.1) y.2 else ⊥

theorem picked_own : picked a g 3 = a := if_neg (by decide)

/-- A place other than the last, below the own block, holds a past block whose rank it is. -/
theorem picked_past (j : Fin 4) (h3 : j ≠ 3) (hj : j.val < a.val) :
    picked a g j < a ∧ rank a g (picked a g j) = j.val ∧ j.val < 3 := by
  have h : j.val < 3 := by
    have h4 := j.isLt
    have : j.val ≠ 3 := fun e => h3 (Fin.ext e)
    omega
  have e : picked a g j = place (past a g) ⟨j.val, by omega⟩ := if_pos h
  rw [e]
  exact ⟨(place_lt a g ⟨j.val, by omega⟩ hj).1, (place_lt a g ⟨j.val, by omega⟩ hj).2, h⟩

/-- A gathered place that is not masked is a key of the own block, or any key of a picked past block. -/
theorem gathered_cases (y : Fin 4 × Fin 256) (h : gathered a r g s y ≠ ⊥) :
    (y.1 = 3 ∧ y.2 ≤ r ∧ gathered a r g s y = s a y.2)
      ∨ (y.1 ≠ 3 ∧ y.1.val < a.val ∧ gathered a r g s y = s (picked a g y.1) y.2) := by
  unfold gathered at h ⊢
  by_cases h3 : y.1 = 3
  · rw [if_pos h3] at h ⊢
    by_cases hr : y.2 ≤ r
    · exact .inl ⟨h3, hr, if_pos hr⟩
    · exact absurd (if_neg hr) h
  · rw [if_neg h3] at h ⊢
    by_cases hj : y.1.val < a.val
    · exact .inr ⟨h3, hj, if_pos hj⟩
    · exact absurd (if_neg hj) h

/-- The two tables hold the same scores. -/
theorem same : Same (upto a a.val) Finset.univ (masked a r g s) (gathered a r g s) fun y => (picked a g y.1, y.2) where
  inj y _ z _ hy hz e := by
    have e1 : picked a g y.1 = picked a g z.1 := (Prod.mk.inj e).1
    have e2 : y.2 = z.2 := (Prod.mk.inj e).2
    refine Prod.ext ?_ e2
    rcases gathered_cases a r g s y hy with ⟨hy3, _, _⟩ | ⟨hy3, hya, _⟩ <;>
      rcases gathered_cases a r g s z hz with ⟨hz3, _, _⟩ | ⟨hz3, hza, _⟩
    · rw [hy3, hz3]
    · have := (picked_past a g z.1 hz3 hza).1
      rw [← e1, hy3, picked_own] at this
      exact absurd this (lt_irrefl a)
    · have := (picked_past a g y.1 hy3 hya).1
      rw [e1, hz3, picked_own] at this
      exact absurd this (lt_irrefl a)
    · have hp := (picked_past a g y.1 hy3 hya).2.1
      have hq := (picked_past a g z.1 hz3 hza).2.1
      rw [e1] at hp
      exact Fin.ext (hp.symm.trans hq)
  maps y _ hy := by
    rcases gathered_cases a r g s y hy with ⟨hy3, hr, e⟩ | ⟨hy3, hya, e⟩
    · rw [e, hy3, picked_own]
      refine ⟨(mem_upto _ _ _).mpr (.inl rfl), ?_⟩
      unfold masked
      rw [if_pos rfl, if_pos hr]
    · obtain ⟨h1, h2, h3⟩ := picked_past a g y.1 hy3 hya
      refine ⟨(mem_upto _ _ _).mpr (.inr h1), ?_⟩
      rw [e]
      unfold masked
      rw [if_neg h1.ne, if_pos ⟨h1, by rw [h2]; exact h3⟩]
  onto x hx hb := by
    unfold masked at hb
    by_cases h : x.1 = a
    · rw [if_pos h] at hb
      have hr : x.2 ≤ r := by
        by_contra hc
        exact hb (if_neg hc)
      rw [if_pos hr, h] at hb
      refine ⟨(3, x.2), Finset.mem_univ _, ?_, Prod.ext ((picked_own a g).trans h.symm) rfl⟩
      unfold gathered
      rw [if_pos rfl, if_pos hr]
      exact hb
    · rw [if_neg h] at hb
      have hk : Kept a g x.1 := by
        by_contra hc
        exact hb (if_neg hc)
      rw [if_pos hk] at hb
      obtain ⟨j, hja, hjr, hjp⟩ := exists_place a g x.1 hk.1
      have hj3 : j.val < 3 := hjr ▸ hk.2
      have hne : (⟨j.val, by omega⟩ : Fin 4) ≠ 3 := fun e => by
        have e' : j.val = 3 := congrArg Fin.val e
        omega
      have hp : picked a g ⟨j.val, by omega⟩ = x.1 := (if_pos hj3).trans hjp
      refine ⟨(⟨j.val, by omega⟩, x.2), Finset.mem_univ _, ?_, Prod.ext hp rfl⟩
      have e : gathered a r g s (⟨j.val, by omega⟩, x.2) = s (picked a g ⟨j.val, by omega⟩) x.2 := (if_neg hne).trans (if_pos hja)
      rw [e, hp]
      exact hb

end Cert.Select
-- ==== Proof.Attn.Array.lean ====
module

public import proofs.«01_k».proof.Proof.Attn.Block
public import proofs.«01_k».proof.Proof.Gen.KernelIdeal.Value

@[expose] public section

set_option maxRecDepth 16384

noncomputable section

/-! What the attention's result array holds after the run, entry by entry. -/

namespace Cert.KernelIdeal.Attn

open Idealize.ShloMosaic Idealize.ShloMosaic.TcCoe Idealize.SL.Sem
open Idealize.ShloMosaic.Pipeline (Dat)
open Cert.KernelIdeal Cert.KernelIdeal.Gen

variable {F : FTy → Type} [FloatOps F]

/-- The grid point of sequence `b`, head `h` and query block `i`. -/
def pt (b : Fin 4) (h : Fin 8) (i : Fin 16) : grid0.Coords := fun | 0 => b | 1 => h | 2 => i

/-- The queries of one grid point. -/
def qBlk (q : FVec F S4x4096x1024 .bf16) (b : Fin 4) (h : Fin 8) (i : Fin 16) : Vec F S1x256x128 .bf16 :=
  fun j => q (ix3 b ⟨256 * i.val + (j 1).val, by have h1 : (j 1).val < 256 := (j 1).isLt; omega⟩
    ⟨128 * h.val + (j 2).val, by have h2 : (j 2).val < 128 := (j 2).isLt; omega⟩)

/-- The keys of one sequence and head. -/
def kBlk (kb : FVec F S4x4096x1024 .bf16) (b : Fin 4) (h : Fin 8) : Vec F S1x4096x128 .bf16 :=
  fun j => kb (ix3 b (j 1) ⟨128 * h.val + (j 2).val, by have h2 : (j 2).val < 128 := (j 2).isLt; omega⟩)

/-- The values of one sequence and head. -/
def vBlk (vt : FVec F S4x8x16x128x256 .bf16) (b : Fin 4) (h : Fin 8) : Vec F S1x1x16x128x256 .bf16 :=
  fun j => vt (ix5 b h (j 2) (j 3) (j 4))

/-- The key means of one sequence and head. -/
def mBlk (km : FVec F S4x16x1024 .f32) (b : Fin 4) (h : Fin 8) : Vec F S1x16x128 .f32 :=
  fun j => km (ix3 b (j 1) ⟨128 * h.val + (j 2).val, by have h2 : (j 2).val < 128 := (j 2).isLt; omega⟩)

/-- The block one grid point writes. -/
def oBlk (q kb : FVec F S4x4096x1024 .bf16) (vt : FVec F S4x8x16x128x256 .bf16) (km : FVec F S4x16x1024 .f32)
    (b : Fin 4) (h : Fin 8) (i : Fin 16) : FVec F S1x256x128 .f32 :=
  let z := carry (pt b h i) (qBlk q b h i) (kBlk kb b h) (vBlk vt b h) (mBlk km b h) i.val
  k0_pay14 z.2.1 z.2.2

/-- The whole result. -/
def outArr (q kb : FVec F S4x4096x1024 .bf16) (vt : FVec F S4x8x16x128x256 .bf16) (km : FVec F S4x16x1024 .f32) :
    FVec F S4x4096x1024 .f32 :=
  fun j => oBlk q kb vt km (j 0) ⟨(j 2).val / 128, by have h2 : (j 2).val < 1024 := (j 2).isLt; omega⟩
    ⟨(j 1).val / 256, by have h1 : (j 1).val < 4096 := (j 1).isLt; omega⟩
    (ix3 0 ⟨(j 1).val % 256, Nat.mod_lt _ (by decide)⟩ ⟨(j 2).val % 128, Nat.mod_lt _ (by decide)⟩)

variable (m : (ℓ : Loc nD τ sig) → Buf (Elt F) ℓ) (ρ : Dev nD → PrngReg)

theorem index0 : ∀ t : Fin grid0.N, win0_0.index t 0 = (grid0.coords t 0).val ∧ win0_0.index t 1 = (grid0.coords t 2).val
    ∧ win0_0.index t 2 = (grid0.coords t 1).val := by decide +kernel

theorem index1 : ∀ t : Fin grid0.N, win0_1.index t 0 = (grid0.coords t 0).val ∧ win0_1.index t 1 = 0
    ∧ win0_1.index t 2 = (grid0.coords t 1).val := by decide +kernel

theorem index2 : ∀ t : Fin grid0.N, win0_2.index t 0 = (grid0.coords t 0).val ∧ win0_2.index t 1 = (grid0.coords t 1).val
    ∧ win0_2.index t 2 = 0 ∧ win0_2.index t 3 = 0 ∧ win0_2.index t 4 = 0 := by decide +kernel

theorem index3 : ∀ t : Fin grid0.N, win0_3.index t 0 = (grid0.coords t 0).val ∧ win0_3.index t 1 = 0
    ∧ win0_3.index t 2 = (grid0.coords t 1).val := by decide +kernel

theorem index4 : ∀ t : Fin grid0.N, win0_4.index t 0 = (grid0.coords t 0).val ∧ win0_4.index t 1 = (grid0.coords t 2).val
    ∧ win0_4.index t 2 = (grid0.coords t 1).val := by decide +kernel

theorem read0 (c : Dev nD) (t : Fin cfg0.N) :
    (iblk m c 0 t : Vec F S1x256x128 .bf16)
      = qBlk (m ((c : Thread nD τ).loc main_arg0)) (grid0.coords t 0) (grid0.coords t 1) (grid0.coords t 2) := by
  funext j
  unfold iblk
  rw [View.read_apply]
  show V m c main_arg0 _ = m ((c : Thread nD τ).loc main_arg0) _
  unfold V
  congr 1
  funext a
  apply Fin.ext
  have hj : (j 0).val < 1 := (j 0).isLt
  match a with
  | ⟨0, _⟩ => show win0_0.index t 0 * 1 + 1 * (j 0).val = (grid0.coords t 0).val; rw [(index0 t).1]; omega
  | ⟨1, _⟩ => show win0_0.index t 1 * 256 + 1 * (j 1).val = 256 * (grid0.coords t 2).val + (j 1).val; rw [(index0 t).2.1]; omega
  | ⟨2, _⟩ => show win0_0.index t 2 * 128 + 1 * (j 2).val = 128 * (grid0.coords t 1).val + (j 2).val; rw [(index0 t).2.2]; omega

theorem read1 (c : Dev nD) (t : Fin cfg0.N) :
    (iblk m c 1 t : Vec F S1x4096x128 .bf16)
      = kBlk (m ((c : Thread nD τ).loc main_arg1)) (grid0.coords t 0) (grid0.coords t 1) := by
  funext j
  unfold iblk
  rw [View.read_apply]
  show V m c main_arg1 _ = m ((c : Thread nD τ).loc main_arg1) _
  unfold V
  congr 1
  funext a
  apply Fin.ext
  have hj : (j 0).val < 1 := (j 0).isLt
  match a with
  | ⟨0, _⟩ => show win0_1.index t 0 * 1 + 1 * (j 0).val = (grid0.coords t 0).val; rw [(index1 t).1]; omega
  | ⟨1, _⟩ => show win0_1.index t 1 * 4096 + 1 * (j 1).val = (j 1).val; rw [(index1 t).2.1]; omega
  | ⟨2, _⟩ => show win0_1.index t 2 * 128 + 1 * (j 2).val = 128 * (grid0.coords t 1).val + (j 2).val; rw [(index1 t).2.2]; omega

theorem read2 (c : Dev nD) (t : Fin cfg0.N) :
    (iblk m c 2 t : Vec F S1x1x16x128x256 .bf16)
      = vBlk (m ((c : Thread nD τ).loc main_arg2)) (grid0.coords t 0) (grid0.coords t 1) := by
  funext j
  unfold iblk
  rw [View.read_apply]
  show V m c main_arg2 _ = m ((c : Thread nD τ).loc main_arg2) _
  unfold V
  congr 1
  funext a
  apply Fin.ext
  have hj : (j 0).val < 1 := (j 0).isLt
  have hj1 : (j 1).val < 1 := (j 1).isLt
  obtain ⟨e0, e1, e2, e3, e4⟩ := index2 t
  match a with
  | ⟨0, _⟩ => show win0_2.index t 0 * 1 + 1 * (j 0).val = (grid0.coords t 0).val; rw [e0]; omega
  | ⟨1, _⟩ => show win0_2.index t 1 * 1 + 1 * (j 1).val = (grid0.coords t 1).val; rw [e1]; omega
  | ⟨2, _⟩ => show win0_2.index t 2 * 16 + 1 * (j 2).val = (j 2).val; rw [e2]; omega
  | ⟨3, _⟩ => show win0_2.index t 3 * 128 + 1 * (j 3).val = (j 3).val; rw [e3]; omega
  | ⟨4, _⟩ => show win0_2.index t 4 * 256 + 1 * (j 4).val = (j 4).val; rw [e4]; omega

theorem read3 (c : Dev nD) (t : Fin cfg0.N) :
    (iblk m c 3 t : Vec F S1x16x128 .f32)
      = mBlk (m ((c : Thread nD τ).loc main_arg3)) (grid0.coords t 0) (grid0.coords t 1) := by
  funext j
  unfold iblk
  rw [View.read_apply]
  show V m c main_arg3 _ = m ((c : Thread nD τ).loc main_arg3) _
  unfold V
  congr 1
  funext a
  apply Fin.ext
  have hj : (j 0).val < 1 := (j 0).isLt
  match a with
  | ⟨0, _⟩ => show win0_3.index t 0 * 1 + 1 * (j 0).val = (grid0.coords t 0).val; rw [(index3 t).1]; omega
  | ⟨1, _⟩ => show win0_3.index t 1 * 16 + 1 * (j 1).val = (j 1).val; rw [(index3 t).2.1]; omega
  | ⟨2, _⟩ => show win0_3.index t 2 * 128 + 1 * (j 2).val = 128 * (grid0.coords t 1).val + (j 2).val; rw [(index3 t).2.2]; omega

theorem pt_coords (t : Fin cfg0.N) : pt (grid0.coords t 0) (grid0.coords t 1) (grid0.coords t 2) = grid0.coords t := by
  funext a
  match a with
  | ⟨0, _⟩ => rfl
  | ⟨1, _⟩ => rfl
  | ⟨2, _⟩ => rfl

/-- The result array, from the launch contents of the arguments. -/
abbrev result (c : Dev nD) : Buf (Elt F) ((c : Thread nD τ).loc main_v0) :=
  outArr (m ((c : Thread nD τ).loc main_arg0)) (m ((c : Thread nD τ).loc main_arg1)) (m ((c : Thread nD τ).loc main_arg2))
    (m ((c : Thread nD τ).loc main_arg3))

theorem outArr_at (q kb : FVec F S4x4096x1024 .bf16) (vt : FVec F S4x8x16x128x256 .bf16) (km : FVec F S4x16x1024 .f32)
    (j : S4x4096x1024.Idx) (b : Fin 4) (h : Fin 8) (i : Fin 16) (r : Fin 256) (d : Fin 128) (h0 : (j 0).val = b.val)
    (h1 : (j 1).val = 256 * i.val + r.val) (h2 : (j 2).val = 128 * h.val + d.val) :
    outArr q kb vt km j = oBlk q kb vt km b h i (ix3 0 r d) := by
  have e0 : j 0 = b := Fin.ext h0
  have e1 : (⟨(j 1).val / 256, by have h1 : (j 1).val < 4096 := (j 1).isLt; omega⟩ : Fin 16) = i := Fin.ext (by show (j 1).val / 256 = i.val; omega)
  have e2 : (⟨(j 1).val % 256, Nat.mod_lt _ (by decide)⟩ : Fin 256) = r := Fin.ext (by show (j 1).val % 256 = r.val; omega)
  have e3 : (⟨(j 2).val / 128, by have h2 : (j 2).val < 1024 := (j 2).isLt; omega⟩ : Fin 8) = h := Fin.ext (by show (j 2).val / 128 = h.val; omega)
  have e4 : (⟨(j 2).val % 128, Nat.mod_lt _ (by decide)⟩ : Fin 128) = d := Fin.ext (by show (j 2).val % 128 = d.val; omega)
  unfold outArr
  rw [e0, e1, e2, e3, e4]

theorem flushed_eq (c : Dev nD) (t : Fin cfg0.N) (hf : (cfg0.win 4).flush t = true) :
    (dats m 0 c).flushed 4 t = ((cfg0.win 4).blk t).view.read (Elt F) (result m c) := by
  rw [Value.flushed4_A, out_carry, read0, read1, read2, read3]
  obtain ⟨e0, e1, e2⟩ := index4 t
  funext j
  have hj0 : (j 0).val < 1 := (j 0).isLt
  rw [View.read_apply]
  refine Eq.trans ?_ (outArr_at _ _ _ _ _ (grid0.coords t 0) (grid0.coords t 1) (grid0.coords t 2) (j 1) (j 2) ?_ ?_ ?_).symm
  · show k0_pay14 _ _ _ = oBlk _ _ _ _ _ _ _ _
    unfold oBlk
    dsimp only
    rw [pt_coords]
    congr 1
    funext a
    apply Fin.ext
    match a with
    | ⟨0, _⟩ => show (j 0).val = 0; omega
    | ⟨1, _⟩ => rfl
    | ⟨2, _⟩ => rfl
  · show win0_4.index t 0 * 1 + 1 * (j 0).val = (grid0.coords t 0).val; rw [e0]; omega
  · show win0_4.index t 1 * 256 + 1 * (j 1).val = 256 * (grid0.coords t 2).val + (j 1).val; rw [e1]; omega
  · show win0_4.index t 2 * 128 + 1 * (j 2).val = 128 * (grid0.coords t 1).val + (j 2).val; rw [e2]; omega

theorem point_coords : ∀ t : Fin grid0.N, (grid0.coords t 0).val = t.val / 128 ∧ (grid0.coords t 1).val = t.val / 16 % 8
    ∧ (grid0.coords t 2).val = t.val % 16 := by decide +kernel

theorem final (c : Dev nD) : (dats m 0 c).arrAt 4 cfg0.N = result m c :=
  (dats m 0 c).arrAt_eq_of_cover 4 (result m c) (flushed_eq m c) fun j => by
    have h0 : (j 0 : Nat) < 4 := (j 0).isLt
    have h1 : (j 1 : Nat) < 4096 := (j 1).isLt
    have h2 : (j 2 : Nat) < 1024 := (j 2).isLt
    have hN : cfg0.N = 512 := N_0
    refine ⟨⟨(j 0 : Nat) * 128 + (j 2 : Nat) / 128 * 16 + (j 1 : Nat) / 256, by omega⟩, flush0_4 _, ?_⟩
    generalize ht : (⟨(j 0 : Nat) * 128 + (j 2 : Nat) / 128 * 16 + (j 1 : Nat) / 256, _⟩ : Fin cfg0.N) = t
    have htv : t.val = (j 0 : Nat) * 128 + (j 2 : Nat) / 128 * 16 + (j 1 : Nat) / 256 := by rw [← ht]
    obtain ⟨e0, e1, e2⟩ := index4 t
    obtain ⟨c0, c1, c2⟩ := point_coords t
    show j ∈ ((View.whole main_v0).slice (win0_4.rect t)).set
    rw [View.set_slice_whole, Rect.mem_set_unit]
    intro a
    match a with
    | ⟨0, _⟩ => show win0_4.index t 0 * 1 ≤ (j 0 : Nat) ∧ (j 0 : Nat) < win0_4.index t 0 * 1 + 1; rw [e0, c0]; omega
    | ⟨1, _⟩ => show win0_4.index t 1 * 256 ≤ (j 1 : Nat) ∧ (j 1 : Nat) < win0_4.index t 1 * 256 + 256; rw [e1, c2]; omega
    | ⟨2, _⟩ => show win0_4.index t 2 * 128 ≤ (j 2 : Nat) ∧ (j 2 : Nat) < win0_4.index t 2 * 128 + 128; rw [e2, c1]; omega

/-- The run: the result array as above, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Attn
-- ==== Proof.Attn.Own.lean ====
module

public import proofs.«01_k».proof.Proof.Attn.Select
public import proofs.«01_k».proof.Proof.Gen.ReferenceIdeal.Read
public import Idealize.ShloMosaic.Lib.Pointwise
public import Idealize.ShloMosaic.Lib.Pipeline.Value
public import Idealize.ShloMosaic.Lib.WordCmp

@[expose] public section

set_option maxRecDepth 16384

noncomputable section

/-! The reference's block of each query, and its gates over the past blocks. -/

namespace Cert.ReferenceIdeal.Attn

open Idealize.ShloMosaic Idealize.ShloMosaic.TcCoe Idealize.ShloMosaic.Tactic
open Cert.ReferenceIdeal Cert.ReferenceIdeal.Read Cert.Select

/-- The sign of a word. -/
def sgn (x : BitVec 32) : BitVec 32 := if x = 0 then 0 else if x.msb then -1 else 1

/-- Floor division by 256, as the reference takes it: the quotient, less one where the signs differ and a remainder is left. -/
def floorDiv (x : BitVec 32) : BitVec 32 :=
  Scalar.select (IntOp.andi (IntOp.cmpi .ne (sgn x) (sgn 256#32)) (IntOp.cmpi .ne (IntOp.remsi .host x 256#32) 0#32))
    (IntOp.subi (IntOp.divsi .host x 256#32) 1#32) (IntOp.divsi .host x 256#32)

theorem floorDiv_ofNat : ∀ s : Fin 4096, floorDiv (BitVec.ofNat 32 s.val) = BitVec.ofNat 32 (s.val / 256) := by
  decide +kernel

/-- Each query's own block. -/
theorem own_word (i : S4096.Idx) : val_main_v11 (F := Ideal) i = BitVec.ofNat 32 ((i 0).val / 256) := by
  refine Eq.trans ?_ (floorDiv_ofNat (i 0))
  rw [val_main_v11_apply, val_main_call0_v11_apply, val_main_call0_v13_apply, val_main_call0_v6_apply, val_main_call0_v10_apply,
    val_main_call0_v2_apply, val_main_call0_v8_apply, val_main_call0_v1_apply, val_main_call0_v5_apply, val_main_call0_v7_apply,
    val_main_call0_v9_apply, val_main_call0_v12_apply]
  rfl

/-- Column `k` of head `h`. -/
def col (h : Fin 8) (k : Fin 128) : Fin 1024 := ⟨h.val * 128 + k.val, by omega⟩

/-- The block of a query. -/
def own (s : Fin 4096) : Fin 16 := ⟨s.val / 256, by omega⟩

/-- A query's place in its block. -/
def inner (s : Fin 4096) : Fin 256 := ⟨s.val % 256, Nat.mod_lt _ (by decide)⟩

/-- Key `t` of block `n`. -/
def key (n : Fin 16) (t : Fin 256) : Fin 4096 := ⟨n.val * 256 + t.val, by omega⟩

theorem q_apply (x0 : (⟨S4x4096x1024, .bf16⟩ : BufTy).Contents (Elt Ideal)) (j : S4x8x4096x128.Idx) :
    val_main_v2 (F := Ideal) x0 j = x0 (ix3 (j 0) (j 2) (col (j 1) (j 3))) := by
  rw [val_main_v2_apply, val_main_v1_apply, val_main_v0_apply]
  refine congrArg x0 (funext fun a => Fin.ext ?_)
  have h0 : (j 0).val < 4 := (j 0).isLt
  have h1 : (j 1).val < 8 := (j 1).isLt
  have h2 : (j 2).val < 4096 := (j 2).isLt
  have h3 : (j 3).val < 128 := (j 3).isLt
  match a with
  | ⟨0, _⟩ => show _ = (j 0).val; simp [idx_main_v1, idx_main_v2]; omega
  | ⟨1, _⟩ => show _ = (j 2).val; simp [idx_main_v1, idx_main_v2]; omega
  | ⟨2, _⟩ => show _ = (j 1).val * 128 + (j 3).val; simp [idx_main_v1, idx_main_v2]; omega

theorem k_apply (x1 : (⟨S4x4096x1024, .bf16⟩ : BufTy).Contents (Elt Ideal)) (j : S4x8x16x256x128.Idx) :
    val_main_v5 (F := Ideal) x1 j = x1 (ix3 (j 0) (key (j 2) (j 3)) (col (j 1) (j 4))) := by
  rw [val_main_v5_apply, val_main_v4_apply, val_main_v3_apply]
  refine congrArg x1 (funext fun a => Fin.ext ?_)
  have h0 : (j 0).val < 4 := (j 0).isLt
  have h1 : (j 1).val < 8 := (j 1).isLt
  have h2 : (j 2).val < 16 := (j 2).isLt
  have h3 : (j 3).val < 256 := (j 3).isLt
  have h4 : (j 4).val < 128 := (j 4).isLt
  match a with
  | ⟨0, _⟩ => show _ = (j 0).val; simp [idx_main_v4, idx_main_v5]; omega
  | ⟨1, _⟩ => show _ = (j 2).val * 256 + (j 3).val; simp [idx_main_v4, idx_main_v5]; omega
  | ⟨2, _⟩ => show _ = (j 1).val * 128 + (j 4).val; simp [idx_main_v4, idx_main_v5]; omega

theorem v_apply (x2 : (⟨S4x8x16x128x256, .bf16⟩ : BufTy).Contents (Elt Ideal)) (j : S4x8x16x256x128.Idx) :
    val_main_v7 (F := Ideal) x2 j = x2 (ix5 (j 0) (j 1) (j 2) (j 4) (j 3)) := by
  rw [val_main_v7_apply, val_main_v6_apply]
  refine congrArg x2 (funext fun a => Fin.ext ?_)
  match a with
  | ⟨0, _⟩ => rfl
  | ⟨1, _⟩ => rfl
  | ⟨2, _⟩ => rfl
  | ⟨3, _⟩ => rfl
  | ⟨4, _⟩ => rfl

theorem km_apply (x3 : (⟨S4x16x1024, .f32⟩ : BufTy).Contents (Elt Ideal)) (j : S4x8x16x128.Idx) :
    val_main_v9 (F := Ideal) x3 j = x3 (ix3 (j 0) (j 2) (col (j 1) (j 3))) := by
  rw [val_main_v9_apply, val_main_v8_apply]
  refine congrArg x3 (funext fun a => Fin.ext ?_)
  have h0 : (j 0).val < 4 := (j 0).isLt
  have h1 : (j 1).val < 8 := (j 1).isLt
  have h2 : (j 2).val < 16 := (j 2).isLt
  have h3 : (j 3).val < 128 := (j 3).isLt
  match a with
  | ⟨0, _⟩ => show _ = (j 0).val; simp [idx_main_v8, idx_main_v9]; omega
  | ⟨1, _⟩ => show _ = (j 2).val; simp [idx_main_v8, idx_main_v9]; omega
  | ⟨2, _⟩ => show _ = (j 1).val * 128 + (j 3).val; simp [idx_main_v8, idx_main_v9]; omega

/-- The gate of a query over a block: the query's product with the mean of the block's keys. -/
def gate (x0 : (⟨S4x4096x1024, .bf16⟩ : BufTy).Contents (Elt Ideal)) (x3 : (⟨S4x16x1024, .f32⟩ : BufTy).Contents (Elt Ideal))
    (b : Fin 4) (h : Fin 8) (s : Fin 4096) (n : Fin 16) : EReal :=
  ∑ k : Fin 128, x0 (ix3 b s (col h k)) * x3 (ix3 b n (col h k))

theorem gate_apply (x0 : (⟨S4x4096x1024, .bf16⟩ : BufTy).Contents (Elt Ideal)) (x3 : (⟨S4x16x1024, .f32⟩ : BufTy).Contents (Elt Ideal))
    (i : S4x8x4096x16.Idx) : val_main_v12 (F := Ideal) x0 x3 i = gate x0 x3 (i 0) (i 1) (i 2) (i 3) := by
  rw [val_main_v12_apply]
  refine Finset.sum_congr rfl fun k _ => ?_
  rw [q_apply, km_apply]
  rfl

theorem slt_ofNat {a b : ℕ} (ha : a < 2 ^ 31) (hb : b < 2 ^ 31) :
    IntOp.cmpi .slt (BitVec.ofNat 32 a) (BitVec.ofNat 32 b) = BitVec.ofBool (decide (a < b)) := WordCmp.cmpi_slt_ofNat ha hb

theorem negInf : FloatOps.ofBits (F := Ideal) .f32 0xFF800000#32 = (⊥ : EReal) := by
  show Ideal.ofBits .f32 0xFF800000#32 = ⊥
  simp [Ideal.ofBits, Ideal.ieee]

/-- The gates with every block that is not a past one at `-∞`. -/
theorem past_apply (x0 : (⟨S4x4096x1024, .bf16⟩ : BufTy).Contents (Elt Ideal)) (x3 : (⟨S4x16x1024, .f32⟩ : BufTy).Contents (Elt Ideal))
    (i : S4x8x4096x16.Idx) : val_main_v19 (F := Ideal) x0 x3 i = past (own (i 2)) (gate x0 x3 (i 0) (i 1) (i 2)) (i 3) := by
  have h2 : (i 2).val < 4096 := (i 2).isLt
  have h3 : (i 3).val < 16 := (i 3).isLt
  rw [val_main_v19_apply, val_main_call1_v1_apply, val_main_v18_apply, val_main_v16_apply, val_main_v14_apply, val_main_v13_apply,
    val_main_v17_apply, val_main_v15_apply, own_word, gate_apply, val_main_call1_v2_apply]
  show Scalar.select (IntOp.cmpi .slt (BitVec.ofNat 32 (i 3).val) (BitVec.ofNat 32 ((i 2).val / 256))) _
    (FloatOps.ofBits (F := Ideal) .f32 0xFF800000#32) = if (i 3) < own (i 2) then _ else _
  rw [slt_ofNat (by omega) (by omega), negInf]
  have e : (i 3 < own (i 2)) ↔ (i 3).val < (i 2).val / 256 := Iff.rfl
  by_cases h : (i 3).val < (i 2).val / 256 <;> simp [Scalar.select, h, e]

end Cert.ReferenceIdeal.Attn
-- ==== Proof.Attn.Route.lean ====
module

public import proofs.«01_k».proof.Proof.Attn.Own
public import Idealize.ShloMosaic.Lib.WordArith

@[expose] public section

set_option maxRecDepth 16384

noncomputable section

/-! The blocks the reference picks for each query, and the keys and values it gathers of them. -/

namespace Cert.ReferenceIdeal.Attn

open Idealize.ShloMosaic Idealize.ShloMosaic.TcCoe Idealize.ShloMosaic.Tactic
open Cert.ReferenceIdeal Cert.ReferenceIdeal.Read Cert.Select

theorem gt_iff (x y : EReal) : (FloatOps.cmpfTotal (F := Ideal) (φ := .f32) .gt x y == 1#1) = true ↔ y < x := by
  show (BitVec.ofBool (decide (y < x)) == 1#1) = true ↔ y < x
  by_cases h : y < x <;> simp [h]

/-- The stable descending sort along the last axis, with a second array carried along. -/
theorem sort_apply (x : S4x8x4096x16.Idx → EReal) (y : S4x8x4096x16.Idx → BitVec 32) (j : S4x8x4096x16.Idx)
    (g : Fin 16 → EReal) (k : Fin 16) (hg : ∀ n : Fin 16, x (j.along 3 n) = g n) (hk : j 3 = k) :
    (Host.sort2 S4x8x4096x16 3 (fun l r => FloatOps.cmpfTotal (F := Ideal) (φ := .f32) .gt l.1 r.1) x y).2 j
      = y (j.along 3 (place g k)) := by
  unfold Host.sort2
  rw [dif_pos (by decide)]
  subst hk
  dsimp only
  refine congrArg (fun f : Fin 16 → Fin 16 => y (j.along 3 (f (j 3)))) (sortedFrom_eq g _ fun a b => ?_)
  refine (gt_iff _ _).trans ?_
  rw [← hg a, ← hg b]
  exact Iff.rfl

/-- The gates along the last axis. -/
theorem line_apply (x0 : (⟨S4x4096x1024, .bf16⟩ : BufTy).Contents (Elt Ideal)) (x3 : (⟨S4x16x1024, .f32⟩ : BufTy).Contents (Elt Ideal))
    (j : S4x8x4096x16.Idx) (b : Fin 4) (h : Fin 8) (s : Fin 4096) (h0 : (j 0).val = b.val) (h1 : (j 1).val = h.val)
    (h2 : (j 2).val = s.val) (n : Fin 16) : val_main_v19 (F := Ideal) x0 x3 (j.along 3 n) = past (own s) (gate x0 x3 b h s) n := by
  rw [past_apply]
  have e0 : j.along 3 n 0 = b := Fin.ext h0
  have e1 : j.along 3 n 1 = h := Fin.ext h1
  have e2 : j.along 3 n 2 = s := Fin.ext h2
  have e3 : j.along 3 n 3 = n := rfl
  rw [e0, e1, e2, e3]

/-- The blocks at the first three places of the gates. -/
theorem top_apply (x0 : (⟨S4x4096x1024, .bf16⟩ : BufTy).Contents (Elt Ideal)) (x3 : (⟨S4x16x1024, .f32⟩ : BufTy).Contents (Elt Ideal))
    (i : S4x8x4096x3.Idx) (k : Fin 16) (hk : k.val = (i 3).val) :
    val_main_indices (F := Ideal) x0 x3 i
      = BitVec.ofNat 32 (place (past (own (i 2)) (gate x0 x3 (i 0) (i 1) (i 2))) k).val := by
  unfold val_main_indices Host.topK
  dsimp only
  unfold extractStridedSlice
  refine (sort_apply _ _ _ (past (own (i 2)) (gate x0 x3 (i 0) (i 1) (i 2))) k
    (line_apply x0 x3 _ (i 0) (i 1) (i 2) (Nat.zero_add _) (Nat.zero_add _) (Nat.zero_add _))
    (Fin.ext ((Nat.zero_add _).trans hk.symm))).trans ?_
  generalize place _ k = p
  rfl

/-- The block at place `j` of a query: three picked ones, then the query's own. -/
def chosen (x0 : (⟨S4x4096x1024, .bf16⟩ : BufTy).Contents (Elt Ideal)) (x3 : (⟨S4x16x1024, .f32⟩ : BufTy).Contents (Elt Ideal))
    (b : Fin 4) (h : Fin 8) (s : Fin 4096) (j : Fin 4) : Fin 16 :=
  if j.val < 3 then place (past (own s) (gate x0 x3 b h s)) ⟨j.val, by omega⟩ else own s

theorem chosen_apply (x0 : (⟨S4x4096x1024, .bf16⟩ : BufTy).Contents (Elt Ideal)) (x3 : (⟨S4x16x1024, .f32⟩ : BufTy).Contents (Elt Ideal))
    (i : S4x8x4096x4.Idx) :
    val_main_v28 (F := Ideal) x0 x3 i = BitVec.ofNat 32 (chosen x0 x3 (i 0) (i 1) (i 2) (i 3)).val := by
  have h3 : (i 3).val < 4 := (i 3).isLt
  unfold val_main_v28
  rw [concatenate_pair_apply]
  by_cases h : (i 3).val < 3
  · refine (dif_pos h).trans ((top_apply x0 x3 _ ⟨(i 3).val, by omega⟩ rfl).trans ?_)
    exact (congrArg (fun n : Fin 16 => BitVec.ofNat 32 n.val) (if_pos h : chosen x0 x3 (i 0) (i 1) (i 2) (i 3) = _)).symm
  · refine (dif_neg h).trans ?_
    rw [val_main_v27_apply, val_main_v26_apply, own_word]
    exact (congrArg (fun n : Fin 16 => BitVec.ofNat 32 n.val) (if_neg h : chosen x0 x3 (i 0) (i 1) (i 2) (i 3) = _)).symm

theorem not_slt_zero {a : ℕ} (ha : a < 2 ^ 31) : IntOp.cmpi .slt (BitVec.ofNat 32 a) 0#32 = 0#1 := by
  rw [show (0#32 : BitVec 32) = BitVec.ofNat 32 0 from rfl, slt_ofNat ha (by decide)]
  simp

/-- The index triple of a query's place: sequence, head, block. -/
theorem triple_apply (x0 : (⟨S4x4096x1024, .bf16⟩ : BufTy).Contents (Elt Ideal)) (x3 : (⟨S4x16x1024, .f32⟩ : BufTy).Contents (Elt Ideal))
    (b : Fin 4) (h : Fin 8) (s : Fin 4096) (j : Fin 4) :
    val_main_v53 (F := Ideal) x0 x3 (ix5 b h s j 0) = BitVec.ofNat 32 b.val ∧
    val_main_v53 (F := Ideal) x0 x3 (ix5 b h s j 1) = BitVec.ofNat 32 h.val ∧
    val_main_v53 (F := Ideal) x0 x3 (ix5 b h s j 2) = BitVec.ofNat 32 (chosen x0 x3 b h s j).val := by
  unfold val_main_v53
  refine ⟨?_, ?_, ?_⟩
  · rw [concatenate_cons_apply, concatenateAt_cons]
    refine (dif_pos (show (0 : ℕ) < 1 by decide)).trans ?_
    rw [val_main_v50_apply, val_main_v48_apply, val_main_v37_apply,
      val_main_v34_apply, val_main_v30_apply, val_main_v33_apply, val_main_v29_apply]
    show Scalar.select (IntOp.cmpi .slt (BitVec.ofNat 32 b.val) 0#32) _ (BitVec.ofNat 32 b.val) = _
    rw [not_slt_zero (by omega)]
    rfl
  · rw [concatenate_cons_apply, concatenateAt_cons]
    refine (dif_neg (show ¬ (1 : ℕ) < 1 by decide)).trans ?_
    rw [concatenateAt_cons]
    refine (dif_pos (show (1 : ℕ) - 1 < 1 by decide)).trans ?_
    rw [val_main_v51_apply, val_main_v49_apply, val_main_v42_apply,
      val_main_v39_apply, val_main_v32_apply, val_main_v38_apply, val_main_v31_apply]
    show Scalar.select (IntOp.cmpi .slt (BitVec.ofNat 32 h.val) 0#32) _ (BitVec.ofNat 32 h.val) = _
    rw [not_slt_zero (by omega)]
    rfl
  · rw [concatenate_cons_apply, concatenateAt_cons]
    refine (dif_neg (show ¬ (2 : ℕ) < 1 by decide)).trans ?_
    rw [concatenateAt_cons]
    refine (dif_neg (show ¬ (2 : ℕ) - 1 < 1 by decide)).trans ?_
    rw [concatenateAt_singleton, val_main_v52_apply, val_main_v47_apply, val_main_v44_apply, chosen_apply, val_main_v43_apply]
    show Scalar.select (IntOp.cmpi .slt (BitVec.ofNat 32 (chosen x0 x3 b h s j).val) 0#32) _
      (BitVec.ofNat 32 (chosen x0 x3 b h s j).val) = _
    rw [not_slt_zero (by omega)]
    rfl

theorem triple'_apply (x0 : (⟨S4x4096x1024, .bf16⟩ : BufTy).Contents (Elt Ideal)) (x3 : (⟨S4x16x1024, .f32⟩ : BufTy).Contents (Elt Ideal)) :
    val_main_v75 (F := Ideal) x0 x3 = val_main_v53 (F := Ideal) x0 x3 := rfl

/-- A gather of whole blocks by index triples. -/
theorem gather_apply (x : S4x8x16x256x128.Idx → EReal) (idx : IVec S4x8x4096x4x3 32) (i : S4x8x4096x4x256x128.Idx)
    (b : Fin 4) (h : Fin 8) (n : Fin 16)
    (hb : idx (ix5 (i 0) (i 1) (i 2) (i 3) 0) = BitVec.ofNat 32 b.val)
    (hh : idx (ix5 (i 0) (i 1) (i 2) (i 3) 1) = BitVec.ofNat 32 h.val)
    (hn : idx (ix5 (i 0) (i 1) (i 2) (i 3) 2) = BitVec.ofNat 32 n.val) :
    Host.gather gather_S4x8x16x256x128_S4x8x4096x4x3_S4x8x4096x4x256x128_45_012_n_n_012_4_111256128 x idx i
      = x (ix5 b h n (i 4) (i 5)) := by
  unfold Host.gather
  have sib : ∀ c (e : Fin 3), c.val = e.val →
      gather_S4x8x16x256x128_S4x8x4096x4x3_S4x8x4096x4x256x128_45_012_n_n_012_4_111256128.siIdx i c
        = ix5 (i 0) (i 1) (i 2) (i 3) e := fun c e he => by
    funext a
    match a with
    | ⟨0, _⟩ => rfl
    | ⟨1, _⟩ => rfl
    | ⟨2, _⟩ => rfl
    | ⟨3, _⟩ => rfl
    | ⟨4, _⟩ => exact Fin.ext he
  refine congrArg x (funext fun a => Fin.ext ?_)
  match a with
  | ⟨0, _⟩ =>
    refine (congrArg (fun w : BitVec 32 => min w.toInt.toNat 3 + 0 + 0) ((congrArg idx (sib _ 0 rfl)).trans hb)).trans ?_
    rw [WordArith.toInt_ofNat_small _ (by omega)]
    show min ((b.val : Int)).toNat 3 + 0 + 0 = b.val
    omega
  | ⟨1, _⟩ =>
    refine (congrArg (fun w : BitVec 32 => min w.toInt.toNat 7 + 0 + 0) ((congrArg idx (sib _ 1 rfl)).trans hh)).trans ?_
    rw [WordArith.toInt_ofNat_small _ (by omega)]
    show min ((h.val : Int)).toNat 7 + 0 + 0 = h.val
    omega
  | ⟨2, _⟩ =>
    refine (congrArg (fun w : BitVec 32 => min w.toInt.toNat 15 + 0 + 0) ((congrArg idx (sib _ 2 rfl)).trans hn)).trans ?_
    rw [WordArith.toInt_ofNat_small _ (by omega)]
    show min ((n.val : Int)).toNat 15 + 0 + 0 = n.val
    omega
  | ⟨3, _⟩ => show 0 + 0 + (i 4).val = (i 4).val; omega
  | ⟨4, _⟩ => show 0 + 0 + (i 5).val = (i 5).val; omega

/-- The keys of a query's places. -/
theorem keys_apply (x0 x1 : (⟨S4x4096x1024, .bf16⟩ : BufTy).Contents (Elt Ideal)) (x3 : (⟨S4x16x1024, .f32⟩ : BufTy).Contents (Elt Ideal))
    (i : S4x8x4096x4x256x128.Idx) : val_main_v54 (F := Ideal) x0 x1 x3 i
      = x1 (ix3 (i 0) (key (chosen x0 x3 (i 0) (i 1) (i 2) (i 3)) (i 4)) (col (i 1) (i 5))) := by
  unfold val_main_v54
  have t := triple_apply x0 x3 (i 0) (i 1) (i 2) (i 3)
  rw [gather_apply _ _ i _ _ _ t.1 t.2.1 t.2.2, k_apply]
  rfl

/-- The values of a query's places. -/
theorem values_apply (x0 : (⟨S4x4096x1024, .bf16⟩ : BufTy).Contents (Elt Ideal)) (x2 : (⟨S4x8x16x128x256, .bf16⟩ : BufTy).Contents (Elt Ideal))
    (x3 : (⟨S4x16x1024, .f32⟩ : BufTy).Contents (Elt Ideal))
    (i : S4x8x4096x4x256x128.Idx) : val_main_v76 (F := Ideal) x0 x2 x3 i
      = x2 (ix5 (i 0) (i 1) (chosen x0 x3 (i 0) (i 1) (i 2) (i 3)) (i 5) (i 4)) := by
  unfold val_main_v76
  rw [triple'_apply]
  have t := triple_apply x0 x3 (i 0) (i 1) (i 2) (i 3)
  rw [gather_apply _ _ i _ _ _ t.1 t.2.1 t.2.2, v_apply]
  rfl

end Cert.ReferenceIdeal.Attn
-- ==== Proof.Attn.Attend.lean ====
module

public import proofs.«01_k».proof.Proof.Attn.Route
public import Idealize.ShloMosaic.Lib.TwoAxisContraction

@[expose] public section

set_option maxRecDepth 16384

noncomputable section

/-! What the reference computes for one query: the softmax over its four blocks, and the weighted sum of their values. -/

namespace Cert.ReferenceIdeal.Attn

open Idealize.ShloMosaic Idealize.ShloMosaic.TcCoe Idealize.ShloMosaic.Tactic
open Cert.ReferenceIdeal Cert.ReferenceIdeal.Read Cert.Select

variable (x0 x1 : (⟨S4x4096x1024, .bf16⟩ : BufTy).Contents (Elt Ideal)) (x2 : (⟨S4x8x16x128x256, .bf16⟩ : BufTy).Contents (Elt Ideal))
  (x3 : (⟨S4x16x1024, .f32⟩ : BufTy).Contents (Elt Ideal))

/-- The factor on the scores. -/
def scale : EReal := Ideal.ofBits .f32 0x3DB504F3#32

/-- The score of a query against key `t` of block `n`. -/
def score (b : Fin 4) (h : Fin 8) (s : Fin 4096) (n : Fin 16) (t : Fin 256) : EReal :=
  (∑ k : Fin 128, x0 (ix3 b s (col h k)) * x1 (ix3 b (key n t) (col h k))) * scale

/-- The masked score of a query at place `j`, key `t`. -/
def cell (b : Fin 4) (h : Fin 8) (s : Fin 4096) (y : Fin 4 × Fin 256) : EReal :=
  if y.1 = 3 then (if y.2 ≤ inner s then score x0 x1 b h s (own s) y.2 else ⊥)
  else if y.1.val < (own s).val then score x0 x1 b h s (chosen x0 x3 b h s y.1) y.2 else ⊥

theorem cell_of_own (b : Fin 4) (h : Fin 8) (s : Fin 4096) (j : Fin 4) (t : Fin 256) (hj : j.val = 3) :
    cell x0 x1 x3 b h s (j, t) = if (own s).val * 256 + t.val ≤ s.val then score x0 x1 b h s (own s) t else ⊥ := by
  have e : (t ≤ inner s) ↔ (own s).val * 256 + t.val ≤ s.val := by
    show t.val ≤ s.val % 256 ↔ s.val / 256 * 256 + t.val ≤ s.val
    omega
  have ej : j = 3 := Fin.ext hj
  unfold cell
  simp only [ej, if_true, e]

theorem cell_of_past (b : Fin 4) (h : Fin 8) (s : Fin 4096) (j : Fin 4) (t : Fin 256) (hj : j.val ≠ 3) :
    cell x0 x1 x3 b h s (j, t) = if j.val < s.val / 256 then score x0 x1 b h s (chosen x0 x3 b h s j) t else ⊥ :=
  if_neg fun e => hj (congrArg Fin.val e)

theorem chosen_own (b : Fin 4) (h : Fin 8) (s : Fin 4096) : chosen x0 x3 b h s 3 = own s := if_neg (by decide)

theorem score_apply (i : S4x8x4096x4x256.Idx) : val_main_v79 (F := Ideal) x0 x1 x3 i
    = score x0 x1 (i 0) (i 1) (i 2) (chosen x0 x3 (i 0) (i 1) (i 2) (i 3)) (i 4) := by
  rw [val_main_v79_apply, val_main_v77_apply, val_main_v78_apply]
  refine congrArg (· * scale) (Finset.sum_congr rfl fun k _ => ?_)
  rw [q_apply, keys_apply]
  rfl

/-- The place of a key of a query's block. -/
theorem kpos_apply (i : S4x8x4096x4x256.Idx) : val_main_v87 (F := Ideal) x0 x3 i
    = BitVec.ofNat 32 ((chosen x0 x3 (i 0) (i 1) (i 2) (i 3)).val * 256 + (i 4).val) := by
  rw [val_main_v87_apply, val_main_v85_apply, val_main_v82_apply, val_main_v80_apply, chosen_apply, val_main_v81_apply,
    val_main_v86_apply, val_main_v84_apply, val_main_v83_apply]
  show BitVec.ofNat 32 (chosen x0 x3 (i 0) (i 1) (i 2) (i 3)).val * 256#32 + BitVec.ofNat 32 (i 4).val = _
  rw [show (256#32 : BitVec 32) = BitVec.ofNat 32 256 from rfl, ← BitVec.ofNat_mul, ← BitVec.ofNat_add]

/-- Whether a place is the query's own block. -/
theorem isOwn_apply (i : S1x1x1x4x1.Idx) : val_main_v91 (F := Ideal) i = BitVec.ofBool (decide ((i 3).val = 3)) := by
  have h3 : (i 3).val < 4 := (i 3).isLt
  rw [val_main_v91_apply, val_main_v90_apply, val_main_v88_apply, val_main_v89_apply]
  exact WordCmp.cmpi_eq_ofNat (w := 32) (a := (i 3).val) (b := 3) (by omega) (by decide)

/-- Whether a place holds a past block. -/
theorem picked_apply (i : S1x1x4096x4x1.Idx) (h : (i 3).val ≠ 3) :
    val_main_v94 (F := Ideal) i = BitVec.ofBool (decide ((i 3).val < (i 2).val / 256)) := by
  have h3 : (i 3).val < 4 := (i 3).isLt
  have h2 : (i 2).val < 4096 := (i 2).isLt
  rw [val_main_v94_apply]
  unfold val_main_v93
  rw [concatenate_pair_apply]
  refine (dif_pos (show (i 3).val < 3 by omega)).trans ?_
  rw [val_main_v25_apply, val_main_v23_apply, val_main_v21_apply, val_main_v20_apply, val_main_v24_apply, val_main_v22_apply, own_word]
  exact slt_ofNat (a := (i 3).val) (b := (i 2).val / 256) (by omega) (by omega)

/-- The masked scores. -/
theorem cell_apply (i : S4x8x4096x4x256.Idx) : val_main_v99 (F := Ideal) x0 x1 x3 i
    = cell x0 x1 x3 (i 0) (i 1) (i 2) (i 3, i 4) := by
  have h2 : (i 2).val < 4096 := (i 2).isLt
  have h4 : (i 4).val < 256 := (i 4).isLt
  rw [val_main_v99_apply, val_main_v98_apply, val_main_call2_v0_apply, val_main_v97_apply, val_main_call2_v1_apply,
    isOwn_apply, kpos_apply, score_apply, val_main_v96_apply, val_main_v95_apply, val_main_v10_apply, val_main_call3_v1_apply]
  show Scalar.select (Scalar.select (BitVec.ofBool (decide ((i 3).val = 3)))
      (IntOp.cmpi .sle (BitVec.ofNat 32 ((chosen x0 x3 (i 0) (i 1) (i 2) (i 3)).val * 256 + (i 4).val)) (BitVec.ofNat 32 (i 2).val)) _)
    _ (FloatOps.ofBits (F := Ideal) .f32 0xFF800000#32) = _
  rw [negInf, WordCmp.cmpi_sle_ofNat (by omega) (by omega)]
  by_cases h : (i 3).val = 3
  · have e : i 3 = (3 : Fin 4) := Fin.ext h
    refine Eq.trans ?_ (cell_of_own x0 x1 x3 (i 0) (i 1) (i 2) (i 3) (i 4) h).symm
    rw [show chosen x0 x3 (i 0) (i 1) (i 2) (i 3) = own (i 2) from by rw [e]; exact chosen_own x0 x3 _ _ _]
    by_cases hc : (own (i 2)).val * 256 + (i 4).val ≤ (i 2).val <;> simp [Scalar.select, h, hc]
  · refine Eq.trans ?_ (cell_of_past x0 x1 x3 (i 0) (i 1) (i 2) (i 3) (i 4) h).symm
    rw [picked_apply _ h]
    by_cases hc : (i 3).val < (i 2).val / 256 <;> simp [Scalar.select, h, hc]

/-- The place and key at position `k` of the four blocks laid end to end. -/
def split : Fin 1024 ≃ Fin 4 × Fin 256 where
  toFun k := (⟨k.val / 256, by omega⟩, ⟨k.val % 256, by omega⟩)
  invFun y := ⟨y.1.val * 256 + y.2.val, by have h1 := y.1.isLt; have h2 := y.2.isLt; omega⟩
  left_inv k := Fin.ext (by show k.val / 256 * 256 + k.val % 256 = k.val; omega)
  right_inv y := by
    have h2 := y.2.isLt
    exact Prod.ext (Fin.ext (by show (y.1.val * 256 + y.2.val) / 256 = y.1.val; omega))
      (Fin.ext (by show (y.1.val * 256 + y.2.val) % 256 = y.2.val; omega))

theorem flat_apply (i : S4x8x4096x1024.Idx) : val_main_v100 (F := Ideal) x0 x1 x3 i
    = cell x0 x1 x3 (i 0) (i 1) (i 2) (split (i 3)) := by
  have h0 : (i 0).val < 4 := (i 0).isLt
  have h1 : (i 1).val < 8 := (i 1).isLt
  have h2 : (i 2).val < 4096 := (i 2).isLt
  have h3 : (i 3).val < 1024 := (i 3).isLt
  rw [val_main_v100_apply, cell_apply]
  have e0 : idx_main_v100 i 0 = i 0 := Fin.ext (by show _ / 33554432 = _; omega)
  have e1 : idx_main_v100 i 1 = i 1 := Fin.ext (by show _ / 4194304 % 8 = _; omega)
  have e2 : idx_main_v100 i 2 = i 2 := Fin.ext (by show _ / 1024 % 4096 = _; omega)
  have e3 : ((idx_main_v100 i 3, idx_main_v100 i 4) : Fin 4 × Fin 256) = split (i 3) :=
    Prod.ext (Fin.ext (by show _ / 256 % 4 = (i 3).val / 256; omega)) (Fin.ext (by show _ % 256 = (i 3).val % 256; omega))
  rw [e0, e1, e2, e3]

/-- The largest masked score of a query. -/
def top (b : Fin 4) (h : Fin 8) (s : Fin 4096) : EReal := Finset.univ.sup (cell x0 x1 x3 b h s)

theorem top_eq (i : S4x8x4096.Idx) : val_main_v103 (F := Ideal) x0 x1 x3 i = top x0 x1 x3 (i 0) (i 1) (i 2) := by
  rw [val_main_v103_apply, val_main_v102_apply, val_main_cst_18_apply, negInf]
  show max ⊥ _ = _
  rw [max_eq_right bot_le]
  unfold val_main_v101 top
  have e : val_main_v100 (F := Ideal) x0 x1 x3 = fun i => cell x0 x1 x3 (i 0) (i 1) (i 2) (split (i 3)) := funext (flat_apply x0 x1 x3)
  rw [e]
  simp only [pointwise]
  rw [val_main_cst_17_apply, negInf]
  show Finset.univ.sup (fun k : Fin 1024 => cell x0 x1 x3 (i 0) (i 1) (i 2) (split k)) = _
  rw [← Finset.map_univ_equiv split, Finset.sup_map]
  rfl

theorem exp_apply (i : S4x8x4096x1024.Idx) : val_main_v107 (F := Ideal) x0 x1 x3 i
    = Ideal.exp (cell x0 x1 x3 (i 0) (i 1) (i 2) (split (i 3)) - top x0 x1 x3 (i 0) (i 1) (i 2)) := by
  rw [val_main_v107_apply, val_main_v106_apply, flat_apply, val_main_v105_apply, val_main_v104_apply, top_eq]
  rfl

/-- The sum of the exponentials of a query. -/
def mass (b : Fin 4) (h : Fin 8) (s : Fin 4096) : EReal :=
  ∑ y : Fin 4 × Fin 256, Ideal.exp (cell x0 x1 x3 b h s y - top x0 x1 x3 b h s)

theorem zero_word : FloatOps.ofBits (F := Ideal) .f32 0x00000000#32 = (0 : EReal) := by
  show Ideal.ofBits .f32 0x00000000#32 = 0
  simp [Ideal.ofBits, Ideal.ieee]

theorem mass_eq (i : S4x8x4096.Idx) : val_main_v108 (F := Ideal) x0 x1 x3 i = mass x0 x1 x3 (i 0) (i 1) (i 2) := by
  rw [val_main_v108_apply, val_main_cst_19_apply, zero_word]
  refine (zero_add _).trans ?_
  unfold mass
  rw [← Equiv.sum_comp split]
  refine Finset.sum_congr rfl fun k _ => ?_
  rw [exp_apply]
  rfl

/-- The weights. -/
theorem weight_apply (i : S4x8x4096x4x256.Idx) : val_main_v112 (F := Ideal) x0 x1 x3 i
    = Ideal.div (Ideal.exp (cell x0 x1 x3 (i 0) (i 1) (i 2) (i 3, i 4) - top x0 x1 x3 (i 0) (i 1) (i 2)))
        (mass x0 x1 x3 (i 0) (i 1) (i 2)) := by
  have h0 : (i 0).val < 4 := (i 0).isLt
  have h1 : (i 1).val < 8 := (i 1).isLt
  have h2 : (i 2).val < 4096 := (i 2).isLt
  have h3 : (i 3).val < 4 := (i 3).isLt
  have h4 : (i 4).val < 256 := (i 4).isLt
  rw [val_main_v112_apply, val_main_v111_apply, exp_apply, val_main_v110_apply, val_main_v109_apply, mass_eq]
  have e0 : idx_main_v112 i 0 = i 0 := Fin.ext (by show _ / 33554432 = _; omega)
  have e1 : idx_main_v112 i 1 = i 1 := Fin.ext (by show _ / 4194304 % 8 = _; omega)
  have e2 : idx_main_v112 i 2 = i 2 := Fin.ext (by show _ / 1024 % 4096 = _; omega)
  have e3 : split (idx_main_v112 i 3) = ((i 3, i 4) : Fin 4 × Fin 256) :=
    Prod.ext (Fin.ext (by show _ % 1024 / 256 = (i 3).val; omega))
      (Fin.ext (by show _ % 1024 % 256 = (i 4).val; omega))
  rw [e0, e1, e2, e3]
  show Ideal.div _ (mass x0 x1 x3 (idx_main_v112 i 0) (idx_main_v112 i 1) (idx_main_v112 i 2)) = _
  rw [e0, e1, e2]

/-- A contraction over the places and their keys. -/
theorem dot_apply (u : S4x8x4096x4x256.Idx → EReal) (v : S4x8x4096x4x256x128.Idx → EReal) (j : S4x8x4096x128.Idx) :
    Host.dotGeneral (F := Ideal) (φ₁ := .f32) (φ₂ := .f32) dot_S4x8x4096x4x256_S4x8x4096x4x256x128_S4x8x4096x128_34_34_n_5_012_012 none u v j
      = ∑ a : Fin 4, ∑ t : Fin 256, u (ix5 (j 0) (j 1) (j 2) a t) * v (ix6 (j 0) (j 1) (j 2) a t (j 3)) := by
  simp only [Host.dotGeneral]
  rw [Ideal.dotGeneral_apply, ValueIdx.sum_contr2 _ 4 256 rfl rfl rfl]
  refine Finset.sum_congr rfl fun a _ => Finset.sum_congr rfl fun t _ => ?_
  refine congrArg₂ (· * ·) (congrArg u (funext fun c => Fin.ext ?_)) (congrArg v (funext fun c => Fin.ext ?_))
  · match c with
    | ⟨0, _⟩ => rfl
    | ⟨1, _⟩ => rfl
    | ⟨2, _⟩ => rfl
    | ⟨3, _⟩ => rfl
    | ⟨4, _⟩ => rfl
  · match c with
    | ⟨0, _⟩ => rfl
    | ⟨1, _⟩ => rfl
    | ⟨2, _⟩ => rfl
    | ⟨3, _⟩ => rfl
    | ⟨4, _⟩ => rfl
    | ⟨5, _⟩ => rfl

/-- The attention of one query, at one coordinate of its head. -/
def attend (b : Fin 4) (h : Fin 8) (s : Fin 4096) (d : Fin 128) : EReal :=
  ∑ y : Fin 4 × Fin 256, x2 (ix5 b h (chosen x0 x3 b h s y.1) d y.2)
    * Ideal.div (Ideal.exp (cell x0 x1 x3 b h s y - top x0 x1 x3 b h s)) (mass x0 x1 x3 b h s)

theorem attend_apply (j : S4x8x4096x128.Idx) : val_main_v113 (F := Ideal) x0 x1 x2 x3 j
    = attend x0 x1 x2 x3 (j 0) (j 1) (j 2) (j 3) := by
  unfold val_main_v113 attend
  rw [dot_apply, Fintype.sum_prod_type]
  refine Finset.sum_congr rfl fun a _ => Finset.sum_congr rfl fun t _ => ?_
  rw [weight_apply, values_apply]
  exact mul_comm _ _

/-- The result at sequence `b`, query `s`, head `h`, coordinate `d`. -/
theorem result_apply (i : S4x4096x1024.Idx) (h : Fin 8) (d : Fin 128) (hd : (i 2).val = h.val * 128 + d.val) :
    val_main_v115 (F := Ideal) x0 x1 x2 x3 i = attend x0 x1 x2 x3 (i 0) h (i 1) d := by
  have h0 : (i 0).val < 4 := (i 0).isLt
  have h1 : (i 1).val < 4096 := (i 1).isLt
  have h2 : (i 2).val < 1024 := (i 2).isLt
  rw [val_main_v115_apply, val_main_v114_apply, attend_apply]
  have e0 : idx_main_v114 (idx_main_v115 i) 0 = i 0 := Fin.ext (by show _ / 4194304 = _; omega)
  have e1 : idx_main_v114 (idx_main_v115 i) 1 = h := Fin.ext (by show _ / 128 % 8 = _; omega)
  have e2 : idx_main_v114 (idx_main_v115 i) 2 = i 1 := Fin.ext (by show _ / 1024 % 4096 = _; omega)
  have e3 : idx_main_v114 (idx_main_v115 i) 3 = d := Fin.ext (by show _ % 128 = _; omega)
  rw [e0, e1, e2, e3]

end Cert.ReferenceIdeal.Attn
-- ==== Proof.Attn.Equal.lean ====
module

public import proofs.«01_k».proof.Proof.Attn.Match
public import proofs.«01_k».proof.Proof.Attn.Array
public import proofs.«01_k».proof.Proof.Attn.Attend

@[expose] public section

set_option maxRecDepth 16384

noncomputable section

/-! The equation: with real queries and keys the kernel's array is the reference's. -/

namespace Cert.Equal

open Idealize.ShloMosaic Idealize.ShloMosaic.TcCoe Idealize.ShloMosaic.Tactic
open Cert.Select Cert.Softmax Cert.ReferenceIdeal
open Cert.KernelIdeal.Attn (qBlk kBlk vBlk mBlk masked)

variable (q kb : FVec Ideal S4x4096x1024 .bf16) (vt : FVec Ideal S4x8x16x128x256 .bf16) (km : FVec Ideal S4x16x1024 .f32)

/-- Every entry is a real number. -/
def Real (x : FVec Ideal S4x4096x1024 .bf16) : Prop := ∀ i, ∃ z : ℝ, x i = (z : EReal)

/-- The query at place `r` of block `a`. -/
def row (a : Fin 16) (r : Fin 256) : Fin 4096 := ⟨256 * a.val + r.val, by omega⟩

theorem own_row (a : Fin 16) (r : Fin 256) : Attn.own (row a r) = a :=
  Fin.ext (by show (256 * a.val + r.val) / 256 = a.val; omega)

theorem inner_row (a : Fin 16) (r : Fin 256) : Attn.inner (row a r) = r :=
  Fin.ext (by show (256 * a.val + r.val) % 256 = r.val; omega)

theorem col_eq (h : Fin 8) (k : Fin 128) (p : 128 * h.val + k.val < 1024) : (⟨128 * h.val + k.val, p⟩ : Fin 1024) = Attn.col h k :=
  Fin.ext (by show 128 * h.val + k.val = h.val * 128 + k.val; omega)

theorem key_eq (n : Fin 16) (t : Fin 256) (p : (256 * n.val + t.val) % 4096 < 4096) :
    (⟨(256 * n.val + t.val) % 4096, p⟩ : Fin 4096) = Attn.key n t :=
  Fin.ext (by show (256 * n.val + t.val) % 4096 = n.val * 256 + t.val; omega)

theorem q_row (b : Fin 4) (h : Fin 8) (a : Fin 16) (r : Fin 256) (k : Fin 128) :
    qBlk q b h a (ix3 0 r k) = q (ix3 b (row a r) (Attn.col h k)) :=
  congrArg (fun z => q (ix3 b (row a r) z)) (col_eq h k _)

theorem k_row (b : Fin 4) (h : Fin 8) (n : Fin 16) (t : Fin 256) (k : Fin 128) :
    KernelIdeal.Attn.keyBlock (kBlk kb b h) n.val (ix3 0 t k) = kb (ix3 b (Attn.key n t) (Attn.col h k)) :=
  (congrArg (fun z => kb (ix3 b _ z)) (col_eq h k _)).trans (congrArg (fun z => kb (ix3 b z (Attn.col h k))) (key_eq n t _))

theorem m_row (b : Fin 4) (h : Fin 8) (n : Fin 16) (k : Fin 128) :
    mBlk km b h (ix3 0 n k) = km (ix3 b n (Attn.col h k)) :=
  congrArg (fun z => km (ix3 b n z)) (col_eq h k _)

theorem gates_eq (b : Fin 4) (h : Fin 8) (a : Fin 16) (r : Fin 256) :
    KernelIdeal.Attn.gates (qBlk q b h a) (mBlk km b h) r = Attn.gate q km b h (row a r) := by
  funext n
  refine (KernelIdeal.Attn.gate_apply _ _ n r).trans (Finset.sum_congr rfl fun k _ => ?_)
  rw [m_row, q_row, mul_comm]

theorem scores_eq (b : Fin 4) (h : Fin 8) (a : Fin 16) (r : Fin 256) :
    KernelIdeal.Attn.scores (qBlk q b h a) (kBlk kb b h) r = Attn.score q kb b h (row a r) := by
  funext n t
  refine congrArg (· * Attn.scale) (Finset.sum_congr rfl fun k _ => ?_)
  rw [k_row, q_row, mul_comm]

theorem weights_eq (b : Fin 4) (h : Fin 8) (d : Fin 128) (x : Fin 16 × Fin 256) :
    KernelIdeal.Attn.weights (vBlk vt b h) d x = vt (ix5 b h x.1 d x.2) := by
  have e : (⟨x.1.val % 16, Nat.mod_lt _ (by decide)⟩ : Fin 16) = x.1 := Fin.ext (Nat.mod_eq_of_lt x.1.isLt)
  show vt (ix5 b h ⟨x.1.val % 16, _⟩ d x.2) = _
  rw [e]

theorem chosen_eq (b : Fin 4) (h : Fin 8) (a : Fin 16) (r : Fin 256) (j : Fin 4) :
    Attn.chosen q km b h (row a r) j = picked a (Attn.gate q km b h (row a r)) j := by
  unfold Attn.chosen picked
  rw [own_row]

theorem cell_eq (b : Fin 4) (h : Fin 8) (a : Fin 16) (r : Fin 256) :
    Attn.cell q kb km b h (row a r) = gathered a r (Attn.gate q km b h (row a r)) (Attn.score q kb b h (row a r)) := by
  funext y
  unfold Attn.cell gathered
  rw [own_row, inner_row, chosen_eq]

/-- The factor on the scores is a real number. -/
theorem scale_real : ∃ z : ℝ, Attn.scale = (z : EReal) := by
  refine ⟨Attn.scale.toReal, (EReal.coe_toReal ?_ ?_).symm⟩
  · unfold Attn.scale
    simp [Ideal.ofBits, Ideal.ieee]
    rw [← EReal.coe_mul]
    exact EReal.coe_ne_top _
  · unfold Attn.scale
    simp [Ideal.ofBits, Ideal.ieee]
    rw [← EReal.coe_mul]
    exact EReal.coe_ne_bot _

/-- Real queries and keys have real scores. -/
theorem score_real (hq : Real q) (hk : Real kb) (b : Fin 4) (h : Fin 8) (s : Fin 4096) (n : Fin 16) (t : Fin 256) :
    ∃ z : ℝ, Attn.score q kb b h s n t = (z : EReal) := by
  obtain ⟨c, hc⟩ := scale_real
  choose f hf using hq
  choose g hg using hk
  refine ⟨(∑ k : Fin 128, f (ix3 b s (Attn.col h k)) * g (ix3 b (Attn.key n t) (Attn.col h k))) * c, ?_⟩
  unfold Attn.score
  rw [hc, EReal.coe_mul, coe_sum]
  refine congrArg (· * (c : EReal)) (Finset.sum_congr rfl fun k _ => ?_)
  rw [hf, hg, EReal.coe_mul]

/-- One entry of the kernel's block is the reference's attention. -/
theorem block_eq (hq : Real q) (hk : Real kb) (b : Fin 4) (h : Fin 8) (a : Fin 16) (r : Fin 256) (d : Fin 128) :
    KernelIdeal.Attn.oBlk q kb vt km b h a (ix3 0 r d) = Attn.attend q kb vt km b h (row a r) d := by
  have ht : KernelIdeal.Attn.table a (qBlk q b h a) (kBlk kb b h) (mBlk km b h) r
      = masked a r (Attn.gate q km b h (row a r)) (Attn.score q kb b h (row a r)) := by
    unfold KernelIdeal.Attn.table
    rw [gates_eq, scores_eq]
  have hs := score_real q kb hq hk b h (row a r)
  have he (x : Fin 16 × Fin 256) : KernelIdeal.Attn.table a (qBlk q b h a) (kBlk kb b h) (mBlk km b h) r x ≠ ⊤ := by
    obtain ⟨z, hz⟩ := hs x.1 x.2
    rw [ht]
    unfold masked
    rw [hz]
    split <;> split <;> simp
  have hr : KernelIdeal.Attn.table a (qBlk q b h a) (kBlk kb b h) (mBlk km b h) r (a, r) ≠ ⊥ := by
    obtain ⟨z, hz⟩ := hs a r
    rw [ht]
    unfold masked
    rw [if_pos rfl, if_pos le_rfl, hz]
    exact EReal.coe_ne_bot z
  have hrun := KernelIdeal.Attn.run_carry (KernelIdeal.Attn.pt b h a) a rfl (qBlk q b h a) (kBlk kb b h) (vBlk vt b h) (mBlk km b h)
    r he hr a.val le_rfl
  rw [ht] at hrun he hr
  have hout := hrun.out_same he ⟨(a, r), (KernelIdeal.Attn.mem_upto _ _ _).mpr (.inl rfl), hr⟩
    (same a r (Attn.gate q km b h (row a r)) (Attn.score q kb b h (row a r)))
    (fun d y => vt (ix5 b h (Attn.chosen q km b h (row a r) y.1) d y.2))
    (fun d y _ _ => by rw [weights_eq, chosen_eq]) d
  rw [← cell_eq] at hout
  unfold KernelIdeal.Attn.oBlk
  exact (KernelIdeal.Attn.quot_apply _ _ r d).trans hout

/-- The kernel's array is the reference's. -/
theorem array_eq (hq : Real q) (hk : Real kb) :
    KernelIdeal.Attn.outArr q kb vt km = Read.val_main_v115 (F := Ideal) q kb vt km := by
  funext j
  have h1 : (j 1).val < 4096 := (j 1).isLt
  have h2 : (j 2).val < 1024 := (j 2).isLt
  have e := KernelIdeal.Attn.outArr_at q kb vt km j (j 0) ⟨(j 2).val / 128, by omega⟩ ⟨(j 1).val / 256, by omega⟩
    ⟨(j 1).val % 256, Nat.mod_lt _ (by decide)⟩ ⟨(j 2).val % 128, Nat.mod_lt _ (by decide)⟩ rfl
    (by show (j 1).val = 256 * ((j 1).val / 256) + (j 1).val % 256; omega)
    (by show (j 2).val = 128 * ((j 2).val / 128) + (j 2).val % 128; omega)
  have hrow : row ⟨(j 1).val / 256, by omega⟩ ⟨(j 1).val % 256, Nat.mod_lt _ (by decide)⟩ = j 1 :=
    Fin.ext (by show 256 * ((j 1).val / 256) + (j 1).val % 256 = (j 1).val; omega)
  refine e.trans ((block_eq q kb vt km hq hk _ _ _ _ _).trans ?_)
  rw [hrow]
  exact (Attn.result_apply q kb vt km j ⟨(j 2).val / 128, by omega⟩ ⟨(j 2).val % 128, Nat.mod_lt _ (by decide)⟩
    (by show (j 2).val = (j 2).val / 128 * 128 + (j 2).val % 128; omega)).symm

end Cert.Equal
-- ==== Proof.Attn.Finite.lean ====
module

public import proofs.«01_k».proof.Pre_scores_finite
public import proofs.«01_k».proof.Proof.Attn.Equal

@[expose] public section

set_option maxRecDepth 16384

noncomputable section

/-! The precondition says that the queries and the keys are real numbers. -/

namespace Cert.Equal

open Idealize.ShloMosaic Cert.ReferenceIdeal

theorem pre_facts : Cert.Pre_scores_finite.Facts := ⟨by decide, by decide⟩

/-- A comparison that comes out one holds. -/
theorem real_of_lt (x : EReal) (h : Ideal.cmp .olt (max x (-x)) (Ideal.ofBits .f32 0x7F800000#32) = 1#1) : ∃ z : ℝ, x = (z : EReal) := by
  have htop : Ideal.ofBits .f32 0x7F800000#32 = ⊤ := by simp [Ideal.ofBits, Ideal.ieee]
  rw [htop] at h
  unfold Ideal.cmp at h
  have hlt : max x (-x) < ⊤ := by
    by_contra hc
    simp [hc] at h
  rw [max_lt_iff] at hlt
  refine ⟨x.toReal, (EReal.coe_toReal hlt.1.ne fun e => ?_).symm⟩
  rw [e] at hlt
  exact absurd hlt.2 (by simp)

theorem and_one : ∀ a b : BitVec 1, IntOp.andi a b = 1#1 → a = 1#1 ∧ b = 1#1 := by decide

/-- Queries and keys are real where the precondition's array is all ones. -/
theorem real_of_pre [Cert.Pre_scores_finite.Facts] (q kb : FVec Ideal S4x4096x1024 .bf16) (vt : FVec Ideal S4x8x16x128x256 .bf16)
    (km : FVec Ideal S4x16x1024 .f32) (h : Cert.Pre_scores_finite.fn (F := Ideal) q kb vt km = fun _ => 1#1) : Real q ∧ Real kb :=
  ⟨fun i => real_of_lt _ (and_one _ _ (congrFun h i)).1, fun i => real_of_lt _ (and_one _ _ (congrFun h i)).2⟩

end Cert.Equal
-- ==== Proof.Layer.lean ====
module

public import Idealize.ShloMosaic.Lib.Pointwise
public import Idealize.ShloMosaic.Lib.KernelVsHost

@[expose] public section

set_option maxRecDepth 16384

noncomputable section

/-! The functions of a row that the layers share: the norm, the gate and their constants. -/

namespace Cert.Layer

open Idealize.ShloMosaic

/-- The width of a row, as a number. -/
def width : EReal := Ideal.ofBits .f32 0x44800000#32

/-- The norm's small constant. -/
def eps : EReal := Ideal.ofBits .f32 0x358637BD#32

/-- The reciprocal root of a row's mean square. -/
def inv (f : Fin 1024 → EReal) : EReal := Ideal.rsqrt (Ideal.div (∑ k, f k * f k) width + eps)

/-- The normed row. -/
def rms (f g : Fin 1024 → EReal) (d : Fin 1024) : EReal := f d * inv f * g d

/-- The gate's function. -/
def silu (x : EReal) : EReal := x * Ideal.div 1 (1 + Ideal.exp (-x))

/-- The normed row, scaled and shifted. -/
def modulated (f g shift scale : Fin 1024 → EReal) (d : Fin 1024) : EReal := rms f g d * (1 + scale d) + shift d

/-- The rotation of one head by its row's angles. -/
def turn (p : Fin 128 → EReal) (cos sin : Fin 64 → EReal) (j : Fin 128) : EReal :=
  if h : j.val < 64 then p j * cos ⟨j.val, h⟩ - p ⟨64 + j.val, by omega⟩ * sin ⟨j.val, h⟩
  else p ⟨64 + (j.val - 64), by omega⟩ * cos ⟨j.val - 64, by omega⟩ + p ⟨j.val - 64, by omega⟩ * sin ⟨j.val - 64, by omega⟩

/-- The rotation written with a table of cosines, and a table of sines whose first half is negated. -/
theorem turn_of_tables (p : Fin 128 → EReal) (cos sin : Fin 64 → EReal) (C S : Fin 128 → EReal)
    (hC : ∀ j : Fin 64, C ⟨j.val, by omega⟩ = cos j ∧ C ⟨64 + j.val, by omega⟩ = cos j)
    (hS : ∀ j : Fin 64, S ⟨j.val, by omega⟩ = -sin j ∧ S ⟨64 + j.val, by omega⟩ = sin j) (j k : Fin 128)
    (hk : k.val = (j.val + 64) % 128) : p j * C j + p k * S j = turn p cos sin j := by
  unfold turn
  by_cases h : j.val < 64
  · have ek : k = ⟨64 + j.val, by omega⟩ := Fin.ext (by show k.val = 64 + j.val; omega)
    rw [dif_pos h, ek, show C j = _ from (hC ⟨j.val, h⟩).1, show S j = _ from (hS ⟨j.val, h⟩).1, mul_neg, ← sub_eq_add_neg]
  · have ek : k = ⟨j.val - 64, by omega⟩ := Fin.ext (by show k.val = j.val - 64; omega)
    have ej : j = ⟨64 + (j.val - 64), by omega⟩ := Fin.ext (by show j.val = 64 + (j.val - 64); omega)
    rw [dif_neg h, ek, ← congrArg p ej, (congrArg C ej).trans (hC ⟨j.val - 64, by omega⟩).2, (congrArg S ej).trans (hS ⟨j.val - 64, by omega⟩).2]

theorem zero_word : Ideal.ofBits .f32 0x00000000#32 = 0 := by simp [Ideal.ofBits, Ideal.ieee]

theorem one_word : Ideal.ofBits .f32 0x3F800000#32 = 1 := Ideal.ofBits_one_f32

end Cert.Layer
-- ==== Proof.Out.Payload.lean ====
module

public import proofs.«01_k».proof.Proof.Layer
public import proofs.«01_k».proof.Proof.Gen.OutputIdeal.Value

@[expose] public section

set_option maxRecDepth 16384

noncomputable section

/-! What the output projection's kernel computes at one row and column of its block. -/

namespace Cert.OutputIdeal.Out

open Idealize.ShloMosaic Idealize.ShloMosaic.TcCoe Idealize.ShloMosaic.Tactic
open Cert.OutputIdeal Cert.OutputIdeal.Gen Cert.Layer

variable (o gate x : FVec Ideal S1x512x1024 .f32) (mod : FVec Ideal S1x1x3072 .f32) (g : FVec Ideal S1x1024 .f32)
  (w : FVec Ideal S1024x1024 .bf16)

theorem norm_apply (r : Fin 512) (d : Fin 1024) : k0_pay2 (F := Ideal) gate o w g (ix3 0 r d)
    = rms (fun e => ∑ k : Fin 1024, (o (ix3 0 r k) * silu (gate (ix3 0 r k))) * w (ix2 k e)) (fun e => g (ix2 0 e)) d := by
  pointwise [k0_pay2]
  simp only [zero_sub]
  rfl

theorem gate_apply (r : Fin 512) (d : Fin 1024) : k0_pay3 (F := Ideal) mod (ix3 0 r d) = mod (ix3 0 0 ⟨2048 + d.val, by omega⟩) := by
  pointwise [k0_pay3]

theorem block_apply (r : Fin 512) (d : Fin 1024) :
    k0_pay1 (F := Ideal) x (k0_pay2 gate o w g) (k0_pay3 mod) (ix3 0 r d)
      = x (ix3 0 r d) + mod (ix3 0 0 ⟨2048 + d.val, by omega⟩)
        * rms (fun e => ∑ k : Fin 1024, (o (ix3 0 r k) * silu (gate (ix3 0 r k))) * w (ix2 k e)) (fun e => g (ix2 0 e)) d := by
  rw [← norm_apply o gate g w r d, ← gate_apply mod r d]
  pointwise [k0_pay1]

end Cert.OutputIdeal.Out
-- ==== Proof.Out.Array.lean ====
module

public import proofs.«01_k».proof.Proof.Out.Payload
public import proofs.«01_k».proof.Proof.Gen.OutputIdeal.Value

@[expose] public section

set_option maxRecDepth 16384

noncomputable section

/-! What the output projection's result array holds after the run, entry by entry. -/

namespace Cert.OutputIdeal.Out

open Idealize.ShloMosaic Idealize.ShloMosaic.TcCoe Idealize.SL.Sem
open Idealize.ShloMosaic.Pipeline (Dat)
open Cert.OutputIdeal Cert.OutputIdeal.Gen Cert.Layer

/-- The residual stream plus the gated, normed projection, at sequence `b`, row `n` and column `d`. -/
def at3 (o gate x : FVec Ideal S4x4096x1024 .f32) (mod : FVec Ideal S4x1x3072 .f32) (g : FVec Ideal S1024 .f32)
    (w : FVec Ideal S1024x1024 .bf16) (b : Fin 4) (n : Fin 4096) (d : Fin 1024) : EReal :=
  x (ix3 b n d) + mod (ix3 b 0 ⟨2048 + d.val, by omega⟩)
    * rms (fun e => ∑ k : Fin 1024, (o (ix3 b n k) * silu (gate (ix3 b n k))) * w (ix2 k e)) (fun e => g (ix1 e)) d

/-- The whole result. -/
def outArr (o gate x : FVec Ideal S4x4096x1024 .f32) (mod : FVec Ideal S4x1x3072 .f32) (g : FVec Ideal S1024 .f32)
    (w : FVec Ideal S1024x1024 .bf16) : FVec Ideal S4x4096x1024 .f32 := fun j => at3 o gate x mod g w (j 0) (j 1) (j 2)

variable (m : (ℓ : Loc nD τ sig) → Buf (Elt Ideal) ℓ) (ρ : Dev nD → PrngReg)

theorem z3 : (![0, 0, 0] : Fin 3 → ℕ) = fun _ => 0 := by decide
theorem z2 : (![0, 0] : Fin 2 → ℕ) = fun _ => 0 := by decide

theorem index : ∀ t : Fin grid0.N, (win0_0.index t 0 = (grid0.coords t 0).val ∧ win0_0.index t 1 = (grid0.coords t 1).val ∧ win0_0.index t 2 = 0)
    ∧ (win0_1.index t 0 = (grid0.coords t 0).val ∧ win0_1.index t 1 = (grid0.coords t 1).val ∧ win0_1.index t 2 = 0)
    ∧ (win0_2.index t 0 = (grid0.coords t 0).val ∧ win0_2.index t 1 = (grid0.coords t 1).val ∧ win0_2.index t 2 = 0)
    ∧ (win0_3.index t 0 = (grid0.coords t 0).val ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = (grid0.coords t 0).val ∧ win0_6.index t 1 = (grid0.coords t 1).val ∧ win0_6.index t 2 = 0) := by
  decide +kernel

/-- The array's row that row `r` of the block of grid point `t` is. -/
def row (t : Fin cfg0.N) (r : Fin 512) : Fin 4096 :=
  ⟨512 * (grid0.coords t 1).val + r.val, by have h : (grid0.coords t 1).val < 8 := (grid0.coords t 1).isLt; omega⟩

theorem read0 (c : Dev nD) (t : Fin cfg0.N) (r : Fin 512) (k : Fin 1024) : (iblk m c 0 t : Vec Ideal S1x512x1024 .f32) (ix3 0 r k)
    = (m ((c : Thread nD τ).loc main_arg0) : Vec Ideal S4x4096x1024 .f32) (ix3 (grid0.coords t 0) (row t r) k) := by
  unfold iblk
  rw [View.read_apply]
  refine (congrFun (V_main_arg0 m c) _).trans (congrArg (m ((c : Thread nD τ).loc main_arg0)) (funext fun a => Fin.ext ?_))
  obtain ⟨⟨e0, e1, e2⟩, -⟩ := index t
  match a with
  | ⟨0, _⟩ => show win0_0.index t 0 * 1 + 1 * 0 = (grid0.coords t 0).val; rw [e0]; omega
  | ⟨1, _⟩ => show win0_0.index t 1 * 512 + 1 * r.val = 512 * (grid0.coords t 1).val + r.val; rw [e1]; omega
  | ⟨2, _⟩ => show win0_0.index t 2 * 1024 + 1 * k.val = k.val; rw [e2]; omega

theorem read1 (c : Dev nD) (t : Fin cfg0.N) (r : Fin 512) (k : Fin 1024) : (iblk m c 1 t : Vec Ideal S1x512x1024 .f32) (ix3 0 r k)
    = (m ((c : Thread nD τ).loc main_arg1) : Vec Ideal S4x4096x1024 .f32) (ix3 (grid0.coords t 0) (row t r) k) := by
  unfold iblk
  rw [View.read_apply]
  refine (congrFun (V_main_arg1 m c) _).trans (congrArg (m ((c : Thread nD τ).loc main_arg1)) (funext fun a => Fin.ext ?_))
  obtain ⟨-, ⟨e0, e1, e2⟩, -⟩ := index t
  match a with
  | ⟨0, _⟩ => show win0_1.index t 0 * 1 + 1 * 0 = (grid0.coords t 0).val; rw [e0]; omega
  | ⟨1, _⟩ => show win0_1.index t 1 * 512 + 1 * r.val = 512 * (grid0.coords t 1).val + r.val; rw [e1]; omega
  | ⟨2, _⟩ => show win0_1.index t 2 * 1024 + 1 * k.val = k.val; rw [e2]; omega

theorem read2 (c : Dev nD) (t : Fin cfg0.N) (r : Fin 512) (k : Fin 1024) : (iblk m c 2 t : Vec Ideal S1x512x1024 .f32) (ix3 0 r k)
    = (m ((c : Thread nD τ).loc main_arg2) : Vec Ideal S4x4096x1024 .f32) (ix3 (grid0.coords t 0) (row t r) k) := by
  unfold iblk
  rw [View.read_apply]
  refine (congrFun (V_main_arg2 m c) _).trans (congrArg (m ((c : Thread nD τ).loc main_arg2)) (funext fun a => Fin.ext ?_))
  obtain ⟨-, -, ⟨e0, e1, e2⟩, -⟩ := index t
  match a with
  | ⟨0, _⟩ => show win0_2.index t 0 * 1 + 1 * 0 = (grid0.coords t 0).val; rw [e0]; omega
  | ⟨1, _⟩ => show win0_2.index t 1 * 512 + 1 * r.val = 512 * (grid0.coords t 1).val + r.val; rw [e1]; omega
  | ⟨2, _⟩ => show win0_2.index t 2 * 1024 + 1 * k.val = k.val; rw [e2]; omega

theorem read3 (c : Dev nD) (t : Fin cfg0.N) (k : Fin 3072) : (iblk m c 3 t : Vec Ideal S1x1x3072 .f32) (ix3 0 0 k)
    = (m ((c : Thread nD τ).loc main_arg3) : Vec Ideal S4x1x3072 .f32) (ix3 (grid0.coords t 0) 0 k) := by
  unfold iblk
  rw [View.read_apply]
  refine (congrFun (V_main_arg3 m c) _).trans (congrArg (m ((c : Thread nD τ).loc main_arg3)) (funext fun a => Fin.ext ?_))
  obtain ⟨-, -, -, ⟨e0, e1, e2⟩, -⟩ := index t
  match a with
  | ⟨0, _⟩ => show win0_3.index t 0 * 1 + 1 * 0 = (grid0.coords t 0).val; rw [e0]; omega
  | ⟨1, _⟩ => show win0_3.index t 1 * 1 + 1 * 0 = 0; rw [e1]
  | ⟨2, _⟩ => show win0_3.index t 2 * 3072 + 1 * k.val = k.val; rw [e2]; omega

theorem gain (c : Dev nD) : (V m c main_v0 : Vec Ideal S1x1024 .f32)
    = shapeCast S1x1024 (m ((c : Thread nD τ).loc main_arg4) : Vec Ideal S1024 .f32) shapeCasts_S1024_S1x1024 := by
  unfold_abbrev_sides
  after_results
  rfl

theorem read4 (c : Dev nD) (t : Fin cfg0.N) (k : Fin 1024) : (iblk m c 4 t : Vec Ideal S1x1024 .f32) (ix2 0 k)
    = (m ((c : Thread nD τ).loc main_arg4) : Vec Ideal S1024 .f32) (ix1 k) := by
  unfold iblk
  rw [View.read_apply]
  have e : (V m c main_v0 : Vec Ideal S1x1024 .f32) (ix2 0 k) = (m ((c : Thread nD τ).loc main_arg4) : Vec Ideal S1024 .f32) (ix1 k) := by
    rw [gain]
    pointwise
  refine Eq.trans (congrArg (V m c main_v0) (funext fun a => Fin.ext ?_)) e
  obtain ⟨-, -, -, -, ⟨e0, e1⟩, -⟩ := index t
  match a with
  | ⟨0, _⟩ => show win0_4.index t 0 * 1 + 1 * 0 = 0; rw [e0]
  | ⟨1, _⟩ => show win0_4.index t 1 * 1024 + 1 * k.val = k.val; rw [e1]; omega

theorem read5 (c : Dev nD) (t : Fin cfg0.N) (k e : Fin 1024) : (iblk m c 5 t : Vec Ideal S1024x1024 .bf16) (ix2 k e)
    = (m ((c : Thread nD τ).loc main_arg5) : Vec Ideal S1024x1024 .bf16) (ix2 k e) := by
  unfold iblk
  rw [View.read_apply]
  refine (congrFun (V_main_arg5 m c) _).trans (congrArg (m ((c : Thread nD τ).loc main_arg5)) (funext fun a => Fin.ext ?_))
  obtain ⟨-, -, -, -, -, ⟨e0, e1⟩, -⟩ := index t
  match a with
  | ⟨0, _⟩ => show win0_5.index t 0 * 1024 + 1 * k.val = k.val; rw [e0]; omega
  | ⟨1, _⟩ => show win0_5.index t 1 * 1024 + 1 * e.val = e.val; rw [e1]; omega

theorem out_apply (x0 x1 x2 : Vec Ideal S1x512x1024 .f32) (x3 : Vec Ideal S1x1x3072 .f32) (x4 : Vec Ideal S1x1024 .f32)
    (x5 : Vec Ideal S1024x1024 .bf16) (r : Fin 512) (d : Fin 1024) : out0_6 x0 x1 x2 x3 x4 x5 (ix3 0 r d)
      = x2 (ix3 0 r d) + x3 (ix3 0 0 ⟨2048 + d.val, by omega⟩)
        * rms (fun e => ∑ k : Fin 1024, (x0 (ix3 0 r k) * silu (x1 (ix3 0 r k))) * x5 (ix2 k e)) (fun e => x4 (ix2 0 e)) d := by
  unfold out0_6
  rw [View.canon_unit_zero (S := S1x512x1024) z3, View.ld_unit_zero (S := S1x512x1024) z3, View.ld_unit_zero (S := S1x512x1024) z3,
    View.ld_unit_zero (S := S1x512x1024) z3, View.ld_unit_zero (S := S1x1x3072) z3, View.ld_unit_zero (S := S1x1024) z2,
    View.ld_unit_zero (S := S1024x1024) z2]
  exact block_apply x0 x1 x2 x3 x4 x5 r d

/-- The result array, from the launch contents of the arguments. -/
abbrev result (c : Dev nD) : Buf (Elt Ideal) ((c : Thread nD τ).loc main_v1) :=
  outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem point (c : Dev nD) (t : Fin cfg0.N) (r : Fin 512) (d : Fin 1024) :
    out0_6 (iblk m c 0 t) (iblk m c 1 t) (iblk m c 2 t) (iblk m c 3 t) (iblk m c 4 t) (iblk m c 5 t) (ix3 0 r d)
      = result m c (ix3 (grid0.coords t 0) (row t r) d) := by
  rw [out_apply]
  show _ = at3 _ _ _ _ _ _ (grid0.coords t 0) (row t r) d
  unfold at3
  simp only [read0, read1, read2, read3, read4, read5]

theorem flushed_eq (c : Dev nD) (t : Fin cfg0.N) (hf : (cfg0.win 6).flush t = true) :
    (dats m 0 c).flushed 6 t = ((cfg0.win 6).blk t).view.read (Elt Ideal) (result m c) := by
  rw [Value.flushed6]
  obtain ⟨-, -, -, -, -, -, e0, e1, e2⟩ := index t
  funext j
  have hj0 : (j 0).val < 1 := (j 0).isLt
  have ej : j = ix3 0 (j 1) (j 2) := funext fun a => Fin.ext (by
    match a with
    | ⟨0, _⟩ => show (j 0).val = 0; omega
    | ⟨1, _⟩ => rfl
    | ⟨2, _⟩ => rfl)
  rw [View.read_apply]
  refine ((congrArg (out0_6 (iblk m c 0 t) (iblk m c 1 t) (iblk m c 2 t) (iblk m c 3 t) (iblk m c 4 t) (iblk m c 5 t)) ej).trans
    (point m c t (j 1) (j 2))).trans (congrArg (result m c) (funext fun a => Fin.ext ?_))
  match a with
  | ⟨0, _⟩ => show (grid0.coords t 0).val = win0_6.index t 0 * 1 + 1 * (j 0).val; rw [e0]; omega
  | ⟨1, _⟩ => show 512 * (grid0.coords t 1).val + (j 1).val = win0_6.index t 1 * 512 + 1 * (j 1).val; rw [e1]; omega
  | ⟨2, _⟩ => show (j 2).val = win0_6.index t 2 * 1024 + 1 * (j 2).val; rw [e2]; omega

theorem point_coords : ∀ t : Fin grid0.N, (grid0.coords t 0).val = t.val / 8 ∧ (grid0.coords t 1).val = t.val % 8 := by decide +kernel

theorem final (c : Dev nD) : (dats m 0 c).arrAt 6 cfg0.N = result m c :=
  (dats m 0 c).arrAt_eq_of_cover 6 (result m c) (flushed_eq m c) fun j => by
    have h0 : (j 0 : Nat) < 4 := (j 0).isLt
    have h1 : (j 1 : Nat) < 4096 := (j 1).isLt
    have h2 : (j 2 : Nat) < 1024 := (j 2).isLt
    have hN : cfg0.N = 32 := N_0
    refine ⟨⟨(j 0 : Nat) * 8 + (j 1 : Nat) / 512, by omega⟩, flush0_6 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨-, -, -, -, -, -, e0, e1, e2⟩ := index t
    obtain ⟨c0, c1⟩ := point_coords t
    show j ∈ ((View.whole main_v1).slice (win0_6.rect t)).set
    rw [View.set_slice_whole, Rect.mem_set_unit]
    intro a
    match a with
    | ⟨0, _⟩ => show win0_6.index t 0 * 1 ≤ (j 0 : Nat) ∧ (j 0 : Nat) < win0_6.index t 0 * 1 + 1; rw [e0, c0]; omega
    | ⟨1, _⟩ => show win0_6.index t 1 * 512 ≤ (j 1 : Nat) ∧ (j 1 : Nat) < win0_6.index t 1 * 512 + 512; rw [e1, c1]; omega
    | ⟨2, _⟩ => show win0_6.index t 2 * 1024 ≤ (j 2 : Nat) ∧ (j 2 : Nat) < win0_6.index t 2 * 1024 + 1024; rw [e2]; omega

/-- The run: the result array as above, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.OutputIdeal.Out
-- ==== Proof.Out.Ref.lean ====
module

public import proofs.«01_k».proof.Proof.Layer
public import proofs.«01_k».proof.Proof.Gen.OutputRefIdeal.Read

@[expose] public section

set_option maxRecDepth 16384

noncomputable section

/-! What the output projection's reference computes at one row and column. -/

namespace Cert.OutputRefIdeal.Out

open Idealize.ShloMosaic Idealize.ShloMosaic.Tactic
open Cert.OutputRefIdeal Cert.OutputRefIdeal.Gen Cert.Layer

variable (o gate x : FVec Ideal S4x4096x1024 .f32) (mod : FVec Ideal S4x1x3072 .f32) (g : FVec Ideal S1024 .f32)
  (w : FVec Ideal S1024x1024 .bf16)

theorem ref_apply (b : Fin 4) (n : Fin 4096) (d : Fin 1024) :
    Cert.OutputRefIdeal.Read.val_main_v22 (F := Ideal) o gate x mod g w (ix3 b n d)
      = x (ix3 b n d) + mod (ix3 b 0 ⟨2048 + d.val, by omega⟩)
        * rms (fun e => ∑ k : Fin 1024, (o (ix3 b n k) * silu (gate (ix3 b n k))) * w (ix2 k e)) (fun e => g (ix1 e)) d := by
  pointwise [Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_cst, Read.val_main_cst_0, Read.val_main_cst_1, Read.val_main_call0_v0, Read.val_main_call0_v1, Read.val_main_call0_v2, Read.val_main_call0_v3, Read.val_main_call0_v4, Read.val_main_call0_v5, Read.val_main_call0_cst, Read.val_main_call0_cst_0]
  rfl

end Cert.OutputRefIdeal.Out
-- ==== Proof.Out.Equal.lean ====
module

public import proofs.«01_k».proof.Proof.Out.Array
public import proofs.«01_k».proof.Proof.Out.Ref

@[expose] public section

set_option maxRecDepth 16384

noncomputable section

/-! The output projection's result array is the reference's. -/

namespace Cert.Equal

open Idealize.ShloMosaic Cert.OutputIdeal Cert.OutputIdeal.Gen

theorem out_eq (o gate x : FVec Ideal S4x4096x1024 .f32) (mod : FVec Ideal S4x1x3072 .f32) (g : FVec Ideal S1024 .f32)
    (w : FVec Ideal S1024x1024 .bf16) :
    Cert.OutputRefIdeal.Read.val_main_v22 (F := Ideal) o gate x mod g w = Cert.OutputIdeal.Out.outArr o gate x mod g w := by
  funext j
  exact (congrArg (Cert.OutputRefIdeal.Read.val_main_v22 (F := Ideal) o gate x mod g w) (ix3_eta j).symm).trans
    (Cert.OutputRefIdeal.Out.ref_apply o gate x mod g w (j 0) (j 1) (j 2))

end Cert.Equal
-- ==== Proof.Query.Payload.lean ====
module

public import proofs.«01_k».proof.Proof.Layer
public import proofs.«01_k».proof.Proof.Gen.QueryIdeal.Value

@[expose] public section

set_option maxRecDepth 16384

noncomputable section

/-! What the query projection's kernel computes at one row and column of its block. -/

namespace Cert.QueryIdeal.Query

open Idealize.ShloMosaic Idealize.ShloMosaic.TcCoe Idealize.ShloMosaic.Tactic
open Cert.QueryIdeal Cert.QueryIdeal.Gen Cert.Layer

variable (x : FVec Ideal S1x512x1024 .f32) (mod : FVec Ideal S1x1x3072 .f32) (g : FVec Ideal S1x1024 .f32)
  (w : FVec Ideal S1024x2048 .bf16)

theorem product_apply (r : Fin 512) (e : Fin 2048) : k0_pay2 (F := Ideal) mod x g w (ix2 r e)
    = ∑ k : Fin 1024, modulated (fun k => x (ix3 0 r k)) (fun k => g (ix2 0 k)) (fun k => mod (ix3 0 0 ⟨k.val, by omega⟩))
        (fun k => mod (ix3 0 0 ⟨1024 + k.val, by omega⟩)) k * w (ix2 k e) := by
  pointwise [k0_pay2]
  rfl

variable (C S v : FVec Ideal S512x128 .f32) (u : FVec Ideal S512x2048 .f32)

theorem turn_apply (r : Fin 512) (j : Fin 128) : k0_pay13 (F := Ideal) C S v 64#32 (ix3 0 r j)
    = v (ix2 r j) * C (ix2 r j) + v (ix2 r ⟨(j.val + 128 - 64) % 128, by omega⟩) * S (ix2 r j) := by
  pointwise [k0_pay13]

/-- The block of rotated queries, from the product and the two tables. -/
def turned : FVec Ideal S1x512x1024 .bf16 := fun y =>
  u (ix2 (y 1) ⟨(y 2).val, by have h : (y 2).val < 1024 := (y 2).isLt; omega⟩) * C (ix2 (y 1) ⟨(y 2).val % 128, by omega⟩)
    + u (ix2 (y 1) ⟨128 * ((y 2).val / 128) + ((y 2).val % 128 + 128 - 64) % 128, by have h : (y 2).val < 1024 := (y 2).isLt; omega⟩)
      * S (ix2 (y 1) ⟨(y 2).val % 128, by omega⟩)

/-- One head's store is its part of that block. -/
theorem piece (h : Fin 8) (o : ℕ) (ho : o = 128 * h.val) (sl : S512x2048.Slices ![0, o] S512x128)
    (inb : ∀ a, (![0, 0, o] : Fin 3 → ℕ) a + S1x512x128.size a ≤ S1x512x1024.size a) (y : S1x512x128.Idx) :
    k0_pay13 (F := Ideal) C S (extractStridedSlice S512x128 ![0, o] u sl) 64#32 y
      = turned C S u ((Rect.unit (s := S1x512x1024) ![0, 0, o] S1x512x128.size inb).idx y) := by
  subst ho
  obtain ⟨r, j, rfl⟩ : ∃ r j, y = ix3 0 r j := ⟨y 1, y 2, funext fun a => Fin.ext (by
    have hy0 : (y 0).val < 1 := (y 0).isLt
    match a with
    | ⟨0, _⟩ => show (y 0).val = 0; omega
    | ⟨1, _⟩ => rfl
    | ⟨2, _⟩ => rfl)⟩
  have es (j : Fin 128) : extractStridedSlice S512x128 ![0, 128 * h.val] u sl (ix2 r j) = u (ix2 r ⟨128 * h.val + j.val, by omega⟩) :=
    extractStridedSlice_apply _ _ _ _ _ (fun a => by
      match a with
      | ⟨0, _⟩ => show r.val = 0 + r.val; omega
      | ⟨1, _⟩ => rfl)
  have ez : (Rect.unit (s := S1x512x1024) ![0, 0, 128 * h.val] S1x512x128.size inb).idx (ix3 0 r j)
      = ix3 0 r ⟨128 * h.val + j.val, by omega⟩ := funext fun a => Fin.ext (by
    match a with
    | ⟨0, _⟩ => rfl
    | ⟨1, _⟩ => show 0 + 1 * r.val = r.val; omega
    | ⟨2, _⟩ => show 128 * h.val + 1 * j.val = 128 * h.val + j.val; omega)
  rw [ez, turn_apply, es, es]
  show _ = u (ix2 r ⟨128 * h.val + j.val, _⟩) * C (ix2 r ⟨(128 * h.val + j.val) % 128, _⟩)
    + u (ix2 r ⟨128 * ((128 * h.val + j.val) / 128) + ((128 * h.val + j.val) % 128 + 128 - 64) % 128, _⟩)
      * S (ix2 r ⟨(128 * h.val + j.val) % 128, _⟩)
  have f2 : (⟨(128 * h.val + j.val) % 128, by omega⟩ : Fin 128) = j := Fin.ext (by show (128 * h.val + j.val) % 128 = _; omega)
  have f3 : (⟨128 * ((128 * h.val + j.val) / 128) + ((128 * h.val + j.val) % 128 + 128 - 64) % 128, by omega⟩ : Fin 2048)
      = ⟨128 * h.val + (j.val + 128 - 64) % 128, by omega⟩ := Fin.ext (by
    show 128 * ((128 * h.val + j.val) / 128) + ((128 * h.val + j.val) % 128 + 128 - 64) % 128 = 128 * h.val + (j.val + 128 - 64) % 128; omega)
  rw [f2, f3]

end Cert.QueryIdeal.Query
-- ==== Proof.Query.Reads.lean ====
module

public import proofs.«01_k».proof.Proof.Query.Payload

@[expose] public section

set_option maxRecDepth 16384

noncomputable section

/-! What the blocks of the query projection's arguments hold at each grid point. -/

namespace Cert.QueryIdeal.Query

open Idealize.ShloMosaic Idealize.ShloMosaic.TcCoe Idealize.SL.Sem
open Idealize.ShloMosaic.Pipeline (Dat)
open Cert.QueryIdeal Cert.QueryIdeal.Gen Cert.Layer

variable (m : (ℓ : Loc nD τ sig) → Buf (Elt Ideal) ℓ)

theorem index : ∀ t : Fin grid0.N, (win0_0.index t 0 = (grid0.coords t 0).val ∧ win0_0.index t 1 = (grid0.coords t 1).val ∧ win0_0.index t 2 = 0)
    ∧ (win0_1.index t 0 = (grid0.coords t 0).val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = (grid0.coords t 1).val ∧ win0_4.index t 1 = 0) ∧ (win0_5.index t 0 = (grid0.coords t 1).val ∧ win0_5.index t 1 = 0)
    ∧ (win0_6.index t 0 = (grid0.coords t 0).val ∧ win0_6.index t 1 = (grid0.coords t 1).val ∧ win0_6.index t 2 = 0)
    ∧ (win0_7.index t 0 = (grid0.coords t 0).val ∧ win0_7.index t 1 = (grid0.coords t 1).val ∧ win0_7.index t 2 = 0) := by
  decide +kernel

/-- The array's row that row `r` of the block of grid point `t` is. -/
def row (t : Fin cfg0.N) (r : Fin 512) : Fin 4096 :=
  ⟨512 * (grid0.coords t 1).val + r.val, by have h : (grid0.coords t 1).val < 8 := (grid0.coords t 1).isLt; omega⟩

theorem read0 (c : Dev nD) (t : Fin cfg0.N) (r : Fin 512) (k : Fin 1024) : (iblk m c 0 t : Vec Ideal S1x512x1024 .f32) (ix3 0 r k)
    = (m ((c : Thread nD τ).loc main_arg0) : Vec Ideal S4x4096x1024 .f32) (ix3 (grid0.coords t 0) (row t r) k) := by
  unfold iblk
  rw [View.read_apply]
  refine (congrFun (V_main_arg0 m c) _).trans (congrArg (m ((c : Thread nD τ).loc main_arg0)) (funext fun a => Fin.ext ?_))
  obtain ⟨⟨e0, e1, e2⟩, -⟩ := index t
  match a with
  | ⟨0, _⟩ => show win0_0.index t 0 * 1 + 1 * 0 = (grid0.coords t 0).val; rw [e0]; omega
  | ⟨1, _⟩ => show win0_0.index t 1 * 512 + 1 * r.val = 512 * (grid0.coords t 1).val + r.val; rw [e1]; omega
  | ⟨2, _⟩ => show win0_0.index t 2 * 1024 + 1 * k.val = k.val; rw [e2]; omega

theorem read1 (c : Dev nD) (t : Fin cfg0.N) (k : Fin 3072) : (iblk m c 1 t : Vec Ideal S1x1x3072 .f32) (ix3 0 0 k)
    = (m ((c : Thread nD τ).loc main_arg1) : Vec Ideal S4x1x3072 .f32) (ix3 (grid0.coords t 0) 0 k) := by
  unfold iblk
  rw [View.read_apply]
  refine (congrFun (V_main_arg1 m c) _).trans (congrArg (m ((c : Thread nD τ).loc main_arg1)) (funext fun a => Fin.ext ?_))
  obtain ⟨-, ⟨e0, e1, e2⟩, -⟩ := index t
  match a with
  | ⟨0, _⟩ => show win0_1.index t 0 * 1 + 1 * 0 = (grid0.coords t 0).val; rw [e0]; omega
  | ⟨1, _⟩ => show win0_1.index t 1 * 1 + 1 * 0 = 0; rw [e1]
  | ⟨2, _⟩ => show win0_1.index t 2 * 3072 + 1 * k.val = k.val; rw [e2]; omega

theorem gain (c : Dev nD) : (V m c main_v3 : Vec Ideal S1x1024 .f32)
    = shapeCast S1x1024 (m ((c : Thread nD τ).loc main_arg2) : Vec Ideal S1024 .f32) shapeCasts_S1024_S1x1024 := by
  unfold_abbrev_sides
  after_results
  rfl

theorem read2 (c : Dev nD) (t : Fin cfg0.N) (k : Fin 1024) : (iblk m c 2 t : Vec Ideal S1x1024 .f32) (ix2 0 k)
    = (m ((c : Thread nD τ).loc main_arg2) : Vec Ideal S1024 .f32) (ix1 k) := by
  unfold iblk
  rw [View.read_apply]
  have e : (V m c main_v3 : Vec Ideal S1x1024 .f32) (ix2 0 k) = (m ((c : Thread nD τ).loc main_arg2) : Vec Ideal S1024 .f32) (ix1 k) := by
    rw [gain]
    pointwise
  refine Eq.trans (congrArg (V m c main_v3) (funext fun a => Fin.ext ?_)) e
  obtain ⟨-, -, ⟨e0, e1⟩, -⟩ := index t
  match a with
  | ⟨0, _⟩ => show win0_2.index t 0 * 1 + 1 * 0 = 0; rw [e0]
  | ⟨1, _⟩ => show win0_2.index t 1 * 1024 + 1 * k.val = k.val; rw [e1]; omega

theorem read3 (c : Dev nD) (t : Fin cfg0.N) (k : Fin 1024) (e : Fin 2048) : (iblk m c 3 t : Vec Ideal S1024x2048 .bf16) (ix2 k e)
    = (m ((c : Thread nD τ).loc main_arg3) : Vec Ideal S1024x2048 .bf16) (ix2 k e) := by
  unfold iblk
  rw [View.read_apply]
  refine (congrFun (V_main_arg3 m c) _).trans (congrArg (m ((c : Thread nD τ).loc main_arg3)) (funext fun a => Fin.ext ?_))
  obtain ⟨-, -, -, ⟨e0, e1⟩, -⟩ := index t
  match a with
  | ⟨0, _⟩ => show win0_3.index t 0 * 1024 + 1 * k.val = k.val; rw [e0]; omega
  | ⟨1, _⟩ => show win0_3.index t 1 * 2048 + 1 * e.val = e.val; rw [e1]; omega

theorem cosTable (c : Dev nD) : (V m c main_v0 : Vec Ideal S4096x128 .f32)
    = (concatenate S4096x128 1 [⟨S4096x64, (m ((c : Thread nD τ).loc main_arg4) : FVec Ideal S4096x64 .f32)⟩,
        ⟨S4096x64, (m ((c : Thread nD τ).loc main_arg4) : FVec Ideal S4096x64 .f32)⟩] concatenates_S4096x64_S4096x64_S4096x128_d1 : FVec Ideal S4096x128 .f32) := by
  unfold_abbrev_sides
  after_results

theorem sinTable (c : Dev nD) : (V m c main_v2 : Vec Ideal S4096x128 .f32)
    = (concatenate S4096x128 1 [⟨S4096x64, Host.negf (m ((c : Thread nD τ).loc main_arg5) : FVec Ideal S4096x64 .f32)⟩,
        ⟨S4096x64, (m ((c : Thread nD τ).loc main_arg5) : FVec Ideal S4096x64 .f32)⟩] concatenates_S4096x64_S4096x64_S4096x128_d1 : FVec Ideal S4096x128 .f32) := by
  unfold_abbrev_sides
  after_results

/-- A table made of two halves, read in either half. -/
theorem halves (p q : FVec Ideal S4096x64 .f32) (n : Fin 4096) (j : Fin 64) :
    concatenate S4096x128 1 [⟨S4096x64, p⟩, ⟨S4096x64, q⟩] concatenates_S4096x64_S4096x64_S4096x128_d1 (ix2 n ⟨j.val, by omega⟩) = p (ix2 n j)
    ∧ concatenate S4096x128 1 [⟨S4096x64, p⟩, ⟨S4096x64, q⟩] concatenates_S4096x64_S4096x64_S4096x128_d1 (ix2 n ⟨64 + j.val, by omega⟩)
      = q (ix2 n j) :=
  ⟨concatenate_pair_apply_left (t := S4096x128) 1 p q _ (ix2 n ⟨j.val, by omega⟩) rfl (ix2 n j) (fun a => match a with
      | ⟨0, _⟩ => rfl
      | ⟨1, _⟩ => rfl),
    concatenate_pair_apply_right (t := S4096x128) 1 p q _ (ix2 n ⟨64 + j.val, by omega⟩) rfl rfl (ix2 n j) (fun a ha => match a with
      | ⟨0, _⟩ => rfl
      | ⟨1, _⟩ => absurd rfl ha) (by show j.val + 64 = 64 + j.val; omega)⟩

theorem block4 (c : Dev nD) (t : Fin cfg0.N) (r : Fin 512) (k : Fin 128) : (iblk m c 4 t : Vec Ideal S512x128 .f32) (ix2 r k)
    = (V m c main_v0 : Vec Ideal S4096x128 .f32) (ix2 (row t r) k) := by
  unfold iblk
  rw [View.read_apply]
  refine congrArg (V m c main_v0) (funext fun a => Fin.ext ?_)
  obtain ⟨-, -, -, -, ⟨e0, e1⟩, -⟩ := index t
  match a with
  | ⟨0, _⟩ => show win0_4.index t 0 * 512 + 1 * r.val = 512 * (grid0.coords t 1).val + r.val; rw [e0]; omega
  | ⟨1, _⟩ => show win0_4.index t 1 * 128 + 1 * k.val = k.val; rw [e1]; omega

theorem block5 (c : Dev nD) (t : Fin cfg0.N) (r : Fin 512) (k : Fin 128) : (iblk m c 5 t : Vec Ideal S512x128 .f32) (ix2 r k)
    = (V m c main_v2 : Vec Ideal S4096x128 .f32) (ix2 (row t r) k) := by
  unfold iblk
  rw [View.read_apply]
  refine congrArg (V m c main_v2) (funext fun a => Fin.ext ?_)
  obtain ⟨-, -, -, -, -, ⟨e0, e1⟩, -⟩ := index t
  match a with
  | ⟨0, _⟩ => show win0_5.index t 0 * 512 + 1 * r.val = 512 * (grid0.coords t 1).val + r.val; rw [e0]; omega
  | ⟨1, _⟩ => show win0_5.index t 1 * 128 + 1 * k.val = k.val; rw [e1]; omega

theorem read4 (c : Dev nD) (t : Fin cfg0.N) (r : Fin 512) (j : Fin 64) :
    (iblk m c 4 t : Vec Ideal S512x128 .f32) (ix2 r ⟨j.val, by omega⟩) = (m ((c : Thread nD τ).loc main_arg4) : FVec Ideal S4096x64 .f32) (ix2 (row t r) j)
    ∧ (iblk m c 4 t : Vec Ideal S512x128 .f32) (ix2 r ⟨64 + j.val, by omega⟩)
      = (m ((c : Thread nD τ).loc main_arg4) : FVec Ideal S4096x64 .f32) (ix2 (row t r) j) := by
  rw [block4, block4, cosTable]
  exact halves _ _ _ _

theorem read5 (c : Dev nD) (t : Fin cfg0.N) (r : Fin 512) (j : Fin 64) :
    (iblk m c 5 t : Vec Ideal S512x128 .f32) (ix2 r ⟨j.val, by omega⟩) = -(show EReal from (m ((c : Thread nD τ).loc main_arg5) : FVec Ideal S4096x64 .f32) (ix2 (row t r) j))
    ∧ (iblk m c 5 t : Vec Ideal S512x128 .f32) (ix2 r ⟨64 + j.val, by omega⟩)
      = (m ((c : Thread nD τ).loc main_arg5) : FVec Ideal S4096x64 .f32) (ix2 (row t r) j) := by
  rw [block5, block5, sinTable]
  exact halves _ _ _ _

end Cert.QueryIdeal.Query
-- ==== Proof.Query.Array.lean ====
module

public import proofs.«01_k».proof.Proof.Query.Reads

@[expose] public section

set_option maxRecDepth 16384

noncomputable section

/-! What the query projection's two result arrays hold after the run, entry by entry. -/

namespace Cert.QueryIdeal.Query

open Idealize.ShloMosaic Idealize.ShloMosaic.TcCoe Idealize.SL.Sem
open Idealize.ShloMosaic.Pipeline (Dat)
open Cert.QueryIdeal Cert.QueryIdeal.Gen Cert.Layer

/-- The projection of the modulated row `n` of sequence `b`, at column `e`. -/
def proj (x : FVec Ideal S4x4096x1024 .f32) (mod : FVec Ideal S4x1x3072 .f32) (g : FVec Ideal S1024 .f32)
    (w : FVec Ideal S1024x2048 .bf16) (b : Fin 4) (n : Fin 4096) (e : Fin 2048) : EReal :=
  ∑ k : Fin 1024, modulated (fun k => x (ix3 b n k)) (fun k => g (ix1 k)) (fun k => mod (ix3 b 0 ⟨k.val, by omega⟩))
    (fun k => mod (ix3 b 0 ⟨1024 + k.val, by omega⟩)) k * w (ix2 k e)

/-- The queries at sequence `b`, row `n` and column `d`. -/
def query (x : FVec Ideal S4x4096x1024 .f32) (mod : FVec Ideal S4x1x3072 .f32) (g : FVec Ideal S1024 .f32)
    (w : FVec Ideal S1024x2048 .bf16) (cos sin : FVec Ideal S4096x64 .f32) (b : Fin 4) (n : Fin 4096) (d : Fin 1024) : EReal :=
  turn (fun e => proj x mod g w b n ⟨128 * (d.val / 128) + e.val, by omega⟩) (fun e => cos (ix2 n e)) (fun e => sin (ix2 n e))
    ⟨d.val % 128, by omega⟩

/-- All the queries. -/
def queryArr (x : FVec Ideal S4x4096x1024 .f32) (mod : FVec Ideal S4x1x3072 .f32) (g : FVec Ideal S1024 .f32)
    (w : FVec Ideal S1024x2048 .bf16) (cos sin : FVec Ideal S4096x64 .f32) : FVec Ideal S4x4096x1024 .bf16 :=
  fun j => query x mod g w cos sin (j 0) (j 1) (j 2)

/-- All the gates. -/
def gateArr (x : FVec Ideal S4x4096x1024 .f32) (mod : FVec Ideal S4x1x3072 .f32) (g : FVec Ideal S1024 .f32)
    (w : FVec Ideal S1024x2048 .bf16) : FVec Ideal S4x4096x1024 .f32 :=
  fun j => proj x mod g w (j 0) (j 1) ⟨1024 + (j 2).val, by have h : (j 2).val < 1024 := (j 2).isLt; omega⟩

variable (m : (ℓ : Loc nD τ sig) → Buf (Elt Ideal) ℓ) (ρ : Dev nD → PrngReg)

theorem z3 : (![0, 0, 0] : Fin 3 → ℕ) = fun _ => 0 := by decide
theorem z2 : (![0, 0] : Fin 2 → ℕ) = fun _ => 0 := by decide

section
variable (x0 : Vec Ideal S1x512x1024 .f32) (x1 : Vec Ideal S1x1x3072 .f32) (x2 : Vec Ideal S1x1024 .f32) (x3 : Vec Ideal S1024x2048 .bf16)
  (x4 x5 : Vec Ideal S512x128 .f32)

theorem product_eq : k0_pay17 x0 x1 x2 x3 x4 x5 = k0_pay2 x1 x0 x2 x3 := by
  unfold k0_pay17
  rw [View.ld_unit_zero (S := S1x512x1024) z3, View.ld_unit_zero (S := S1x1x3072) z3, View.ld_unit_zero (S := S1x1024) z2,
    View.ld_unit_zero (S := S1024x2048) z2]

theorem cos_eq : k0_pay18 x0 x1 x2 x3 x4 x5 = x4 := by
  unfold k0_pay18
  rw [View.ld_unit_zero (S := S512x128) z2]
  funext j
  rw [← ix2_eta j]
  pointwise [k0_pay3]

theorem sin_eq : k0_pay19 x0 x1 x2 x3 x4 x5 = x5 := by
  unfold k0_pay19
  rw [View.ld_unit_zero (S := S512x128) z2]
  funext j
  rw [← ix2_eta j]
  pointwise [k0_pay4]

/-- The stores of the eight heads leave the rotated queries. -/
theorem out6_eq : out0_6 x0 x1 x2 x3 x4 x5 = turned x4 x5 (k0_pay2 x1 x0 x2 x3) := by
  funext y
  have e : k0_pay2 x1 x0 x2 x3 = k0_pay17 x0 x1 x2 x3 x4 x5 := (product_eq x0 x1 x2 x3 x4 x5).symm
  conv_rhs => rw [e, ← cos_eq x0 x1 x2 x3 x4 x5, ← sin_eq x0 x1 x2 x3 x4 x5]
  unfold out0_6
  refine View.canon_apply_of_pieces (show Vec Ideal S1x512x1024 .bf16 from turned (k0_pay18 x0 x1 x2 x3 x4 x5) (k0_pay19 x0 x1 x2 x3 x4 x5) (k0_pay17 x0 x1 x2 x3 x4 x5)) _ ?_ y (cover0_6 _ _ _ _ _ _ _ _ y)
  intro pc hpc
  rcases List.mem_cons.mp hpc with rfl | hpc
  · exact fun y => piece _ _ _ 7 896 rfl (by decide) (by decide) y
  rcases List.mem_cons.mp hpc with rfl | hpc
  · exact fun y => piece _ _ _ 6 768 rfl (by decide) (by decide) y
  rcases List.mem_cons.mp hpc with rfl | hpc
  · exact fun y => piece _ _ _ 5 640 rfl (by decide) (by decide) y
  rcases List.mem_cons.mp hpc with rfl | hpc
  · exact fun y => piece _ _ _ 4 512 rfl (by decide) (by decide) y
  rcases List.mem_cons.mp hpc with rfl | hpc
  · exact fun y => piece _ _ _ 3 384 rfl (by decide) (by decide) y
  rcases List.mem_cons.mp hpc with rfl | hpc
  · exact fun y => piece _ _ _ 2 256 rfl (by decide) (by decide) y
  rcases List.mem_cons.mp hpc with rfl | hpc
  · exact fun y => piece _ _ _ 1 128 rfl (by decide) (by decide) y
  rcases List.mem_cons.mp hpc with rfl | hpc
  · exact fun y => piece _ _ _ 0 0 rfl (by decide) (by decide) y
  nomatch hpc

theorem out7_apply (r : Fin 512) (d : Fin 1024) : out0_7 x0 x1 x2 x3 x4 x5 (ix3 0 r d) = k0_pay2 x1 x0 x2 x3 (ix2 r ⟨1024 + d.val, by omega⟩) := by
  unfold out0_7
  rw [View.canon_unit_zero (S := S1x512x1024) z3, product_eq]
  pointwise [k0_pay1]

end

/-- The queries, from the launch contents of the arguments. -/
abbrev queries (c : Dev nD) : Buf (Elt Ideal) ((c : Thread nD τ).loc main_v4_0) :=
  queryArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The gates, from the launch contents of the arguments. -/
abbrev gates (c : Dev nD) : Buf (Elt Ideal) ((c : Thread nD τ).loc main_v4_1) :=
  gateArr (m ((c : Thread nD τ).loc main_arg0)) (m ((c : Thread nD τ).loc main_arg1)) (m ((c : Thread nD τ).loc main_arg2))
    (m ((c : Thread nD τ).loc main_arg3))

theorem product (c : Dev nD) (t : Fin cfg0.N) (r : Fin 512) (e : Fin 2048) :
    k0_pay2 (F := Ideal) (iblk m c 1 t) (iblk m c 0 t) (iblk m c 2 t) (iblk m c 3 t) (ix2 r e)
      = proj (m ((c : Thread nD τ).loc main_arg0)) (m ((c : Thread nD τ).loc main_arg1)) (m ((c : Thread nD τ).loc main_arg2))
          (m ((c : Thread nD τ).loc main_arg3)) (grid0.coords t 0) (row t r) e := by
  refine (product_apply _ _ _ _ r e).trans ?_
  unfold proj
  simp only [read0, read1, read2, read3]

theorem point6 (c : Dev nD) (t : Fin cfg0.N) (r : Fin 512) (d : Fin 1024) :
    out0_6 (iblk m c 0 t) (iblk m c 1 t) (iblk m c 2 t) (iblk m c 3 t) (iblk m c 4 t) (iblk m c 5 t) (ix3 0 r d)
      = queries m c (ix3 (grid0.coords t 0) (row t r) d) := by
  rw [out6_eq]
  refine Eq.trans ?_ (turn_of_tables (fun e => proj (m ((c : Thread nD τ).loc main_arg0)) (m ((c : Thread nD τ).loc main_arg1))
      (m ((c : Thread nD τ).loc main_arg2)) (m ((c : Thread nD τ).loc main_arg3)) (grid0.coords t 0) (row t r)
      ⟨128 * (d.val / 128) + e.val, by omega⟩) _ _
    (fun k => (iblk m c 4 t : Vec Ideal S512x128 .f32) (ix2 r k)) (fun k => (iblk m c 5 t : Vec Ideal S512x128 .f32) (ix2 r k))
    (read4 m c t r) (read5 m c t r) ⟨d.val % 128, by omega⟩ ⟨(d.val % 128 + 128 - 64) % 128, by omega⟩
    (by show (d.val % 128 + 128 - 64) % 128 = (d.val % 128 + 64) % 128; omega))
  rw [← product, ← product]
  have e1 : (⟨128 * (d.val / 128) + d.val % 128, by omega⟩ : Fin 2048) = ⟨d.val, by omega⟩ := Fin.ext (by
    show 128 * (d.val / 128) + d.val % 128 = d.val; omega)
  rw [e1]
  rfl

theorem point7 (c : Dev nD) (t : Fin cfg0.N) (r : Fin 512) (d : Fin 1024) :
    out0_7 (iblk m c 0 t) (iblk m c 1 t) (iblk m c 2 t) (iblk m c 3 t) (iblk m c 4 t) (iblk m c 5 t) (ix3 0 r d)
      = gates m c (ix3 (grid0.coords t 0) (row t r) d) :=
  (out7_apply _ _ _ _ _ _ r d).trans (product m c t r _)

theorem block_index (j : S1x512x1024.Idx) : j = ix3 0 (j 1) (j 2) := funext fun a => Fin.ext (by
  have hj0 : (j 0).val < 1 := (j 0).isLt
  match a with
  | ⟨0, _⟩ => show (j 0).val = 0; omega
  | ⟨1, _⟩ => rfl
  | ⟨2, _⟩ => rfl)

theorem point_coords : ∀ t : Fin grid0.N, (grid0.coords t 0).val = t.val / 8 ∧ (grid0.coords t 1).val = t.val % 8 := by decide +kernel

theorem flushed6_eq (c : Dev nD) (t : Fin cfg0.N) (hf : (cfg0.win 6).flush t = true) :
    (dats m 0 c).flushed 6 t = ((cfg0.win 6).blk t).view.read (Elt Ideal) (queries m c) := by
  rw [Value.flushed6]
  obtain ⟨-, -, -, -, -, -, ⟨e0, e1, e2⟩, -⟩ := index t
  funext j
  have hj0 : (j 0).val < 1 := (j 0).isLt
  rw [View.read_apply]
  refine ((congrArg (out0_6 (iblk m c 0 t) (iblk m c 1 t) (iblk m c 2 t) (iblk m c 3 t) (iblk m c 4 t) (iblk m c 5 t)) (block_index j)).trans
    (point6 m c t (j 1) (j 2))).trans (congrArg (queries m c) (funext fun a => Fin.ext ?_))
  match a with
  | ⟨0, _⟩ => show (grid0.coords t 0).val = win0_6.index t 0 * 1 + 1 * (j 0).val; rw [e0]; omega
  | ⟨1, _⟩ => show 512 * (grid0.coords t 1).val + (j 1).val = win0_6.index t 1 * 512 + 1 * (j 1).val; rw [e1]; omega
  | ⟨2, _⟩ => show (j 2).val = win0_6.index t 2 * 1024 + 1 * (j 2).val; rw [e2]; omega

theorem final6 (c : Dev nD) : (dats m 0 c).arrAt 6 cfg0.N = queries m c :=
  (dats m 0 c).arrAt_eq_of_cover 6 (queries m c) (flushed6_eq m c) fun j => by
    have h0 : (j 0 : Nat) < 4 := (j 0).isLt
    have h1 : (j 1 : Nat) < 4096 := (j 1).isLt
    have h2 : (j 2 : Nat) < 1024 := (j 2).isLt
    have hN : cfg0.N = 32 := N_0
    refine ⟨⟨(j 0 : Nat) * 8 + (j 1 : Nat) / 512, by omega⟩, flush0_6 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨-, -, -, -, -, -, ⟨e0, e1, e2⟩, -⟩ := index t
    obtain ⟨c0, c1⟩ := point_coords t
    show j ∈ ((View.whole main_v4_0).slice (win0_6.rect t)).set
    rw [View.set_slice_whole, Rect.mem_set_unit]
    intro a
    match a with
    | ⟨0, _⟩ => show win0_6.index t 0 * 1 ≤ (j 0 : Nat) ∧ (j 0 : Nat) < win0_6.index t 0 * 1 + 1; rw [e0, c0]; omega
    | ⟨1, _⟩ => show win0_6.index t 1 * 512 ≤ (j 1 : Nat) ∧ (j 1 : Nat) < win0_6.index t 1 * 512 + 512; rw [e1, c1]; omega
    | ⟨2, _⟩ => show win0_6.index t 2 * 1024 ≤ (j 2 : Nat) ∧ (j 2 : Nat) < win0_6.index t 2 * 1024 + 1024; rw [e2]; omega

theorem flushed7_eq (c : Dev nD) (t : Fin cfg0.N) (hf : (cfg0.win 7).flush t = true) :
    (dats m 0 c).flushed 7 t = ((cfg0.win 7).blk t).view.read (Elt Ideal) (gates m c) := by
  rw [Value.flushed7]
  obtain ⟨-, -, -, -, -, -, -, e0, e1, e2⟩ := index t
  funext j
  have hj0 : (j 0).val < 1 := (j 0).isLt
  rw [View.read_apply]
  refine ((congrArg (out0_7 (iblk m c 0 t) (iblk m c 1 t) (iblk m c 2 t) (iblk m c 3 t) (iblk m c 4 t) (iblk m c 5 t)) (block_index j)).trans
    (point7 m c t (j 1) (j 2))).trans (congrArg (gates m c) (funext fun a => Fin.ext ?_))
  match a with
  | ⟨0, _⟩ => show (grid0.coords t 0).val = win0_7.index t 0 * 1 + 1 * (j 0).val; rw [e0]; omega
  | ⟨1, _⟩ => show 512 * (grid0.coords t 1).val + (j 1).val = win0_7.index t 1 * 512 + 1 * (j 1).val; rw [e1]; omega
  | ⟨2, _⟩ => show (j 2).val = win0_7.index t 2 * 1024 + 1 * (j 2).val; rw [e2]; omega

theorem final7 (c : Dev nD) : (dats m 0 c).arrAt 7 cfg0.N = gates m c :=
  (dats m 0 c).arrAt_eq_of_cover 7 (gates m c) (flushed7_eq m c) fun j => by
    have h0 : (j 0 : Nat) < 4 := (j 0).isLt
    have h1 : (j 1 : Nat) < 4096 := (j 1).isLt
    have h2 : (j 2 : Nat) < 1024 := (j 2).isLt
    have hN : cfg0.N = 32 := N_0
    refine ⟨⟨(j 0 : Nat) * 8 + (j 1 : Nat) / 512, by omega⟩, flush0_7 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨-, -, -, -, -, -, -, e0, e1, e2⟩ := index t
    obtain ⟨c0, c1⟩ := point_coords t
    show j ∈ ((View.whole main_v4_1).slice (win0_7.rect t)).set
    rw [View.set_slice_whole, Rect.mem_set_unit]
    intro a
    match a with
    | ⟨0, _⟩ => show win0_7.index t 0 * 1 ≤ (j 0 : Nat) ∧ (j 0 : Nat) < win0_7.index t 0 * 1 + 1; rw [e0, c0]; omega
    | ⟨1, _⟩ => show win0_7.index t 1 * 512 ≤ (j 1 : Nat) ∧ (j 1 : Nat) < win0_7.index t 1 * 512 + 512; rw [e1, c1]; omega
    | ⟨2, _⟩ => show win0_7.index t 2 * 1024 ≤ (j 2 : Nat) ∧ (j 2 : Nat) < win0_7.index t 2 * 1024 + 1024; rw [e2]; omega

/-- The run: the two result arrays as above, the arguments unchanged. -/
theorem run : θ_run defs (onTc (τ := τ) (main (F := Ideal))) ⟨m, fun _ => 0, ρ⟩ fun r => ∀ c : Dev nD,
      r.2.mem ((c : Thread nD τ).loc main_v4_0) = queries m c
      ∧ r.2.mem ((c : Thread nD τ).loc main_v4_1) = gates m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2⟩) (Value.run_blocks m ρ)

end Cert.QueryIdeal.Query
-- ==== Proof.Query.Ref.lean ====
module

public import proofs.«01_k».proof.Proof.Layer
public import proofs.«01_k».proof.Proof.Gen.QueryRefIdeal.Read

@[expose] public section

set_option maxRecDepth 16384

noncomputable section

/-! What the query projection's reference computes at one row and column. -/

namespace Cert.QueryRefIdeal.Query

open Idealize.ShloMosaic Idealize.ShloMosaic.Tactic
open Cert.QueryRefIdeal Cert.QueryRefIdeal.Gen Cert.QueryRefIdeal.Read Cert.Layer

variable (x : FVec Ideal S4x4096x1024 .f32) (mod : FVec Ideal S4x1x3072 .f32) (g : FVec Ideal S1024 .f32)
  (w : FVec Ideal S1024x2048 .bf16) (cos sin : FVec Ideal S4096x64 .f32)

theorem product_apply (b : Fin 4) (n : Fin 4096) (e : Fin 2048) : val_main_v23 (F := Ideal) x mod g w (ix3 b n e)
    = ∑ k : Fin 1024, modulated (fun k => x (ix3 b n k)) (fun k => g (ix1 k)) (fun k => mod (ix3 b 0 ⟨k.val, by omega⟩))
        (fun k => mod (ix3 b 0 ⟨1024 + k.val, by omega⟩)) k * w (ix2 k e) := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v1, val_main_v0, val_main_cst, val_main_cst_0, val_main_cst_1,
    val_main_cst_2]
  rfl

theorem head_apply (b : Fin 4) (n : Fin 4096) (h : Fin 8) (j : Fin 128) :
    val_main_v40 (F := Ideal) x mod g w cos sin (ix4 b n h j)
      = turn (fun e => val_main_v25 (F := Ideal) x mod g w (ix4 b n h e)) (fun e => cos (ix2 n e)) (fun e => sin (ix2 n e)) j := by
  pointwise [val_main_v40, val_main_v39, val_main_v38, val_main_v37, val_main_v36, val_main_v35, val_main_v34, val_main_v33,
    val_main_v32, val_main_v31, val_main_v30, val_main_v29, val_main_v28, val_main_v27, val_main_v26]
  rfl

theorem split_apply (b : Fin 4) (n : Fin 4096) (h : Fin 8) (j : Fin 128) :
    val_main_v25 (F := Ideal) x mod g w (ix4 b n h j)
      = val_main_v23 (F := Ideal) x mod g w (ix3 b n ⟨128 * h.val + j.val, by omega⟩) := by
  rw [val_main_v25_apply, val_main_v24_apply]
  refine congrArg _ (funext fun a => Fin.ext ?_)
  match a with
  | ⟨0, _⟩ => show (((b.val * 4096 + n.val) * 8 + h.val) * 128 + j.val) / 4194304 = b.val; omega
  | ⟨1, _⟩ => show (((b.val * 4096 + n.val) * 8 + h.val) * 128 + j.val) / 1024 % 4096 = n.val; omega
  | ⟨2, _⟩ => show (((b.val * 4096 + n.val) * 8 + h.val) * 128 + j.val) % 1024 = 128 * h.val + j.val; omega

theorem query_apply (b : Fin 4) (n : Fin 4096) (d : Fin 1024) : val_main_v42 (F := Ideal) x mod g w cos sin (ix3 b n d)
    = turn (fun e => val_main_v23 (F := Ideal) x mod g w (ix3 b n ⟨128 * (d.val / 128) + e.val, by omega⟩))
        (fun e => cos (ix2 n e)) (fun e => sin (ix2 n e)) ⟨d.val % 128, by omega⟩ := by
  rw [val_main_v42_apply, val_main_v41_apply]
  have e : idx_main_v41 (ix3 b n d) = ix4 b n ⟨d.val / 128, by omega⟩ ⟨d.val % 128, by omega⟩ := funext fun a => Fin.ext (by
    match a with
    | ⟨0, _⟩ => show ((b.val * 4096 + n.val) * 1024 + d.val) / 4194304 = b.val; omega
    | ⟨1, _⟩ => show ((b.val * 4096 + n.val) * 1024 + d.val) / 1024 % 4096 = n.val; omega
    | ⟨2, _⟩ => show ((b.val * 4096 + n.val) * 1024 + d.val) / 128 % 8 = d.val / 128; omega
    | ⟨3, _⟩ => show ((b.val * 4096 + n.val) * 1024 + d.val) % 128 = d.val % 128; omega)
  refine (congrArg (val_main_v40 (F := Ideal) x mod g w cos sin) e).trans ((head_apply x mod g w cos sin b n _ _).trans ?_)
  simp only [split_apply]

theorem gate_apply (b : Fin 4) (n : Fin 4096) (d : Fin 1024) : val_main_v43 (F := Ideal) x mod g w (ix3 b n d)
    = val_main_v23 (F := Ideal) x mod g w (ix3 b n ⟨1024 + d.val, by omega⟩) := by
  pointwise [val_main_v43]

end Cert.QueryRefIdeal.Query
-- ==== Proof.Query.Equal.lean ====
module

public import proofs.«01_k».proof.Proof.Query.Array
public import proofs.«01_k».proof.Proof.Query.Ref

@[expose] public section

set_option maxRecDepth 16384

noncomputable section

/-! The query projection's result arrays are the reference's. -/

namespace Cert.Equal

open Idealize.ShloMosaic Cert.QueryIdeal Cert.QueryIdeal.Gen

variable (x : FVec Ideal S4x4096x1024 .f32) (mod : FVec Ideal S4x1x3072 .f32) (g : FVec Ideal S1024 .f32)
  (w : FVec Ideal S1024x2048 .bf16) (cos sin : FVec Ideal S4096x64 .f32)

theorem query_eq : Cert.QueryRefIdeal.Read.val_main_v42 (F := Ideal) x mod g w cos sin = Cert.QueryIdeal.Query.queryArr x mod g w cos sin := by
  funext j
  obtain ⟨b, n, d, rfl⟩ : ∃ b n d, j = ix3 b n d := ⟨j 0, j 1, j 2, (ix3_eta j).symm⟩
  refine (Cert.QueryRefIdeal.Query.query_apply x mod g w cos sin b n d).trans ?_
  simp only [Cert.QueryRefIdeal.Query.product_apply]
  rfl

theorem gate_eq : Cert.QueryRefIdeal.Read.val_main_v43 (F := Ideal) x mod g w = Cert.QueryIdeal.Query.gateArr x mod g w := by
  funext j
  exact (congrArg (Cert.QueryRefIdeal.Read.val_main_v43 (F := Ideal) x mod g w) (ix3_eta j).symm).trans
    ((Cert.QueryRefIdeal.Query.gate_apply x mod g w (j 0) (j 1) (j 2)).trans (Cert.QueryRefIdeal.Query.product_apply x mod g w _ _ _))

end Cert.Equal
-- ==== Proof.KeyValue.Payload.lean ====
module

public import proofs.«01_k».proof.Proof.Layer
public import proofs.«01_k».proof.Proof.Gen.KeyValueIdeal.Value

@[expose] public section

set_option maxRecDepth 16384

noncomputable section

/-! What the key and value projection's kernel computes at one entry of each of its blocks. -/

namespace Cert.KeyValueIdeal.KeyValue

open Idealize.ShloMosaic Idealize.ShloMosaic.TcCoe Idealize.ShloMosaic.Tactic
open Cert.KeyValueIdeal Cert.KeyValueIdeal.Gen Cert.Layer

variable (x : FVec Ideal S1x512x1024 .f32) (mod : FVec Ideal S1x1x2048 .f32) (g : FVec Ideal S1x1024 .f32)
  (w : FVec Ideal S1024x2048 .bf16)

theorem product_apply (r : Fin 512) (e : Fin 2048) : k0_pay4 (F := Ideal) mod x g w (ix2 r e)
    = ∑ k : Fin 1024, modulated (fun k => x (ix3 0 r k)) (fun k => g (ix2 0 k)) (fun k => mod (ix3 0 0 ⟨k.val, by omega⟩))
        (fun k => mod (ix3 0 0 ⟨1024 + k.val, by omega⟩)) k * w (ix2 k e) := by
  pointwise [k0_pay4]
  rfl

variable (C S v : FVec Ideal S512x128 .f32) (u : FVec Ideal S512x2048 .f32) (b : FVec Ideal S1x512x128 .f32)

/-- One head's keys from its columns `v` of the product, rotated by the two tables. -/
def rot : FVec Ideal S1x512x128 .f32 :=
  k0_pay10 (F := Ideal) S (dynamicRotate 1 64#32 none v rotates_S512x128_d1)
    (mulf (shapeCast S1x512x128 v shapeCasts_S512x128_S1x512x128) (shapeCast S1x512x128 C shapeCasts_S512x128_S1x512x128))

theorem rot_apply (r : Fin 512) (j : Fin 128) : rot C S v (ix3 0 r j)
    = v (ix2 r j) * C (ix2 r j) + v (ix2 r ⟨(j.val + 128 - 64) % 128, by omega⟩) * S (ix2 r j) := by
  pointwise [rot, k0_pay10]

/-- Head `h`'s key at row `r` and column `j`. -/
def turnedAt (r : Fin 512) (h : Fin 8) (j : Fin 128) : EReal :=
  u (ix2 r ⟨128 * h.val + j.val, by omega⟩) * C (ix2 r j) + u (ix2 r ⟨128 * h.val + (j.val + 128 - 64) % 128, by omega⟩) * S (ix2 r j)

theorem slice_apply (o : ℕ) (sl : S512x2048.Slices ![0, o] S512x128) (r : Fin 512) (j : Fin 128) (e : Fin 2048) (he : e.val = o + j.val) :
    extractStridedSlice S512x128 ![0, o] u sl (ix2 r j) = u (ix2 r e) :=
  extractStridedSlice_apply _ _ _ _ _ (fun a => by
    match a with
    | ⟨0, _⟩ => show r.val = 0 + r.val; omega
    | ⟨1, _⟩ => exact he)

theorem rot_slice (h : Fin 8) (o : ℕ) (ho : o = 128 * h.val) (sl : S512x2048.Slices ![0, o] S512x128) (r : Fin 512) (j : Fin 128) :
    rot C S (extractStridedSlice S512x128 ![0, o] u sl) (ix3 0 r j) = turnedAt C S u r h j := by
  subst ho
  rw [rot_apply, slice_apply u _ sl r j ⟨128 * h.val + j.val, by omega⟩ rfl,
    slice_apply u _ sl r _ ⟨128 * h.val + (j.val + 128 - 64) % 128, by omega⟩ rfl]
  rfl

theorem apart_apply (r : Fin 512) (j : Fin 128) : shapeCast S1x512x1x128 b shapeCasts_S1x512x128_S1x512x1x128 (ix4 0 r 0 j) = b (ix3 0 r j) := by
  pointwise

theorem mean_apply (a : Fin 2) (j : Fin 128) : k0_pay42 (F := Ideal) b (ix4 0 0 a j)
    = Ideal.div (∑ i : Fin 256, b (ix3 0 ⟨a.val * 256 + i.val, by omega⟩ j)) (Ideal.ofBits .f32 0x43800000#32) := by
  pointwise [k0_pay42]

theorem value_apply (r : Fin 512) (j : Fin 128) : k0_pay48 (F := Ideal) v (ix4 0 r 0 j) = v (ix2 r j) := by
  pointwise [k0_pay48]

theorem first_apply (r : Fin 256) (j : Fin 128) : k0_pay2 (F := Ideal) v (ix5 0 0 0 j r) = v (ix2 ⟨r.val, by omega⟩ j) := by
  pointwise [k0_pay2]

theorem second_apply (r : Fin 256) (j : Fin 128) : k0_pay3 (F := Ideal) v (ix5 0 0 0 j r) = v (ix2 ⟨256 + r.val, by omega⟩ j) := by
  pointwise [k0_pay3]

end Cert.KeyValueIdeal.KeyValue
-- ==== Proof.KeyValue.Reads.lean ====
module

public import proofs.«01_k».proof.Proof.KeyValue.Payload

@[expose] public section

set_option maxRecDepth 16384

noncomputable section

/-! What the blocks of the key and value projection's arguments hold at each grid point. -/

namespace Cert.KeyValueIdeal.KeyValue

open Idealize.ShloMosaic Idealize.ShloMosaic.TcCoe Idealize.SL.Sem
open Idealize.ShloMosaic.Pipeline (Dat)
open Cert.KeyValueIdeal Cert.KeyValueIdeal.Gen Cert.Layer

variable (m : (ℓ : Loc nD τ sig) → Buf (Elt Ideal) ℓ)

theorem index : ∀ t : Fin grid0.N, (win0_0.index t 0 = (grid0.coords t 0).val ∧ win0_0.index t 1 = (grid0.coords t 1).val ∧ win0_0.index t 2 = 0)
    ∧ (win0_1.index t 0 = (grid0.coords t 0).val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = (grid0.coords t 1).val ∧ win0_4.index t 1 = 0) ∧ (win0_5.index t 0 = (grid0.coords t 1).val ∧ win0_5.index t 1 = 0) := by
  decide +kernel

theorem index_keys : ∀ t : Fin grid0.N, win0_6.index t 0 = (grid0.coords t 0).val ∧ win0_6.index t 1 = (grid0.coords t 1).val
    ∧ win0_6.index t 2 = 0 ∧ win0_6.index t 3 = 0 := by
  decide +kernel

theorem index_values : ∀ t : Fin grid0.N, win0_7.index t 0 = (grid0.coords t 0).val ∧ win0_7.index t 1 = (grid0.coords t 1).val
    ∧ win0_7.index t 2 = 0 ∧ win0_7.index t 3 = 0 := by
  decide +kernel

theorem index_flat : ∀ t : Fin grid0.N, win0_8.index t 0 = (grid0.coords t 0).val ∧ win0_8.index t 1 = (grid0.coords t 1).val
    ∧ win0_8.index t 2 = 0 := by
  decide +kernel

theorem index_turned : ∀ t : Fin grid0.N, win0_9.index t 0 = (grid0.coords t 0).val ∧ win0_9.index t 1 = 0
    ∧ win0_9.index t 2 = (grid0.coords t 1).val ∧ win0_9.index t 3 = 0 ∧ win0_9.index t 4 = 0 := by
  decide +kernel

theorem index_means : ∀ t : Fin grid0.N, win0_10.index t 0 = (grid0.coords t 0).val ∧ win0_10.index t 1 = (grid0.coords t 1).val
    ∧ win0_10.index t 2 = 0 ∧ win0_10.index t 3 = 0 := by
  decide +kernel

theorem point_coords : ∀ t : Fin grid0.N, (grid0.coords t 0).val = t.val / 8 ∧ (grid0.coords t 1).val = t.val % 8 := by decide +kernel

/-- The array's row that row `r` of the block of grid point `t` is. -/
def row (t : Fin cfg0.N) (r : Fin 512) : Fin 4096 :=
  ⟨512 * (grid0.coords t 1).val + r.val, by have h : (grid0.coords t 1).val < 8 := (grid0.coords t 1).isLt; omega⟩

theorem read0 (c : Dev nD) (t : Fin cfg0.N) (r : Fin 512) (k : Fin 1024) : (iblk m c 0 t : Vec Ideal S1x512x1024 .f32) (ix3 0 r k)
    = (m ((c : Thread nD τ).loc main_arg0) : Vec Ideal S4x4096x1024 .f32) (ix3 (grid0.coords t 0) (row t r) k) := by
  unfold iblk
  rw [View.read_apply]
  refine (congrFun (V_main_arg0 m c) _).trans (congrArg (m ((c : Thread nD τ).loc main_arg0)) (funext fun a => Fin.ext ?_))
  obtain ⟨⟨e0, e1, e2⟩, -⟩ := index t
  match a with
  | ⟨0, _⟩ => show win0_0.index t 0 * 1 + 1 * 0 = (grid0.coords t 0).val; rw [e0]; omega
  | ⟨1, _⟩ => show win0_0.index t 1 * 512 + 1 * r.val = 512 * (grid0.coords t 1).val + r.val; rw [e1]; omega
  | ⟨2, _⟩ => show win0_0.index t 2 * 1024 + 1 * k.val = k.val; rw [e2]; omega

theorem read1 (c : Dev nD) (t : Fin cfg0.N) (k : Fin 2048) : (iblk m c 1 t : Vec Ideal S1x1x2048 .f32) (ix3 0 0 k)
    = (m ((c : Thread nD τ).loc main_arg1) : Vec Ideal S4x1x2048 .f32) (ix3 (grid0.coords t 0) 0 k) := by
  unfold iblk
  rw [View.read_apply]
  refine (congrFun (V_main_arg1 m c) _).trans (congrArg (m ((c : Thread nD τ).loc main_arg1)) (funext fun a => Fin.ext ?_))
  obtain ⟨-, ⟨e0, e1, e2⟩, -⟩ := index t
  match a with
  | ⟨0, _⟩ => show win0_1.index t 0 * 1 + 1 * 0 = (grid0.coords t 0).val; rw [e0]; omega
  | ⟨1, _⟩ => show win0_1.index t 1 * 1 + 1 * 0 = 0; rw [e1]
  | ⟨2, _⟩ => show win0_1.index t 2 * 2048 + 1 * k.val = k.val; rw [e2]; omega

theorem gain (c : Dev nD) : (V m c main_v3 : Vec Ideal S1x1024 .f32)
    = shapeCast S1x1024 (m ((c : Thread nD τ).loc main_arg2) : Vec Ideal S1024 .f32) shapeCasts_S1024_S1x1024 := by
  unfold_abbrev_sides
  after_results
  rfl

theorem read2 (c : Dev nD) (t : Fin cfg0.N) (k : Fin 1024) : (iblk m c 2 t : Vec Ideal S1x1024 .f32) (ix2 0 k)
    = (m ((c : Thread nD τ).loc main_arg2) : Vec Ideal S1024 .f32) (ix1 k) := by
  unfold iblk
  rw [View.read_apply]
  have e : (V m c main_v3 : Vec Ideal S1x1024 .f32) (ix2 0 k) = (m ((c : Thread nD τ).loc main_arg2) : Vec Ideal S1024 .f32) (ix1 k) := by
    rw [gain]
    pointwise
  refine Eq.trans (congrArg (V m c main_v3) (funext fun a => Fin.ext ?_)) e
  obtain ⟨-, -, ⟨e0, e1⟩, -⟩ := index t
  match a with
  | ⟨0, _⟩ => show win0_2.index t 0 * 1 + 1 * 0 = 0; rw [e0]
  | ⟨1, _⟩ => show win0_2.index t 1 * 1024 + 1 * k.val = k.val; rw [e1]; omega

theorem read3 (c : Dev nD) (t : Fin cfg0.N) (k : Fin 1024) (e : Fin 2048) : (iblk m c 3 t : Vec Ideal S1024x2048 .bf16) (ix2 k e)
    = (m ((c : Thread nD τ).loc main_arg3) : Vec Ideal S1024x2048 .bf16) (ix2 k e) := by
  unfold iblk
  rw [View.read_apply]
  refine (congrFun (V_main_arg3 m c) _).trans (congrArg (m ((c : Thread nD τ).loc main_arg3)) (funext fun a => Fin.ext ?_))
  obtain ⟨-, -, -, ⟨e0, e1⟩, -⟩ := index t
  match a with
  | ⟨0, _⟩ => show win0_3.index t 0 * 1024 + 1 * k.val = k.val; rw [e0]; omega
  | ⟨1, _⟩ => show win0_3.index t 1 * 2048 + 1 * e.val = e.val; rw [e1]; omega

theorem cosTable (c : Dev nD) : (V m c main_v0 : Vec Ideal S4096x128 .f32)
    = (concatenate S4096x128 1 [⟨S4096x64, (m ((c : Thread nD τ).loc main_arg4) : FVec Ideal S4096x64 .f32)⟩,
        ⟨S4096x64, (m ((c : Thread nD τ).loc main_arg4) : FVec Ideal S4096x64 .f32)⟩] concatenates_S4096x64_S4096x64_S4096x128_d1 : FVec Ideal S4096x128 .f32) := by
  unfold_abbrev_sides
  after_results

theorem sinTable (c : Dev nD) : (V m c main_v2 : Vec Ideal S4096x128 .f32)
    = (concatenate S4096x128 1 [⟨S4096x64, Host.negf (m ((c : Thread nD τ).loc main_arg5) : FVec Ideal S4096x64 .f32)⟩,
        ⟨S4096x64, (m ((c : Thread nD τ).loc main_arg5) : FVec Ideal S4096x64 .f32)⟩] concatenates_S4096x64_S4096x64_S4096x128_d1 : FVec Ideal S4096x128 .f32) := by
  unfold_abbrev_sides
  after_results

/-- A table made of two halves, read in either half. -/
theorem halves (p q : FVec Ideal S4096x64 .f32) (n : Fin 4096) (j : Fin 64) :
    concatenate S4096x128 1 [⟨S4096x64, p⟩, ⟨S4096x64, q⟩] concatenates_S4096x64_S4096x64_S4096x128_d1 (ix2 n ⟨j.val, by omega⟩) = p (ix2 n j)
    ∧ concatenate S4096x128 1 [⟨S4096x64, p⟩, ⟨S4096x64, q⟩] concatenates_S4096x64_S4096x64_S4096x128_d1 (ix2 n ⟨64 + j.val, by omega⟩)
      = q (ix2 n j) :=
  ⟨concatenate_pair_apply_left (t := S4096x128) 1 p q _ (ix2 n ⟨j.val, by omega⟩) rfl (ix2 n j) (fun a => match a with
      | ⟨0, _⟩ => rfl
      | ⟨1, _⟩ => rfl),
    concatenate_pair_apply_right (t := S4096x128) 1 p q _ (ix2 n ⟨64 + j.val, by omega⟩) rfl rfl (ix2 n j) (fun a ha => match a with
      | ⟨0, _⟩ => rfl
      | ⟨1, _⟩ => absurd rfl ha) (by show j.val + 64 = 64 + j.val; omega)⟩

theorem block4 (c : Dev nD) (t : Fin cfg0.N) (r : Fin 512) (k : Fin 128) : (iblk m c 4 t : Vec Ideal S512x128 .f32) (ix2 r k)
    = (V m c main_v0 : Vec Ideal S4096x128 .f32) (ix2 (row t r) k) := by
  unfold iblk
  rw [View.read_apply]
  refine congrArg (V m c main_v0) (funext fun a => Fin.ext ?_)
  obtain ⟨-, -, -, -, ⟨e0, e1⟩, -⟩ := index t
  match a with
  | ⟨0, _⟩ => show win0_4.index t 0 * 512 + 1 * r.val = 512 * (grid0.coords t 1).val + r.val; rw [e0]; omega
  | ⟨1, _⟩ => show win0_4.index t 1 * 128 + 1 * k.val = k.val; rw [e1]; omega

theorem block5 (c : Dev nD) (t : Fin cfg0.N) (r : Fin 512) (k : Fin 128) : (iblk m c 5 t : Vec Ideal S512x128 .f32) (ix2 r k)
    = (V m c main_v2 : Vec Ideal S4096x128 .f32) (ix2 (row t r) k) := by
  unfold iblk
  rw [View.read_apply]
  refine congrArg (V m c main_v2) (funext fun a => Fin.ext ?_)
  obtain ⟨-, -, -, -, -, e0, e1⟩ := index t
  match a with
  | ⟨0, _⟩ => show win0_5.index t 0 * 512 + 1 * r.val = 512 * (grid0.coords t 1).val + r.val; rw [e0]; omega
  | ⟨1, _⟩ => show win0_5.index t 1 * 128 + 1 * k.val = k.val; rw [e1]; omega

theorem read4 (c : Dev nD) (t : Fin cfg0.N) (r : Fin 512) (j : Fin 64) :
    (iblk m c 4 t : Vec Ideal S512x128 .f32) (ix2 r ⟨j.val, by omega⟩) = (m ((c : Thread nD τ).loc main_arg4) : FVec Ideal S4096x64 .f32) (ix2 (row t r) j)
    ∧ (iblk m c 4 t : Vec Ideal S512x128 .f32) (ix2 r ⟨64 + j.val, by omega⟩)
      = (m ((c : Thread nD τ).loc main_arg4) : FVec Ideal S4096x64 .f32) (ix2 (row t r) j) := by
  rw [block4, block4, cosTable]
  exact halves _ _ _ _

theorem read5 (c : Dev nD) (t : Fin cfg0.N) (r : Fin 512) (j : Fin 64) :
    (iblk m c 5 t : Vec Ideal S512x128 .f32) (ix2 r ⟨j.val, by omega⟩) = -(show EReal from (m ((c : Thread nD τ).loc main_arg5) : FVec Ideal S4096x64 .f32) (ix2 (row t r) j))
    ∧ (iblk m c 5 t : Vec Ideal S512x128 .f32) (ix2 r ⟨64 + j.val, by omega⟩)
      = (m ((c : Thread nD τ).loc main_arg5) : FVec Ideal S4096x64 .f32) (ix2 (row t r) j) := by
  rw [block5, block5, sinTable]
  exact halves _ _ _ _

end Cert.KeyValueIdeal.KeyValue
-- ==== Proof.KeyValue.Pieces.lean ====
module

public import proofs.«01_k».proof.Proof.KeyValue.Payload

@[expose] public section

set_option maxRecDepth 16384

noncomputable section

/-! The five blocks the key and value projection's kernel leaves at a grid point, each as one function of the product and
the two tables. -/

namespace Cert.KeyValueIdeal.KeyValue

open Idealize.ShloMosaic Idealize.ShloMosaic.TcCoe Idealize.ShloMosaic.Tactic
open Cert.KeyValueIdeal Cert.KeyValueIdeal.Gen Cert.Layer

variable (C S v : FVec Ideal S512x128 .f32) (u : FVec Ideal S512x2048 .f32)

/-- The keys by head. -/
def kBlock : FVec Ideal S1x512x8x128 .f32 := fun y => turnedAt C S u (y 1) (y 2) (y 3)

/-- The values by head. -/
def vBlock : FVec Ideal S1x512x8x128 .f32 := fun y => u (ix2 (y 1) ⟨1024 + (128 * (y 2).val + (y 3).val), by
  have h : (y 2).val < 8 := (y 2).isLt
  have h' : (y 3).val < 128 := (y 3).isLt
  omega⟩)

/-- The keys with the heads side by side. -/
def kbBlock : FVec Ideal S1x512x1024 .bf16 := fun y =>
  turnedAt C S u (y 1) ⟨(y 2).val / 128, by have h : (y 2).val < 1024 := (y 2).isLt; omega⟩ ⟨(y 2).val % 128, by omega⟩

/-- The values turned over, in blocks of 256 rows. -/
def vtBlock : FVec Ideal S1x8x2x128x256 .bf16 := fun y => u (ix2
  ⟨256 * (y 2).val + (y 4).val, by have h : (y 2).val < 2 := (y 2).isLt; have h' : (y 4).val < 256 := (y 4).isLt; omega⟩
  ⟨1024 + (128 * (y 1).val + (y 3).val), by have h : (y 1).val < 8 := (y 1).isLt; have h' : (y 3).val < 128 := (y 3).isLt; omega⟩)

/-- The keys' means over blocks of 256 rows, the heads side by side. -/
def meanBlock : FVec Ideal S1x1x2x1024 .f32 := fun y => Ideal.div
  (∑ i : Fin 256, turnedAt C S u ⟨(y 2).val * 256 + i.val, by have h : (y 2).val < 2 := (y 2).isLt; omega⟩
    ⟨(y 3).val / 128, by have h : (y 3).val < 1024 := (y 3).isLt; omega⟩ ⟨(y 3).val % 128, by omega⟩)
  (Ideal.ofBits .f32 0x43800000#32)

theorem k_piece (h : Fin 8) (o : ℕ) (ho : o = 128 * h.val) (sl : S512x2048.Slices ![0, o] S512x128)
    (inb : ∀ a, (![0, 0, h.val, 0] : Fin 4 → ℕ) a + S1x512x1x128.size a ≤ S1x512x8x128.size a) (y : S1x512x1x128.Idx) :
    shapeCast S1x512x1x128 (rot C S (extractStridedSlice S512x128 ![0, o] u sl)) shapeCasts_S1x512x128_S1x512x1x128 y
      = kBlock C S u ((Rect.unit (s := S1x512x8x128) ![0, 0, h.val, 0] S1x512x1x128.size inb).idx y) := by
  obtain ⟨r, j, rfl⟩ : ∃ r j, y = ix4 0 r 0 j := ⟨y 1, y 3, funext fun a => Fin.ext (by
    have h0 : (y 0).val < 1 := (y 0).isLt
    have h2 : (y 2).val < 1 := (y 2).isLt
    match a with
    | ⟨0, _⟩ => show (y 0).val = 0; omega
    | ⟨1, _⟩ => rfl
    | ⟨2, _⟩ => show (y 2).val = 0; omega
    | ⟨3, _⟩ => rfl)⟩
  have ez : (Rect.unit (s := S1x512x8x128) ![0, 0, h.val, 0] S1x512x1x128.size inb).idx (ix4 0 r 0 j) = ix4 0 r h j := funext fun a => Fin.ext (by
    match a with
    | ⟨0, _⟩ => rfl
    | ⟨1, _⟩ => show 0 + 1 * r.val = r.val; omega
    | ⟨2, _⟩ => show h.val + 1 * 0 = h.val; omega
    | ⟨3, _⟩ => show 0 + 1 * j.val = j.val; omega)
  rw [ez, apart_apply, rot_slice C S u h o ho]
  rfl

theorem v_piece (h : Fin 8) (o : ℕ) (ho : o = 1024 + 128 * h.val) (sl : S512x2048.Slices ![0, o] S512x128)
    (inb : ∀ a, (![0, 0, h.val, 0] : Fin 4 → ℕ) a + S1x512x1x128.size a ≤ S1x512x8x128.size a) (y : S1x512x1x128.Idx) :
    k0_pay48 (F := Ideal) (extractStridedSlice S512x128 ![0, o] u sl) y
      = vBlock u ((Rect.unit (s := S1x512x8x128) ![0, 0, h.val, 0] S1x512x1x128.size inb).idx y) := by
  obtain ⟨r, j, rfl⟩ : ∃ r j, y = ix4 0 r 0 j := ⟨y 1, y 3, funext fun a => Fin.ext (by
    have h0 : (y 0).val < 1 := (y 0).isLt
    have h2 : (y 2).val < 1 := (y 2).isLt
    match a with
    | ⟨0, _⟩ => show (y 0).val = 0; omega
    | ⟨1, _⟩ => rfl
    | ⟨2, _⟩ => show (y 2).val = 0; omega
    | ⟨3, _⟩ => rfl)⟩
  have ez : (Rect.unit (s := S1x512x8x128) ![0, 0, h.val, 0] S1x512x1x128.size inb).idx (ix4 0 r 0 j) = ix4 0 r h j := funext fun a => Fin.ext (by
    match a with
    | ⟨0, _⟩ => rfl
    | ⟨1, _⟩ => show 0 + 1 * r.val = r.val; omega
    | ⟨2, _⟩ => show h.val + 1 * 0 = h.val; omega
    | ⟨3, _⟩ => show 0 + 1 * j.val = j.val; omega)
  rw [ez, value_apply]
  exact slice_apply u o sl r j ⟨1024 + (128 * h.val + j.val), by omega⟩ (by show 1024 + (128 * h.val + j.val) = o + j.val; omega)

theorem kb_piece (h : Fin 8) (o : ℕ) (ho : o = 128 * h.val) (sl : S512x2048.Slices ![0, o] S512x128)
    (inb : ∀ a, (![0, 0, o] : Fin 3 → ℕ) a + S1x512x128.size a ≤ S1x512x1024.size a) (y : S1x512x128.Idx) :
    k0_pay49 (F := Ideal) (rot C S (extractStridedSlice S512x128 ![0, o] u sl)) y
      = kbBlock C S u ((Rect.unit (s := S1x512x1024) ![0, 0, o] S1x512x128.size inb).idx y) := by
  obtain ⟨r, j, rfl⟩ : ∃ r j, y = ix3 0 r j := ⟨y 1, y 2, funext fun a => Fin.ext (by
    have h0 : (y 0).val < 1 := (y 0).isLt
    match a with
    | ⟨0, _⟩ => show (y 0).val = 0; omega
    | ⟨1, _⟩ => rfl
    | ⟨2, _⟩ => rfl)⟩
  have ez : (Rect.unit (s := S1x512x1024) ![0, 0, o] S1x512x128.size inb).idx (ix3 0 r j)
      = ix3 0 r ⟨128 * h.val + j.val, by omega⟩ := funext fun a => Fin.ext (by
    match a with
    | ⟨0, _⟩ => rfl
    | ⟨1, _⟩ => show 0 + 1 * r.val = r.val; omega
    | ⟨2, _⟩ => show o + 1 * j.val = 128 * h.val + j.val; omega)
  have e : kbBlock C S u (ix3 0 r ⟨128 * h.val + j.val, by omega⟩) = turnedAt C S u r h j := by
    show turnedAt C S u r ⟨(128 * h.val + j.val) / 128, _⟩ ⟨(128 * h.val + j.val) % 128, _⟩ = _
    have e1 : (⟨(128 * h.val + j.val) / 128, by omega⟩ : Fin 8) = h := Fin.ext (by show (128 * h.val + j.val) / 128 = _; omega)
    have e2 : (⟨(128 * h.val + j.val) % 128, by omega⟩ : Fin 128) = j := Fin.ext (by show (128 * h.val + j.val) % 128 = _; omega)
    rw [e1, e2]
  rw [ez, e]
  exact rot_slice C S u h o ho sl r j

theorem mean_piece (h : Fin 8) (o : ℕ) (ho : o = 128 * h.val) (sl : S512x2048.Slices ![0, o] S512x128)
    (inb : ∀ a, (![0, 0, 0, o] : Fin 4 → ℕ) a + S1x1x2x128.size a ≤ S1x1x2x1024.size a) (y : S1x1x2x128.Idx) :
    k0_pay42 (F := Ideal) (rot C S (extractStridedSlice S512x128 ![0, o] u sl)) y
      = meanBlock C S u ((Rect.unit (s := S1x1x2x1024) ![0, 0, 0, o] S1x1x2x128.size inb).idx y) := by
  obtain ⟨a, j, rfl⟩ : ∃ a j, y = ix4 0 0 a j := ⟨y 2, y 3, funext fun a => Fin.ext (by
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
    | ⟨3, _⟩ => rfl)⟩
  have ez : (Rect.unit (s := S1x1x2x1024) ![0, 0, 0, o] S1x1x2x128.size inb).idx (ix4 0 0 a j)
      = ix4 0 0 a ⟨128 * h.val + j.val, by omega⟩ := funext fun b => Fin.ext (by
    match b with
    | ⟨0, _⟩ => rfl
    | ⟨1, _⟩ => rfl
    | ⟨2, _⟩ => show 0 + 1 * a.val = a.val; omega
    | ⟨3, _⟩ => show o + 1 * j.val = 128 * h.val + j.val; omega)
  have e : meanBlock C S u (ix4 0 0 a ⟨128 * h.val + j.val, by omega⟩)
      = Ideal.div (∑ i : Fin 256, turnedAt C S u ⟨a.val * 256 + i.val, by omega⟩ h j) (Ideal.ofBits .f32 0x43800000#32) := by
    show Ideal.div (∑ i : Fin 256, turnedAt C S u ⟨a.val * 256 + i.val, _⟩ ⟨(128 * h.val + j.val) / 128, _⟩ ⟨(128 * h.val + j.val) % 128, _⟩) _ = _
    have e1 : (⟨(128 * h.val + j.val) / 128, by omega⟩ : Fin 8) = h := Fin.ext (by show (128 * h.val + j.val) / 128 = _; omega)
    have e2 : (⟨(128 * h.val + j.val) % 128, by omega⟩ : Fin 128) = j := Fin.ext (by show (128 * h.val + j.val) % 128 = _; omega)
    rw [e1, e2]
  rw [ez, e, mean_apply]
  simp only [rot_slice C S u h o ho sl]

/-- A store of the values turned over: one head's columns, one half of the block's rows. -/
theorem vt_piece (h : Fin 8) (a : Fin 2) (o : ℕ) (ho : o = 1024 + 128 * h.val) (sl : S512x2048.Slices ![0, o] S512x128)
    (p : FVec Ideal S1x1x1x128x256 .bf16)
    (hp : ∀ (r : Fin 256) (j : Fin 128), p (ix5 0 0 0 j r) = extractStridedSlice S512x128 ![0, o] u sl (ix2 ⟨256 * a.val + r.val, by omega⟩ j))
    (inb : ∀ b, (![0, h.val, a.val, 0, 0] : Fin 5 → ℕ) b + S1x1x1x128x256.size b ≤ S1x8x2x128x256.size b) (y : S1x1x1x128x256.Idx) :
    p y = vtBlock u ((Rect.unit (s := S1x8x2x128x256) ![0, h.val, a.val, 0, 0] S1x1x1x128x256.size inb).idx y) := by
  obtain ⟨j, r, rfl⟩ : ∃ j r, y = ix5 0 0 0 j r := ⟨y 3, y 4, funext fun b => Fin.ext (by
    have h0 : (y 0).val < 1 := (y 0).isLt
    have h1 : (y 1).val < 1 := (y 1).isLt
    have h2 : (y 2).val < 1 := (y 2).isLt
    match b with
    | ⟨0, _⟩ => show (y 0).val = 0; omega
    | ⟨1, _⟩ => show (y 1).val = 0; omega
    | ⟨2, _⟩ => show (y 2).val = 0; omega
    | ⟨3, _⟩ => rfl
    | ⟨4, _⟩ => rfl)⟩
  have ez : (Rect.unit (s := S1x8x2x128x256) ![0, h.val, a.val, 0, 0] S1x1x1x128x256.size inb).idx (ix5 0 0 0 j r)
      = ix5 0 h a j r := funext fun b => Fin.ext (by
    match b with
    | ⟨0, _⟩ => rfl
    | ⟨1, _⟩ => show h.val + 1 * 0 = h.val; omega
    | ⟨2, _⟩ => show a.val + 1 * 0 = a.val; omega
    | ⟨3, _⟩ => show 0 + 1 * j.val = j.val; omega
    | ⟨4, _⟩ => show 0 + 1 * r.val = r.val; omega)
  rw [ez, hp]
  exact slice_apply u o sl _ j ⟨1024 + (128 * h.val + j.val), by omega⟩ (by show 1024 + (128 * h.val + j.val) = o + j.val; omega)

theorem vt_first (h : Fin 8) (o : ℕ) (ho : o = 1024 + 128 * h.val) (sl : S512x2048.Slices ![0, o] S512x128)
    (inb : ∀ b, (![0, h.val, 0, 0, 0] : Fin 5 → ℕ) b + S1x1x1x128x256.size b ≤ S1x8x2x128x256.size b) (y : S1x1x1x128x256.Idx) :
    k0_pay2 (F := Ideal) (extractStridedSlice S512x128 ![0, o] u sl) y
      = vtBlock u ((Rect.unit (s := S1x8x2x128x256) ![0, h.val, 0, 0, 0] S1x1x1x128x256.size inb).idx y) :=
  vt_piece u h 0 o ho sl _ (fun r j => (first_apply _ r j).trans (congrArg _ (congrArg (fun k => ix2 k j) (Fin.ext (by
    show r.val = 256 * 0 + r.val; omega))))) inb y

theorem vt_second (h : Fin 8) (o : ℕ) (ho : o = 1024 + 128 * h.val) (sl : S512x2048.Slices ![0, o] S512x128)
    (inb : ∀ b, (![0, h.val, 1, 0, 0] : Fin 5 → ℕ) b + S1x1x1x128x256.size b ≤ S1x8x2x128x256.size b) (y : S1x1x1x128x256.Idx) :
    k0_pay3 (F := Ideal) (extractStridedSlice S512x128 ![0, o] u sl) y
      = vtBlock u ((Rect.unit (s := S1x8x2x128x256) ![0, h.val, 1, 0, 0] S1x1x1x128x256.size inb).idx y) :=
  vt_piece u h 1 o ho sl _ (fun r j => (second_apply _ r j).trans (congrArg _ (congrArg (fun k => ix2 k j) (Fin.ext (by
    show 256 + r.val = 256 * 1 + r.val; omega))))) inb y

end Cert.KeyValueIdeal.KeyValue
-- ==== Proof.KeyValue.Blocks.lean ====
module

public import proofs.«01_k».proof.Proof.KeyValue.Pieces

@[expose] public section

set_option maxRecDepth 16384

noncomputable section

/-! The key and value projection's stores leave those blocks in its five result windows. -/

namespace Cert.KeyValueIdeal.KeyValue

open Idealize.ShloMosaic Idealize.ShloMosaic.TcCoe Idealize.ShloMosaic.Tactic
open Cert.KeyValueIdeal Cert.KeyValueIdeal.Gen Cert.Layer

theorem z3 : (![0, 0, 0] : Fin 3 → ℕ) = fun _ => 0 := by decide
theorem z2 : (![0, 0] : Fin 2 → ℕ) = fun _ => 0 := by decide

variable (x0 : Vec Ideal S1x512x1024 .f32) (x1 : Vec Ideal S1x1x2048 .f32) (x2 : Vec Ideal S1x1024 .f32) (x3 : Vec Ideal S1024x2048 .bf16)
  (x4 x5 : Vec Ideal S512x128 .f32)

theorem product_eq : k0_pay80 x0 x1 x2 x3 x4 x5 = k0_pay4 x1 x0 x2 x3 := by
  unfold k0_pay80
  rw [View.ld_unit_zero (S := S1x512x1024) z3, View.ld_unit_zero (S := S1x1x2048) z3, View.ld_unit_zero (S := S1x1024) z2,
    View.ld_unit_zero (S := S1024x2048) z2]

theorem cos_eq : k0_pay81 x0 x1 x2 x3 x4 x5 = x4 := by
  unfold k0_pay81
  rw [View.ld_unit_zero (S := S512x128) z2]
  funext j
  rw [← ix2_eta j]
  pointwise [k0_pay5]

theorem sin_eq : k0_pay82 x0 x1 x2 x3 x4 x5 = x5 := by
  unfold k0_pay82
  rw [View.ld_unit_zero (S := S512x128) z2]
  funext j
  rw [← ix2_eta j]
  pointwise [k0_pay6]

/-- The stores of the eight heads leave the keys by head. -/
theorem out6_eq : out0_6 x0 x1 x2 x3 x4 x5 = kBlock x4 x5 (k0_pay4 x1 x0 x2 x3) := by
  funext y
  have e : k0_pay4 x1 x0 x2 x3 = k0_pay80 x0 x1 x2 x3 x4 x5 := (product_eq x0 x1 x2 x3 x4 x5).symm
  conv_rhs => rw [e, ← cos_eq x0 x1 x2 x3 x4 x5, ← sin_eq x0 x1 x2 x3 x4 x5]
  unfold out0_6
  refine View.canon_apply_of_pieces (show Vec Ideal S1x512x8x128 .f32 from kBlock (k0_pay81 x0 x1 x2 x3 x4 x5) (k0_pay82 x0 x1 x2 x3 x4 x5) (k0_pay80 x0 x1 x2 x3 x4 x5)) _ ?_ y
    (cover0_6 _ _ _ _ _ _ _ _ y)
  intro pc hpc
  rcases List.mem_cons.mp hpc with rfl | hpc
  · exact fun y => k_piece _ _ _ 7 896 rfl (by decide) (by decide) y
  rcases List.mem_cons.mp hpc with rfl | hpc
  · exact fun y => k_piece _ _ _ 6 768 rfl (by decide) (by decide) y
  rcases List.mem_cons.mp hpc with rfl | hpc
  · exact fun y => k_piece _ _ _ 5 640 rfl (by decide) (by decide) y
  rcases List.mem_cons.mp hpc with rfl | hpc
  · exact fun y => k_piece _ _ _ 4 512 rfl (by decide) (by decide) y
  rcases List.mem_cons.mp hpc with rfl | hpc
  · exact fun y => k_piece _ _ _ 3 384 rfl (by decide) (by decide) y
  rcases List.mem_cons.mp hpc with rfl | hpc
  · exact fun y => k_piece _ _ _ 2 256 rfl (by decide) (by decide) y
  rcases List.mem_cons.mp hpc with rfl | hpc
  · exact fun y => k_piece _ _ _ 1 128 rfl (by decide) (by decide) y
  rcases List.mem_cons.mp hpc with rfl | hpc
  · exact fun y => k_piece _ _ _ 0 0 rfl (by decide) (by decide) y
  nomatch hpc

/-- The stores of the eight heads leave the values by head. -/
theorem out7_eq : out0_7 x0 x1 x2 x3 x4 x5 = vBlock (k0_pay4 x1 x0 x2 x3) := by
  funext y
  have e : k0_pay4 x1 x0 x2 x3 = k0_pay80 x0 x1 x2 x3 x4 x5 := (product_eq x0 x1 x2 x3 x4 x5).symm
  conv_rhs => rw [e]
  unfold out0_7
  refine View.canon_apply_of_pieces (show Vec Ideal S1x512x8x128 .f32 from vBlock (k0_pay80 x0 x1 x2 x3 x4 x5)) _ ?_ y
    (cover0_7 _ _ _ _ _ _ _ _ y)
  intro pc hpc
  rcases List.mem_cons.mp hpc with rfl | hpc
  · exact fun y => v_piece (k0_pay80 x0 x1 x2 x3 x4 x5) 7 1920 rfl (by decide) (by decide) y
  rcases List.mem_cons.mp hpc with rfl | hpc
  · exact fun y => v_piece (k0_pay80 x0 x1 x2 x3 x4 x5) 6 1792 rfl (by decide) (by decide) y
  rcases List.mem_cons.mp hpc with rfl | hpc
  · exact fun y => v_piece (k0_pay80 x0 x1 x2 x3 x4 x5) 5 1664 rfl (by decide) (by decide) y
  rcases List.mem_cons.mp hpc with rfl | hpc
  · exact fun y => v_piece (k0_pay80 x0 x1 x2 x3 x4 x5) 4 1536 rfl (by decide) (by decide) y
  rcases List.mem_cons.mp hpc with rfl | hpc
  · exact fun y => v_piece (k0_pay80 x0 x1 x2 x3 x4 x5) 3 1408 rfl (by decide) (by decide) y
  rcases List.mem_cons.mp hpc with rfl | hpc
  · exact fun y => v_piece (k0_pay80 x0 x1 x2 x3 x4 x5) 2 1280 rfl (by decide) (by decide) y
  rcases List.mem_cons.mp hpc with rfl | hpc
  · exact fun y => v_piece (k0_pay80 x0 x1 x2 x3 x4 x5) 1 1152 rfl (by decide) (by decide) y
  rcases List.mem_cons.mp hpc with rfl | hpc
  · exact fun y => v_piece (k0_pay80 x0 x1 x2 x3 x4 x5) 0 1024 rfl (by decide) (by decide) y
  nomatch hpc

/-- The stores of the eight heads leave the keys side by side. -/
theorem out8_eq : out0_8 x0 x1 x2 x3 x4 x5 = kbBlock x4 x5 (k0_pay4 x1 x0 x2 x3) := by
  funext y
  have e : k0_pay4 x1 x0 x2 x3 = k0_pay80 x0 x1 x2 x3 x4 x5 := (product_eq x0 x1 x2 x3 x4 x5).symm
  conv_rhs => rw [e, ← cos_eq x0 x1 x2 x3 x4 x5, ← sin_eq x0 x1 x2 x3 x4 x5]
  unfold out0_8
  refine View.canon_apply_of_pieces (show Vec Ideal S1x512x1024 .bf16 from kbBlock (k0_pay81 x0 x1 x2 x3 x4 x5) (k0_pay82 x0 x1 x2 x3 x4 x5) (k0_pay80 x0 x1 x2 x3 x4 x5)) _ ?_ y
    (cover0_8 _ _ _ _ _ _ _ _ y)
  intro pc hpc
  rcases List.mem_cons.mp hpc with rfl | hpc
  · exact fun y => kb_piece _ _ _ 7 896 rfl (by decide) (by decide) y
  rcases List.mem_cons.mp hpc with rfl | hpc
  · exact fun y => kb_piece _ _ _ 6 768 rfl (by decide) (by decide) y
  rcases List.mem_cons.mp hpc with rfl | hpc
  · exact fun y => kb_piece _ _ _ 5 640 rfl (by decide) (by decide) y
  rcases List.mem_cons.mp hpc with rfl | hpc
  · exact fun y => kb_piece _ _ _ 4 512 rfl (by decide) (by decide) y
  rcases List.mem_cons.mp hpc with rfl | hpc
  · exact fun y => kb_piece _ _ _ 3 384 rfl (by decide) (by decide) y
  rcases List.mem_cons.mp hpc with rfl | hpc
  · exact fun y => kb_piece _ _ _ 2 256 rfl (by decide) (by decide) y
  rcases List.mem_cons.mp hpc with rfl | hpc
  · exact fun y => kb_piece _ _ _ 1 128 rfl (by decide) (by decide) y
  rcases List.mem_cons.mp hpc with rfl | hpc
  · exact fun y => kb_piece _ _ _ 0 0 rfl (by decide) (by decide) y
  nomatch hpc

/-- The sixteen stores leave the values turned over. -/
theorem out9_eq : out0_9 x0 x1 x2 x3 x4 x5 = vtBlock (k0_pay4 x1 x0 x2 x3) := by
  funext y
  have e : k0_pay4 x1 x0 x2 x3 = k0_pay80 x0 x1 x2 x3 x4 x5 := (product_eq x0 x1 x2 x3 x4 x5).symm
  conv_rhs => rw [e]
  unfold out0_9
  refine View.canon_apply_of_pieces (show Vec Ideal S1x8x2x128x256 .bf16 from vtBlock (k0_pay80 x0 x1 x2 x3 x4 x5)) _ ?_ y
    (cover0_9 _ _ _ _ _ _ _ _ _ _ _ _ _ _ _ _ y)
  intro pc hpc
  rcases List.mem_cons.mp hpc with rfl | hpc
  · exact fun y => vt_second (k0_pay80 x0 x1 x2 x3 x4 x5) 7 1920 rfl (by decide) (by decide) y
  rcases List.mem_cons.mp hpc with rfl | hpc
  · exact fun y => vt_first (k0_pay80 x0 x1 x2 x3 x4 x5) 7 1920 rfl (by decide) (by decide) y
  rcases List.mem_cons.mp hpc with rfl | hpc
  · exact fun y => vt_second (k0_pay80 x0 x1 x2 x3 x4 x5) 6 1792 rfl (by decide) (by decide) y
  rcases List.mem_cons.mp hpc with rfl | hpc
  · exact fun y => vt_first (k0_pay80 x0 x1 x2 x3 x4 x5) 6 1792 rfl (by decide) (by decide) y
  rcases List.mem_cons.mp hpc with rfl | hpc
  · exact fun y => vt_second (k0_pay80 x0 x1 x2 x3 x4 x5) 5 1664 rfl (by decide) (by decide) y
  rcases List.mem_cons.mp hpc with rfl | hpc
  · exact fun y => vt_first (k0_pay80 x0 x1 x2 x3 x4 x5) 5 1664 rfl (by decide) (by decide) y
  rcases List.mem_cons.mp hpc with rfl | hpc
  · exact fun y => vt_second (k0_pay80 x0 x1 x2 x3 x4 x5) 4 1536 rfl (by decide) (by decide) y
  rcases List.mem_cons.mp hpc with rfl | hpc
  · exact fun y => vt_first (k0_pay80 x0 x1 x2 x3 x4 x5) 4 1536 rfl (by decide) (by decide) y
  rcases List.mem_cons.mp hpc with rfl | hpc
  · exact fun y => vt_second (k0_pay80 x0 x1 x2 x3 x4 x5) 3 1408 rfl (by decide) (by decide) y
  rcases List.mem_cons.mp hpc with rfl | hpc
  · exact fun y => vt_first (k0_pay80 x0 x1 x2 x3 x4 x5) 3 1408 rfl (by decide) (by decide) y
  rcases List.mem_cons.mp hpc with rfl | hpc
  · exact fun y => vt_second (k0_pay80 x0 x1 x2 x3 x4 x5) 2 1280 rfl (by decide) (by decide) y
  rcases List.mem_cons.mp hpc with rfl | hpc
  · exact fun y => vt_first (k0_pay80 x0 x1 x2 x3 x4 x5) 2 1280 rfl (by decide) (by decide) y
  rcases List.mem_cons.mp hpc with rfl | hpc
  · exact fun y => vt_second (k0_pay80 x0 x1 x2 x3 x4 x5) 1 1152 rfl (by decide) (by decide) y
  rcases List.mem_cons.mp hpc with rfl | hpc
  · exact fun y => vt_first (k0_pay80 x0 x1 x2 x3 x4 x5) 1 1152 rfl (by decide) (by decide) y
  rcases List.mem_cons.mp hpc with rfl | hpc
  · exact fun y => vt_second (k0_pay80 x0 x1 x2 x3 x4 x5) 0 1024 rfl (by decide) (by decide) y
  rcases List.mem_cons.mp hpc with rfl | hpc
  · exact fun y => vt_first (k0_pay80 x0 x1 x2 x3 x4 x5) 0 1024 rfl (by decide) (by decide) y
  nomatch hpc

/-- The stores of the eight heads leave the means of the keys. -/
theorem out10_eq : out0_10 x0 x1 x2 x3 x4 x5 = meanBlock x4 x5 (k0_pay4 x1 x0 x2 x3) := by
  funext y
  have e : k0_pay4 x1 x0 x2 x3 = k0_pay80 x0 x1 x2 x3 x4 x5 := (product_eq x0 x1 x2 x3 x4 x5).symm
  conv_rhs => rw [e, ← cos_eq x0 x1 x2 x3 x4 x5, ← sin_eq x0 x1 x2 x3 x4 x5]
  unfold out0_10
  refine View.canon_apply_of_pieces (show Vec Ideal S1x1x2x1024 .f32 from meanBlock (k0_pay81 x0 x1 x2 x3 x4 x5) (k0_pay82 x0 x1 x2 x3 x4 x5) (k0_pay80 x0 x1 x2 x3 x4 x5)) _ ?_ y
    (cover0_10 _ _ _ _ _ _ _ _ y)
  intro pc hpc
  rcases List.mem_cons.mp hpc with rfl | hpc
  · exact fun y => mean_piece _ _ _ 7 896 rfl (by decide) (by decide) y
  rcases List.mem_cons.mp hpc with rfl | hpc
  · exact fun y => mean_piece _ _ _ 6 768 rfl (by decide) (by decide) y
  rcases List.mem_cons.mp hpc with rfl | hpc
  · exact fun y => mean_piece _ _ _ 5 640 rfl (by decide) (by decide) y
  rcases List.mem_cons.mp hpc with rfl | hpc
  · exact fun y => mean_piece _ _ _ 4 512 rfl (by decide) (by decide) y
  rcases List.mem_cons.mp hpc with rfl | hpc
  · exact fun y => mean_piece _ _ _ 3 384 rfl (by decide) (by decide) y
  rcases List.mem_cons.mp hpc with rfl | hpc
  · exact fun y => mean_piece _ _ _ 2 256 rfl (by decide) (by decide) y
  rcases List.mem_cons.mp hpc with rfl | hpc
  · exact fun y => mean_piece _ _ _ 1 128 rfl (by decide) (by decide) y
  rcases List.mem_cons.mp hpc with rfl | hpc
  · exact fun y => mean_piece _ _ _ 0 0 rfl (by decide) (by decide) y
  nomatch hpc

end Cert.KeyValueIdeal.KeyValue
-- ==== Proof.KeyValue.Array.lean ====
module

public import proofs.«01_k».proof.Proof.KeyValue.Reads
public import proofs.«01_k».proof.Proof.KeyValue.Blocks

@[expose] public section

set_option maxRecDepth 16384

noncomputable section

/-! What the key and value projection's five result arrays hold after the run, entry by entry. -/

namespace Cert.KeyValueIdeal.KeyValue

open Idealize.ShloMosaic Idealize.ShloMosaic.TcCoe Idealize.SL.Sem
open Idealize.ShloMosaic.Pipeline (Dat)
open Cert.KeyValueIdeal Cert.KeyValueIdeal.Gen Cert.Layer

section
variable (x : FVec Ideal S4x4096x1024 .f32) (mod : FVec Ideal S4x1x2048 .f32) (g : FVec Ideal S1024 .f32)
  (w : FVec Ideal S1024x2048 .bf16) (cos sin : FVec Ideal S4096x64 .f32)

/-- The projection of the modulated row `n` of sequence `b`, at column `e`. -/
def proj (b : Fin 4) (n : Fin 4096) (e : Fin 2048) : EReal :=
  ∑ k : Fin 1024, modulated (fun k => x (ix3 b n k)) (fun k => g (ix1 k)) (fun k => mod (ix3 b 0 ⟨k.val, by omega⟩))
    (fun k => mod (ix3 b 0 ⟨1024 + k.val, by omega⟩)) k * w (ix2 k e)

/-- The key of sequence `b`, row `n` and head `h`, at column `j`. -/
def key (b : Fin 4) (n : Fin 4096) (h : Fin 8) (j : Fin 128) : EReal :=
  turn (fun e => proj x mod g w b n ⟨128 * h.val + e.val, by omega⟩) (fun e => cos (ix2 n e)) (fun e => sin (ix2 n e)) j

/-- The value of sequence `b`, row `n` and head `h`, at column `j`. -/
def value (b : Fin 4) (n : Fin 4096) (h : Fin 8) (j : Fin 128) : EReal :=
  proj x mod g w b n ⟨1024 + (128 * h.val + j.val), by omega⟩

/-- All the keys, by head. -/
def keyArr : FVec Ideal S4x4096x8x128 .f32 := fun y => key x mod g w cos sin (y 0) (y 1) (y 2) (y 3)

/-- All the values, by head. -/
def valueArr : FVec Ideal S4x4096x8x128 .f32 := fun y => value x mod g w (y 0) (y 1) (y 2) (y 3)

/-- All the keys, the heads side by side. -/
def flatArr : FVec Ideal S4x4096x1024 .bf16 := fun y => key x mod g w cos sin (y 0) (y 1)
  ⟨(y 2).val / 128, by have h : (y 2).val < 1024 := (y 2).isLt; omega⟩ ⟨(y 2).val % 128, by omega⟩

/-- All the values turned over, in blocks of 256 rows. -/
def turnedArr : FVec Ideal S4x8x16x128x256 .bf16 := fun y => value x mod g w (y 0)
  ⟨(y 2).val * 256 + (y 4).val, by have h : (y 2).val < 16 := (y 2).isLt; have h' : (y 4).val < 256 := (y 4).isLt; omega⟩ (y 1) (y 3)

/-- The keys' means over blocks of 256 rows. -/
def meanArr : FVec Ideal S4x8x2x1024 .f32 := fun y => Ideal.div
  (∑ i : Fin 256, key x mod g w cos sin (y 0)
    ⟨((y 1).val * 2 + (y 2).val) * 256 + i.val, by have h : (y 1).val < 8 := (y 1).isLt; have h' : (y 2).val < 2 := (y 2).isLt; omega⟩
    ⟨(y 3).val / 128, by have h : (y 3).val < 1024 := (y 3).isLt; omega⟩ ⟨(y 3).val % 128, by omega⟩)
  (Ideal.ofBits .f32 0x43800000#32)

end

variable (m : (ℓ : Loc nD τ sig) → Buf (Elt Ideal) ℓ) (ρ : Dev nD → PrngReg)

/-- The keys, from the launch contents of the arguments. -/
abbrev keys (c : Dev nD) : Buf (Elt Ideal) ((c : Thread nD τ).loc main_v4_0) :=
  keyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The values, from the launch contents of the arguments. -/
abbrev values (c : Dev nD) : Buf (Elt Ideal) ((c : Thread nD τ).loc main_v4_1) :=
  valueArr (m ((c : Thread nD τ).loc main_arg0)) (m ((c : Thread nD τ).loc main_arg1)) (m ((c : Thread nD τ).loc main_arg2)) (m ((c : Thread nD τ).loc main_arg3))

/-- The keys side by side, from the launch contents of the arguments. -/
abbrev flats (c : Dev nD) : Buf (Elt Ideal) ((c : Thread nD τ).loc main_v4_2) :=
  flatArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The values turned over, from the launch contents of the arguments. -/
abbrev turneds (c : Dev nD) : Buf (Elt Ideal) ((c : Thread nD τ).loc main_v4_3) :=
  turnedArr (m ((c : Thread nD τ).loc main_arg0)) (m ((c : Thread nD τ).loc main_arg1)) (m ((c : Thread nD τ).loc main_arg2)) (m ((c : Thread nD τ).loc main_arg3))

/-- The means of the keys, from the launch contents of the arguments. -/
abbrev means (c : Dev nD) : Buf (Elt Ideal) ((c : Thread nD τ).loc main_v4_4) :=
  meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem product (c : Dev nD) (t : Fin cfg0.N) (r : Fin 512) (e : Fin 2048) :
    k0_pay4 (F := Ideal) (iblk m c 1 t) (iblk m c 0 t) (iblk m c 2 t) (iblk m c 3 t) (ix2 r e)
      = proj (m ((c : Thread nD τ).loc main_arg0)) (m ((c : Thread nD τ).loc main_arg1)) (m ((c : Thread nD τ).loc main_arg2)) (m ((c : Thread nD τ).loc main_arg3)) (grid0.coords t 0) (row t r) e := by
  refine (product_apply _ _ _ _ r e).trans ?_
  unfold proj
  simp only [read0, read1, read2, read3]

theorem turned (c : Dev nD) (t : Fin cfg0.N) (r : Fin 512) (h : Fin 8) (j : Fin 128) :
    turnedAt (iblk m c 4 t) (iblk m c 5 t) (k0_pay4 (F := Ideal) (iblk m c 1 t) (iblk m c 0 t) (iblk m c 2 t) (iblk m c 3 t)) r h j
      = key (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (grid0.coords t 0) (row t r) h j := by
  refine Eq.trans ?_ (turn_of_tables (fun e => proj (m ((c : Thread nD τ).loc main_arg0)) (m ((c : Thread nD τ).loc main_arg1)) (m ((c : Thread nD τ).loc main_arg2)) (m ((c : Thread nD τ).loc main_arg3)) (grid0.coords t 0) (row t r) ⟨128 * h.val + e.val, by omega⟩) _ _
    (fun k => (iblk m c 4 t : Vec Ideal S512x128 .f32) (ix2 r k)) (fun k => (iblk m c 5 t : Vec Ideal S512x128 .f32) (ix2 r k))
    (read4 m c t r) (read5 m c t r) j ⟨(j.val + 128 - 64) % 128, by omega⟩
    (by show (j.val + 128 - 64) % 128 = (j.val + 64) % 128; omega))
  rw [← product, ← product]
  rfl

theorem point6 (c : Dev nD) (t : Fin cfg0.N) (r : Fin 512) (h : Fin 8) (j : Fin 128) :
    out0_6 (iblk m c 0 t) (iblk m c 1 t) (iblk m c 2 t) (iblk m c 3 t) (iblk m c 4 t) (iblk m c 5 t) (ix4 0 r h j) = keys m c (ix4 (grid0.coords t 0) (row t r) h j) := by
  rw [out6_eq]
  exact turned m c t r h j

theorem point7 (c : Dev nD) (t : Fin cfg0.N) (r : Fin 512) (h : Fin 8) (j : Fin 128) :
    out0_7 (iblk m c 0 t) (iblk m c 1 t) (iblk m c 2 t) (iblk m c 3 t) (iblk m c 4 t) (iblk m c 5 t) (ix4 0 r h j) = values m c (ix4 (grid0.coords t 0) (row t r) h j) := by
  rw [out7_eq]
  exact product m c t r _

theorem point8 (c : Dev nD) (t : Fin cfg0.N) (r : Fin 512) (d : Fin 1024) :
    out0_8 (iblk m c 0 t) (iblk m c 1 t) (iblk m c 2 t) (iblk m c 3 t) (iblk m c 4 t) (iblk m c 5 t) (ix3 0 r d) = flats m c (ix3 (grid0.coords t 0) (row t r) d) := by
  rw [out8_eq]
  exact turned m c t r _ _

/-- The block of 256 rows that half `s` of the block of grid point `t` is. -/
def half (t : Fin cfg0.N) (s : Fin 2) : Fin 16 :=
  ⟨(grid0.coords t 1).val * 2 + s.val, by have h : (grid0.coords t 1).val < 8 := (grid0.coords t 1).isLt; omega⟩

theorem point9 (c : Dev nD) (t : Fin cfg0.N) (h : Fin 8) (s : Fin 2) (j : Fin 128) (i : Fin 256) :
    out0_9 (iblk m c 0 t) (iblk m c 1 t) (iblk m c 2 t) (iblk m c 3 t) (iblk m c 4 t) (iblk m c 5 t) (ix5 0 h s j i) = turneds m c (ix5 (grid0.coords t 0) h (half t s) j i) := by
  rw [out9_eq]
  refine (product m c t _ _).trans ?_
  refine congrArg (fun n => proj (m ((c : Thread nD τ).loc main_arg0)) (m ((c : Thread nD τ).loc main_arg1)) (m ((c : Thread nD τ).loc main_arg2)) (m ((c : Thread nD τ).loc main_arg3)) (grid0.coords t 0) n _) (Fin.ext ?_)
  show 512 * (grid0.coords t 1).val + (256 * s.val + i.val) = ((grid0.coords t 1).val * 2 + s.val) * 256 + i.val
  omega

theorem point10 (c : Dev nD) (t : Fin cfg0.N) (s : Fin 2) (d : Fin 1024) :
    out0_10 (iblk m c 0 t) (iblk m c 1 t) (iblk m c 2 t) (iblk m c 3 t) (iblk m c 4 t) (iblk m c 5 t) (ix4 0 0 s d) = means m c (ix4 (grid0.coords t 0) (grid0.coords t 1) s d) := by
  rw [out10_eq]
  refine congrArg (fun v => Ideal.div v (Ideal.ofBits .f32 0x43800000#32)) (Finset.sum_congr rfl fun i _ => ?_)
  refine (turned m c t _ _ _).trans (congrArg (fun n => key (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (grid0.coords t 0) n _ _) (Fin.ext ?_))
  show 512 * (grid0.coords t 1).val + (s.val * 256 + i.val) = ((grid0.coords t 1).val * 2 + s.val) * 256 + i.val
  omega

end Cert.KeyValueIdeal.KeyValue
-- ==== Proof.KeyValue.Final.lean ====
module

public import proofs.«01_k».proof.Proof.KeyValue.Array

@[expose] public section

set_option maxRecDepth 16384

noncomputable section

/-! The grid points' blocks cover the five result arrays. -/

namespace Cert.KeyValueIdeal.KeyValue

open Idealize.ShloMosaic Idealize.ShloMosaic.TcCoe Idealize.SL.Sem
open Idealize.ShloMosaic.Pipeline (Dat)
open Cert.KeyValueIdeal Cert.KeyValueIdeal.Gen Cert.Layer

variable (m : (ℓ : Loc nD τ sig) → Buf (Elt Ideal) ℓ) (ρ : Dev nD → PrngReg)

theorem flushed6_eq (c : Dev nD) (t : Fin cfg0.N) (hf : (cfg0.win 6).flush t = true) :
    (dats m 0 c).flushed 6 t = ((cfg0.win 6).blk t).view.read (Elt Ideal) (keys m c) := by
  rw [Value.flushed6]
  obtain ⟨e0, e1, e2, e3⟩ := index_keys t
  funext j
  have hj0 : (j 0).val < 1 := (j 0).isLt
  have ej : (j : S1x512x8x128.Idx) = ix4 0 (j 1) (j 2) (j 3) := funext fun a => Fin.ext (by
    match a with
    | ⟨0, _⟩ => show (j 0).val = 0; omega
    | ⟨1, _⟩ => rfl
    | ⟨2, _⟩ => rfl
    | ⟨3, _⟩ => rfl)
  rw [View.read_apply]
  refine ((congrArg (out0_6 (iblk m c 0 t) (iblk m c 1 t) (iblk m c 2 t) (iblk m c 3 t) (iblk m c 4 t) (iblk m c 5 t)) ej).trans
    (point6 m c t (j 1) (j 2) (j 3))).trans (congrArg (keys m c) (funext fun a => Fin.ext ?_))
  match a with
  | ⟨0, _⟩ => show (grid0.coords t 0).val = win0_6.index t 0 * 1 + 1 * (j 0).val; rw [e0]; omega
  | ⟨1, _⟩ => show 512 * (grid0.coords t 1).val + (j 1).val = win0_6.index t 1 * 512 + 1 * (j 1).val; rw [e1]; omega
  | ⟨2, _⟩ => show (j 2).val = win0_6.index t 2 * 8 + 1 * (j 2).val; rw [e2]; omega
  | ⟨3, _⟩ => show (j 3).val = win0_6.index t 3 * 128 + 1 * (j 3).val; rw [e3]; omega

theorem final6 (c : Dev nD) : (dats m 0 c).arrAt 6 cfg0.N = keys m c :=
  (dats m 0 c).arrAt_eq_of_cover 6 (keys m c) (flushed6_eq m c) fun j => by
    have h0 : (j 0 : Nat) < 4 := (j 0).isLt
    have h1 : (j 1 : Nat) < 4096 := (j 1).isLt
    have h2 : (j 2 : Nat) < 8 := (j 2).isLt
    have h3 : (j 3 : Nat) < 128 := (j 3).isLt
    have hN : cfg0.N = 32 := N_0
    refine ⟨⟨(j 0 : Nat) * 8 + (j 1 : Nat) / 512, by omega⟩, flush0_6 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨e0, e1, e2, e3⟩ := index_keys t
    obtain ⟨c0, c1⟩ := point_coords t
    show j ∈ ((View.whole main_v4_0).slice (win0_6.rect t)).set
    rw [View.set_slice_whole, Rect.mem_set_unit]
    intro a
    match a with
    | ⟨0, _⟩ => show win0_6.index t 0 * 1 ≤ (j 0 : Nat) ∧ (j 0 : Nat) < win0_6.index t 0 * 1 + 1; rw [e0, c0]; omega
    | ⟨1, _⟩ => show win0_6.index t 1 * 512 ≤ (j 1 : Nat) ∧ (j 1 : Nat) < win0_6.index t 1 * 512 + 512; rw [e1, c1]; omega
    | ⟨2, _⟩ => show win0_6.index t 2 * 8 ≤ (j 2 : Nat) ∧ (j 2 : Nat) < win0_6.index t 2 * 8 + 8; rw [e2]; omega
    | ⟨3, _⟩ => show win0_6.index t 3 * 128 ≤ (j 3 : Nat) ∧ (j 3 : Nat) < win0_6.index t 3 * 128 + 128; rw [e3]; omega

theorem flushed7_eq (c : Dev nD) (t : Fin cfg0.N) (hf : (cfg0.win 7).flush t = true) :
    (dats m 0 c).flushed 7 t = ((cfg0.win 7).blk t).view.read (Elt Ideal) (values m c) := by
  rw [Value.flushed7]
  obtain ⟨e0, e1, e2, e3⟩ := index_values t
  funext j
  have hj0 : (j 0).val < 1 := (j 0).isLt
  have ej : (j : S1x512x8x128.Idx) = ix4 0 (j 1) (j 2) (j 3) := funext fun a => Fin.ext (by
    match a with
    | ⟨0, _⟩ => show (j 0).val = 0; omega
    | ⟨1, _⟩ => rfl
    | ⟨2, _⟩ => rfl
    | ⟨3, _⟩ => rfl)
  rw [View.read_apply]
  refine ((congrArg (out0_7 (iblk m c 0 t) (iblk m c 1 t) (iblk m c 2 t) (iblk m c 3 t) (iblk m c 4 t) (iblk m c 5 t)) ej).trans
    (point7 m c t (j 1) (j 2) (j 3))).trans (congrArg (values m c) (funext fun a => Fin.ext ?_))
  match a with
  | ⟨0, _⟩ => show (grid0.coords t 0).val = win0_7.index t 0 * 1 + 1 * (j 0).val; rw [e0]; omega
  | ⟨1, _⟩ => show 512 * (grid0.coords t 1).val + (j 1).val = win0_7.index t 1 * 512 + 1 * (j 1).val; rw [e1]; omega
  | ⟨2, _⟩ => show (j 2).val = win0_7.index t 2 * 8 + 1 * (j 2).val; rw [e2]; omega
  | ⟨3, _⟩ => show (j 3).val = win0_7.index t 3 * 128 + 1 * (j 3).val; rw [e3]; omega

theorem final7 (c : Dev nD) : (dats m 0 c).arrAt 7 cfg0.N = values m c :=
  (dats m 0 c).arrAt_eq_of_cover 7 (values m c) (flushed7_eq m c) fun j => by
    have h0 : (j 0 : Nat) < 4 := (j 0).isLt
    have h1 : (j 1 : Nat) < 4096 := (j 1).isLt
    have h2 : (j 2 : Nat) < 8 := (j 2).isLt
    have h3 : (j 3 : Nat) < 128 := (j 3).isLt
    have hN : cfg0.N = 32 := N_0
    refine ⟨⟨(j 0 : Nat) * 8 + (j 1 : Nat) / 512, by omega⟩, flush0_7 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨e0, e1, e2, e3⟩ := index_values t
    obtain ⟨c0, c1⟩ := point_coords t
    show j ∈ ((View.whole main_v4_1).slice (win0_7.rect t)).set
    rw [View.set_slice_whole, Rect.mem_set_unit]
    intro a
    match a with
    | ⟨0, _⟩ => show win0_7.index t 0 * 1 ≤ (j 0 : Nat) ∧ (j 0 : Nat) < win0_7.index t 0 * 1 + 1; rw [e0, c0]; omega
    | ⟨1, _⟩ => show win0_7.index t 1 * 512 ≤ (j 1 : Nat) ∧ (j 1 : Nat) < win0_7.index t 1 * 512 + 512; rw [e1, c1]; omega
    | ⟨2, _⟩ => show win0_7.index t 2 * 8 ≤ (j 2 : Nat) ∧ (j 2 : Nat) < win0_7.index t 2 * 8 + 8; rw [e2]; omega
    | ⟨3, _⟩ => show win0_7.index t 3 * 128 ≤ (j 3 : Nat) ∧ (j 3 : Nat) < win0_7.index t 3 * 128 + 128; rw [e3]; omega

theorem flushed8_eq (c : Dev nD) (t : Fin cfg0.N) (hf : (cfg0.win 8).flush t = true) :
    (dats m 0 c).flushed 8 t = ((cfg0.win 8).blk t).view.read (Elt Ideal) (flats m c) := by
  rw [Value.flushed8]
  obtain ⟨e0, e1, e2⟩ := index_flat t
  funext j
  have hj0 : (j 0).val < 1 := (j 0).isLt
  have ej : (j : S1x512x1024.Idx) = ix3 0 (j 1) (j 2) := funext fun a => Fin.ext (by
    match a with
    | ⟨0, _⟩ => show (j 0).val = 0; omega
    | ⟨1, _⟩ => rfl
    | ⟨2, _⟩ => rfl)
  rw [View.read_apply]
  refine ((congrArg (out0_8 (iblk m c 0 t) (iblk m c 1 t) (iblk m c 2 t) (iblk m c 3 t) (iblk m c 4 t) (iblk m c 5 t)) ej).trans
    (point8 m c t (j 1) (j 2))).trans (congrArg (flats m c) (funext fun a => Fin.ext ?_))
  match a with
  | ⟨0, _⟩ => show (grid0.coords t 0).val = win0_8.index t 0 * 1 + 1 * (j 0).val; rw [e0]; omega
  | ⟨1, _⟩ => show 512 * (grid0.coords t 1).val + (j 1).val = win0_8.index t 1 * 512 + 1 * (j 1).val; rw [e1]; omega
  | ⟨2, _⟩ => show (j 2).val = win0_8.index t 2 * 1024 + 1 * (j 2).val; rw [e2]; omega

theorem final8 (c : Dev nD) : (dats m 0 c).arrAt 8 cfg0.N = flats m c :=
  (dats m 0 c).arrAt_eq_of_cover 8 (flats m c) (flushed8_eq m c) fun j => by
    have h0 : (j 0 : Nat) < 4 := (j 0).isLt
    have h1 : (j 1 : Nat) < 4096 := (j 1).isLt
    have h2 : (j 2 : Nat) < 1024 := (j 2).isLt
    have hN : cfg0.N = 32 := N_0
    refine ⟨⟨(j 0 : Nat) * 8 + (j 1 : Nat) / 512, by omega⟩, flush0_8 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨e0, e1, e2⟩ := index_flat t
    obtain ⟨c0, c1⟩ := point_coords t
    show j ∈ ((View.whole main_v4_2).slice (win0_8.rect t)).set
    rw [View.set_slice_whole, Rect.mem_set_unit]
    intro a
    match a with
    | ⟨0, _⟩ => show win0_8.index t 0 * 1 ≤ (j 0 : Nat) ∧ (j 0 : Nat) < win0_8.index t 0 * 1 + 1; rw [e0, c0]; omega
    | ⟨1, _⟩ => show win0_8.index t 1 * 512 ≤ (j 1 : Nat) ∧ (j 1 : Nat) < win0_8.index t 1 * 512 + 512; rw [e1, c1]; omega
    | ⟨2, _⟩ => show win0_8.index t 2 * 1024 ≤ (j 2 : Nat) ∧ (j 2 : Nat) < win0_8.index t 2 * 1024 + 1024; rw [e2]; omega

theorem flushed9_eq (c : Dev nD) (t : Fin cfg0.N) (hf : (cfg0.win 9).flush t = true) :
    (dats m 0 c).flushed 9 t = ((cfg0.win 9).blk t).view.read (Elt Ideal) (turneds m c) := by
  rw [Value.flushed9]
  obtain ⟨e0, e1, e2, e3, e4⟩ := index_turned t
  funext j
  have hj0 : (j 0).val < 1 := (j 0).isLt
  have ej : (j : S1x8x2x128x256.Idx) = ix5 0 (j 1) (j 2) (j 3) (j 4) := funext fun a => Fin.ext (by
    match a with
    | ⟨0, _⟩ => show (j 0).val = 0; omega
    | ⟨1, _⟩ => rfl
    | ⟨2, _⟩ => rfl
    | ⟨3, _⟩ => rfl
    | ⟨4, _⟩ => rfl)
  rw [View.read_apply]
  refine ((congrArg (out0_9 (iblk m c 0 t) (iblk m c 1 t) (iblk m c 2 t) (iblk m c 3 t) (iblk m c 4 t) (iblk m c 5 t)) ej).trans
    (point9 m c t (j 1) (j 2) (j 3) (j 4))).trans (congrArg (turneds m c) (funext fun a => Fin.ext ?_))
  match a with
  | ⟨0, _⟩ => show (grid0.coords t 0).val = win0_9.index t 0 * 1 + 1 * (j 0).val; rw [e0]; omega
  | ⟨1, _⟩ => show (j 1).val = win0_9.index t 1 * 8 + 1 * (j 1).val; rw [e1]; omega
  | ⟨2, _⟩ => show (grid0.coords t 1).val * 2 + (j 2).val = win0_9.index t 2 * 2 + 1 * (j 2).val; rw [e2]; omega
  | ⟨3, _⟩ => show (j 3).val = win0_9.index t 3 * 128 + 1 * (j 3).val; rw [e3]; omega
  | ⟨4, _⟩ => show (j 4).val = win0_9.index t 4 * 256 + 1 * (j 4).val; rw [e4]; omega

theorem final9 (c : Dev nD) : (dats m 0 c).arrAt 9 cfg0.N = turneds m c :=
  (dats m 0 c).arrAt_eq_of_cover 9 (turneds m c) (flushed9_eq m c) fun j => by
    have h0 : (j 0 : Nat) < 4 := (j 0).isLt
    have h1 : (j 1 : Nat) < 8 := (j 1).isLt
    have h2 : (j 2 : Nat) < 16 := (j 2).isLt
    have h3 : (j 3 : Nat) < 128 := (j 3).isLt
    have h4 : (j 4 : Nat) < 256 := (j 4).isLt
    have hN : cfg0.N = 32 := N_0
    refine ⟨⟨(j 0 : Nat) * 8 + (j 2 : Nat) / 2, by omega⟩, flush0_9 _, ?_⟩
    generalize ht : (⟨(j 0 : Nat) * 8 + (j 2 : Nat) / 2, _⟩ : Fin cfg0.N) = t
    have htv : t.val = (j 0 : Nat) * 8 + (j 2 : Nat) / 2 := by rw [← ht]
    obtain ⟨e0, e1, e2, e3, e4⟩ := index_turned t
    obtain ⟨c0, c1⟩ := point_coords t
    show j ∈ ((View.whole main_v4_3).slice (win0_9.rect t)).set
    rw [View.set_slice_whole, Rect.mem_set_unit]
    intro a
    match a with
    | ⟨0, _⟩ => show win0_9.index t 0 * 1 ≤ (j 0 : Nat) ∧ (j 0 : Nat) < win0_9.index t 0 * 1 + 1; rw [e0, c0]; omega
    | ⟨1, _⟩ => show win0_9.index t 1 * 8 ≤ (j 1 : Nat) ∧ (j 1 : Nat) < win0_9.index t 1 * 8 + 8; rw [e1]; omega
    | ⟨2, _⟩ => show win0_9.index t 2 * 2 ≤ (j 2 : Nat) ∧ (j 2 : Nat) < win0_9.index t 2 * 2 + 2; rw [e2, c1]; omega
    | ⟨3, _⟩ => show win0_9.index t 3 * 128 ≤ (j 3 : Nat) ∧ (j 3 : Nat) < win0_9.index t 3 * 128 + 128; rw [e3]; omega
    | ⟨4, _⟩ => show win0_9.index t 4 * 256 ≤ (j 4 : Nat) ∧ (j 4 : Nat) < win0_9.index t 4 * 256 + 256; rw [e4]; omega

theorem flushed10_eq (c : Dev nD) (t : Fin cfg0.N) (hf : (cfg0.win 10).flush t = true) :
    (dats m 0 c).flushed 10 t = ((cfg0.win 10).blk t).view.read (Elt Ideal) (means m c) := by
  rw [Value.flushed10]
  obtain ⟨e0, e1, e2, e3⟩ := index_means t
  funext j
  have hj0 : (j 0).val < 1 := (j 0).isLt
  have hj1 : (j 1).val < 1 := (j 1).isLt
  have ej : (j : S1x1x2x1024.Idx) = ix4 0 0 (j 2) (j 3) := funext fun a => Fin.ext (by
    match a with
    | ⟨0, _⟩ => show (j 0).val = 0; omega
    | ⟨1, _⟩ => show (j 1).val = 0; omega
    | ⟨2, _⟩ => rfl
    | ⟨3, _⟩ => rfl)
  rw [View.read_apply]
  refine ((congrArg (out0_10 (iblk m c 0 t) (iblk m c 1 t) (iblk m c 2 t) (iblk m c 3 t) (iblk m c 4 t) (iblk m c 5 t)) ej).trans
    (point10 m c t (j 2) (j 3))).trans (congrArg (means m c) (funext fun a => Fin.ext ?_))
  match a with
  | ⟨0, _⟩ => show (grid0.coords t 0).val = win0_10.index t 0 * 1 + 1 * (j 0).val; rw [e0]; omega
  | ⟨1, _⟩ => show (grid0.coords t 1).val = win0_10.index t 1 * 1 + 1 * (j 1).val; rw [e1]; omega
  | ⟨2, _⟩ => show (j 2).val = win0_10.index t 2 * 2 + 1 * (j 2).val; rw [e2]; omega
  | ⟨3, _⟩ => show (j 3).val = win0_10.index t 3 * 1024 + 1 * (j 3).val; rw [e3]; omega

theorem final10 (c : Dev nD) : (dats m 0 c).arrAt 10 cfg0.N = means m c :=
  (dats m 0 c).arrAt_eq_of_cover 10 (means m c) (flushed10_eq m c) fun j => by
    have h0 : (j 0 : Nat) < 4 := (j 0).isLt
    have h1 : (j 1 : Nat) < 8 := (j 1).isLt
    have h2 : (j 2 : Nat) < 2 := (j 2).isLt
    have h3 : (j 3 : Nat) < 1024 := (j 3).isLt
    have hN : cfg0.N = 32 := N_0
    refine ⟨⟨(j 0 : Nat) * 8 + (j 1 : Nat), by omega⟩, flush0_10 _, ?_⟩
    generalize ht : (⟨(j 0 : Nat) * 8 + (j 1 : Nat), _⟩ : Fin cfg0.N) = t
    have htv : t.val = (j 0 : Nat) * 8 + (j 1 : Nat) := by rw [← ht]
    obtain ⟨e0, e1, e2, e3⟩ := index_means t
    obtain ⟨c0, c1⟩ := point_coords t
    show j ∈ ((View.whole main_v4_4).slice (win0_10.rect t)).set
    rw [View.set_slice_whole, Rect.mem_set_unit]
    intro a
    match a with
    | ⟨0, _⟩ => show win0_10.index t 0 * 1 ≤ (j 0 : Nat) ∧ (j 0 : Nat) < win0_10.index t 0 * 1 + 1; rw [e0, c0]; omega
    | ⟨1, _⟩ => show win0_10.index t 1 * 1 ≤ (j 1 : Nat) ∧ (j 1 : Nat) < win0_10.index t 1 * 1 + 1; rw [e1, c1]; omega
    | ⟨2, _⟩ => show win0_10.index t 2 * 2 ≤ (j 2 : Nat) ∧ (j 2 : Nat) < win0_10.index t 2 * 2 + 2; rw [e2]; omega
    | ⟨3, _⟩ => show win0_10.index t 3 * 1024 ≤ (j 3 : Nat) ∧ (j 3 : Nat) < win0_10.index t 3 * 1024 + 1024; rw [e3]; omega

/-- The run: the five result arrays as above, the arguments unchanged. -/
theorem run : θ_run defs (onTc (τ := τ) (main (F := Ideal))) ⟨m, fun _ => 0, ρ⟩ fun r => ∀ c : Dev nD,
      r.2.mem ((c : Thread nD τ).loc main_v4_0) = keys m c
      ∧ r.2.mem ((c : Thread nD τ).loc main_v4_1) = values m c
      ∧ r.2.mem ((c : Thread nD τ).loc main_v4_2) = flats m c
      ∧ r.2.mem ((c : Thread nD τ).loc main_v4_3) = turneds m c
      ∧ r.2.mem ((c : Thread nD τ).loc main_v4_4) = means m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩) (Value.run_blocks m ρ)

end Cert.KeyValueIdeal.KeyValue
-- ==== Proof.KeyValue.Ref.lean ====
module

public import proofs.«01_k».proof.Proof.Layer
public import proofs.«01_k».proof.Proof.Gen.KeyValueRefIdeal.Read

@[expose] public section

set_option maxRecDepth 16384

noncomputable section

/-! What the key and value projection's reference computes at one entry of each result. -/

namespace Cert.KeyValueRefIdeal.KeyValue

open Idealize.ShloMosaic Idealize.ShloMosaic.Tactic
open Cert.KeyValueRefIdeal Cert.KeyValueRefIdeal.Gen Cert.KeyValueRefIdeal.Read Cert.Layer

variable (x : FVec Ideal S4x4096x1024 .f32) (mod : FVec Ideal S4x1x2048 .f32) (g : FVec Ideal S1024 .f32)
  (w : FVec Ideal S1024x2048 .bf16) (cos sin : FVec Ideal S4096x64 .f32)

theorem product_apply (b : Fin 4) (n : Fin 4096) (e : Fin 2048) : val_main_v22 (F := Ideal) x mod g w (ix3 b n e)
    = ∑ k : Fin 1024, modulated (fun k => x (ix3 b n k)) (fun k => g (ix1 k)) (fun k => mod (ix3 b 0 ⟨k.val, by omega⟩))
        (fun k => mod (ix3 b 0 ⟨1024 + k.val, by omega⟩)) k * w (ix2 k e) := by
  pointwise [val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2]
  rfl

theorem head_apply (b : Fin 4) (n : Fin 4096) (h : Fin 8) (j : Fin 128) :
    val_main_v39 (F := Ideal) x mod g w cos sin (ix4 b n h j)
      = turn (fun e => val_main_v24 (F := Ideal) x mod g w (ix4 b n h e)) (fun e => cos (ix2 n e)) (fun e => sin (ix2 n e)) j := by
  pointwise [val_main_v39, val_main_v38, val_main_v37, val_main_v36, val_main_v35, val_main_v34, val_main_v33,
    val_main_v32, val_main_v31, val_main_v30, val_main_v29, val_main_v28, val_main_v27, val_main_v26, val_main_v25]
  rfl

theorem split_apply (b : Fin 4) (n : Fin 4096) (h : Fin 8) (j : Fin 128) :
    val_main_v24 (F := Ideal) x mod g w (ix4 b n h j)
      = val_main_v22 (F := Ideal) x mod g w (ix3 b n ⟨128 * h.val + j.val, by omega⟩) := by
  rw [val_main_v24_apply, val_main_v23_apply]
  refine congrArg _ (funext fun a => Fin.ext ?_)
  match a with
  | ⟨0, _⟩ => show (((b.val * 4096 + n.val) * 8 + h.val) * 128 + j.val) / 4194304 = b.val; omega
  | ⟨1, _⟩ => show (((b.val * 4096 + n.val) * 8 + h.val) * 128 + j.val) / 1024 % 4096 = n.val; omega
  | ⟨2, _⟩ => show (((b.val * 4096 + n.val) * 8 + h.val) * 128 + j.val) % 1024 = 128 * h.val + j.val; omega

theorem key_apply (b : Fin 4) (n : Fin 4096) (h : Fin 8) (j : Fin 128) : val_main_v39 (F := Ideal) x mod g w cos sin (ix4 b n h j)
    = turn (fun e => val_main_v22 (F := Ideal) x mod g w (ix3 b n ⟨128 * h.val + e.val, by omega⟩))
        (fun e => cos (ix2 n e)) (fun e => sin (ix2 n e)) j := by
  rw [head_apply]
  simp only [split_apply]

theorem value_apply (b : Fin 4) (n : Fin 4096) (h : Fin 8) (j : Fin 128) :
    val_main_v41 (F := Ideal) x mod g w (ix4 b n h j)
      = val_main_v22 (F := Ideal) x mod g w (ix3 b n ⟨1024 + (128 * h.val + j.val), by omega⟩) := by
  rw [val_main_v41_apply, val_main_v40_apply]
  refine congrArg _ (funext fun a => Fin.ext ?_)
  match a with
  | ⟨0, _⟩ => show (((b.val * 4096 + n.val) * 8 + h.val) * 128 + j.val) / 4194304 = b.val; omega
  | ⟨1, _⟩ => show (((b.val * 4096 + n.val) * 8 + h.val) * 128 + j.val) / 1024 % 4096 = n.val; omega
  | ⟨2, _⟩ => show 1024 + (((b.val * 4096 + n.val) * 8 + h.val) * 128 + j.val) % 1024 = 1024 + (128 * h.val + j.val); omega

theorem flat_apply (b : Fin 4) (n : Fin 4096) (d : Fin 1024) : val_main_v50 (F := Ideal) x mod g w cos sin (ix3 b n d)
    = val_main_v39 (F := Ideal) x mod g w cos sin (ix4 b n ⟨d.val / 128, by omega⟩ ⟨d.val % 128, by omega⟩) := by
  rw [val_main_v50_apply, val_main_v49_apply]
  refine congrArg (val_main_v39 (F := Ideal) x mod g w cos sin) (funext fun a => Fin.ext ?_)
  match a with
  | ⟨0, _⟩ => show ((b.val * 4096 + n.val) * 1024 + d.val) / 4194304 = b.val; omega
  | ⟨1, _⟩ => show ((b.val * 4096 + n.val) * 1024 + d.val) / 1024 % 4096 = n.val; omega
  | ⟨2, _⟩ => show ((b.val * 4096 + n.val) * 1024 + d.val) / 128 % 8 = d.val / 128; omega
  | ⟨3, _⟩ => show ((b.val * 4096 + n.val) * 1024 + d.val) % 128 = d.val % 128; omega

theorem rows_apply (b : Fin 4) (q : Fin 16) (i : Fin 256) (h : Fin 8) (j : Fin 128) :
    val_main_v44 (F := Ideal) x mod g w (ix5 b q i h j)
      = val_main_v41 (F := Ideal) x mod g w (ix4 b ⟨q.val * 256 + i.val, by omega⟩ h j) := by
  rw [val_main_v44_apply]
  refine congrArg (val_main_v41 (F := Ideal) x mod g w) (funext fun a => Fin.ext ?_)
  match a with
  | ⟨0, _⟩ => show ((((b.val * 16 + q.val) * 256 + i.val) * 8 + h.val) * 128 + j.val) / 4194304 = b.val; omega
  | ⟨1, _⟩ => show ((((b.val * 16 + q.val) * 256 + i.val) * 8 + h.val) * 128 + j.val) / 1024 % 4096 = q.val * 256 + i.val; omega
  | ⟨2, _⟩ => show ((((b.val * 16 + q.val) * 256 + i.val) * 8 + h.val) * 128 + j.val) / 128 % 8 = h.val; omega
  | ⟨3, _⟩ => show ((((b.val * 16 + q.val) * 256 + i.val) * 8 + h.val) * 128 + j.val) % 128 = j.val; omega

theorem turned_apply (b : Fin 4) (h : Fin 8) (q : Fin 16) (j : Fin 128) (i : Fin 256) :
    val_main_v52 (F := Ideal) x mod g w (ix5 b h q j i)
      = val_main_v22 (F := Ideal) x mod g w (ix3 b ⟨q.val * 256 + i.val, by omega⟩ ⟨1024 + (128 * h.val + j.val), by omega⟩) := by
  refine Eq.trans ?_ ((rows_apply x mod g w b q i h j).trans (value_apply x mod g w b _ h j))
  pointwise [val_main_v52, val_main_v51, val_main_v45]

theorem key_rows_apply (b : Fin 4) (q : Fin 16) (i : Fin 256) (h : Fin 8) (j : Fin 128) :
    val_main_v42 (F := Ideal) x mod g w cos sin (ix5 b q i h j)
      = val_main_v39 (F := Ideal) x mod g w cos sin (ix4 b ⟨q.val * 256 + i.val, by omega⟩ h j) := by
  rw [val_main_v42_apply]
  refine congrArg (val_main_v39 (F := Ideal) x mod g w cos sin) (funext fun a => Fin.ext ?_)
  match a with
  | ⟨0, _⟩ => show ((((b.val * 16 + q.val) * 256 + i.val) * 8 + h.val) * 128 + j.val) / 4194304 = b.val; omega
  | ⟨1, _⟩ => show ((((b.val * 16 + q.val) * 256 + i.val) * 8 + h.val) * 128 + j.val) / 1024 % 4096 = q.val * 256 + i.val; omega
  | ⟨2, _⟩ => show ((((b.val * 16 + q.val) * 256 + i.val) * 8 + h.val) * 128 + j.val) / 128 % 8 = h.val; omega
  | ⟨3, _⟩ => show ((((b.val * 16 + q.val) * 256 + i.val) * 8 + h.val) * 128 + j.val) % 128 = j.val; omega

theorem block_mean_apply (b : Fin 4) (q : Fin 16) (h : Fin 8) (j : Fin 128) :
    val_main_v53 (F := Ideal) x mod g w cos sin (ix4 b q h j)
      = Ideal.div (∑ i : Fin 256, val_main_v39 (F := Ideal) x mod g w cos sin (ix4 b ⟨q.val * 256 + i.val, by omega⟩ h j))
          (Ideal.ofBits .f32 0x43800000#32) := by
  rw [val_main_v53_apply, val_main_v48_apply, val_main_v46_apply, val_main_v47_apply]
  have e (i : Fin 256) : val_main_v43 (F := Ideal) x mod g w cos sin (idx_main_v46 (idx_main_v53 (ix4 b q h j)) i)
      = val_main_v39 (F := Ideal) x mod g w cos sin (ix4 b ⟨q.val * 256 + i.val, by omega⟩ h j) := by
    rw [val_main_v43_apply]
    refine Eq.trans (congrArg (val_main_v42 (F := Ideal) x mod g w cos sin) (funext fun z => ?_)) (key_rows_apply x mod g w cos sin b q i h j)
    match z with
    | ⟨0, _⟩ => rfl
    | ⟨1, _⟩ => rfl
    | ⟨2, _⟩ => rfl
    | ⟨3, _⟩ => rfl
    | ⟨4, _⟩ => rfl
  simp only [e]
  exact congrArg (fun v => Ideal.div v (Ideal.ofBits .f32 0x43800000#32)) ((congrArg (· + _) zero_word).trans (zero_add _))

theorem mean_apply (b : Fin 4) (a : Fin 8) (s : Fin 2) (d : Fin 1024) :
    val_main_v54 (F := Ideal) x mod g w cos sin (ix4 b a s d)
      = Ideal.div (∑ i : Fin 256, val_main_v39 (F := Ideal) x mod g w cos sin
          (ix4 b ⟨(a.val * 2 + s.val) * 256 + i.val, by omega⟩ ⟨d.val / 128, by omega⟩ ⟨d.val % 128, by omega⟩))
          (Ideal.ofBits .f32 0x43800000#32) := by
  rw [val_main_v54_apply]
  have e : idx_main_v54 (ix4 b a s d) = ix4 b ⟨a.val * 2 + s.val, by omega⟩ ⟨d.val / 128, by omega⟩ ⟨d.val % 128, by omega⟩ :=
    funext fun z => Fin.ext (by
      match z with
      | ⟨0, _⟩ => show (((b.val * 8 + a.val) * 2 + s.val) * 1024 + d.val) / 16384 = b.val; omega
      | ⟨1, _⟩ => show (((b.val * 8 + a.val) * 2 + s.val) * 1024 + d.val) / 1024 % 16 = a.val * 2 + s.val; omega
      | ⟨2, _⟩ => show (((b.val * 8 + a.val) * 2 + s.val) * 1024 + d.val) / 128 % 8 = d.val / 128; omega
      | ⟨3, _⟩ => show (((b.val * 8 + a.val) * 2 + s.val) * 1024 + d.val) % 128 = d.val % 128; omega)
  exact (congrArg (val_main_v53 (F := Ideal) x mod g w cos sin) e).trans (block_mean_apply x mod g w cos sin b _ _ _)

end Cert.KeyValueRefIdeal.KeyValue
-- ==== Proof.KeyValue.Equal.lean ====
module

public import proofs.«01_k».proof.Proof.KeyValue.Final
public import proofs.«01_k».proof.Proof.KeyValue.Ref

@[expose] public section

set_option maxRecDepth 16384

noncomputable section

/-! The key and value projection's result arrays are the reference's. -/

namespace Cert.Equal

open Idealize.ShloMosaic Cert.KeyValueIdeal Cert.KeyValueIdeal.Gen

variable (x : FVec Ideal S4x4096x1024 .f32) (mod : FVec Ideal S4x1x2048 .f32) (g : FVec Ideal S1024 .f32)
  (w : FVec Ideal S1024x2048 .bf16) (cos sin : FVec Ideal S4096x64 .f32)

theorem key_entry (b : Fin 4) (n : Fin 4096) (h : Fin 8) (j : Fin 128) :
    Cert.KeyValueRefIdeal.Read.val_main_v39 (F := Ideal) x mod g w cos sin (ix4 b n h j) = Cert.KeyValueIdeal.KeyValue.key x mod g w cos sin b n h j := by
  refine (Cert.KeyValueRefIdeal.KeyValue.key_apply x mod g w cos sin b n h j).trans ?_
  simp only [Cert.KeyValueRefIdeal.KeyValue.product_apply]
  rfl

theorem keys_eq : Cert.KeyValueRefIdeal.Read.val_main_v39 (F := Ideal) x mod g w cos sin = Cert.KeyValueIdeal.KeyValue.keyArr x mod g w cos sin := by
  funext y
  obtain ⟨b, n, h, j, rfl⟩ : ∃ b n h j, y = ix4 b n h j := ⟨y 0, y 1, y 2, y 3, (ix4_eta y).symm⟩
  exact key_entry x mod g w cos sin b n h j

theorem values_eq : Cert.KeyValueRefIdeal.Read.val_main_v41 (F := Ideal) x mod g w = Cert.KeyValueIdeal.KeyValue.valueArr x mod g w := by
  funext y
  obtain ⟨b, n, h, j, rfl⟩ : ∃ b n h j, y = ix4 b n h j := ⟨y 0, y 1, y 2, y 3, (ix4_eta y).symm⟩
  exact (Cert.KeyValueRefIdeal.KeyValue.value_apply x mod g w b n h j).trans (Cert.KeyValueRefIdeal.KeyValue.product_apply x mod g w b n _)

theorem flat_eq : Cert.KeyValueRefIdeal.Read.val_main_v50 (F := Ideal) x mod g w cos sin = Cert.KeyValueIdeal.KeyValue.flatArr x mod g w cos sin := by
  funext y
  obtain ⟨b, n, d, rfl⟩ : ∃ b n d, y = ix3 b n d := ⟨y 0, y 1, y 2, (ix3_eta y).symm⟩
  exact (Cert.KeyValueRefIdeal.KeyValue.flat_apply x mod g w cos sin b n d).trans (key_entry x mod g w cos sin b n _ _)

theorem turned_eq : Cert.KeyValueRefIdeal.Read.val_main_v52 (F := Ideal) x mod g w = Cert.KeyValueIdeal.KeyValue.turnedArr x mod g w := by
  funext y
  obtain ⟨b, h, q, j, i, rfl⟩ : ∃ b h q j i, y = ix5 b h q j i := ⟨y 0, y 1, y 2, y 3, y 4, (ix5_eta y).symm⟩
  exact (Cert.KeyValueRefIdeal.KeyValue.turned_apply x mod g w b h q j i).trans (Cert.KeyValueRefIdeal.KeyValue.product_apply x mod g w b _ _)

theorem means_eq : Cert.KeyValueRefIdeal.Read.val_main_v54 (F := Ideal) x mod g w cos sin = Cert.KeyValueIdeal.KeyValue.meanArr x mod g w cos sin := by
  funext y
  obtain ⟨b, a, s, d, rfl⟩ : ∃ b a s d, y = ix4 b a s d := ⟨y 0, y 1, y 2, y 3, (ix4_eta y).symm⟩
  refine (Cert.KeyValueRefIdeal.KeyValue.mean_apply x mod g w cos sin b a s d).trans ?_
  simp only [key_entry]
  rfl

end Cert.Equal
-- ==== Proof.Pool.Points.lean ====
module

public import proofs.«01_k».proof.Proof.Gen.PoolIdeal.Frame

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

/-- The body's first condition: the block is its batch's first. -/
abbrev first (i : grid0.Coords) : Prop := (Scalar.cmpi .ne (Scalar.extui (Scalar.cmpi .eq (BitVec.ofNat 32 (i 1).val) 0#32)) 0#32) = 1#1
/-- The body's second condition: the block is not its batch's first. -/
abbrev later (i : grid0.Coords) : Prop := (Scalar.cmpi .ne (Scalar.extui (Scalar.cmpi .sgt (BitVec.ofNat 32 (i 1).val) 0#32)) 0#32) = 1#1
/-- The body's third condition: the block is its batch's last. -/
abbrev last (i : grid0.Coords) : Prop := k0_cond3 i = 1#1

theorem second (t : Fin grid0.N) : (grid0.coords t 1).val = t.val % 8 := by
  have e : (grid0.coords t 1).val = t.val / 1 % 8 := Pipeline.Grid.coords_val t 1 (by decide) rfl
  rw [e, Nat.div_one]

theorem first_iff (t : Fin grid0.N) : first (grid0.coords t) ↔ t.val % 8 = 0 := by
  have e := second t
  have h : t.val % 8 < 8 := Nat.mod_lt _ (by decide)
  simp only [first, e]; word_cmp

theorem later_iff (t : Fin grid0.N) : later (grid0.coords t) ↔ ¬t.val % 8 = 0 := by
  have e := second t
  have h : t.val % 8 < 8 := Nat.mod_lt _ (by decide)
  simp only [later, e]
  exact (by decide : ∀ n : Fin 8, (Scalar.cmpi .ne (Scalar.extui (Scalar.cmpi .sgt (BitVec.ofNat 32 n.val) 0#32)) 0#32) = 1#1 ↔ ¬n.val = 0) ⟨_, h⟩

theorem last_iff (t : Fin grid0.N) : last (grid0.coords t) ↔ t.val % 8 = 7 := by
  have e := second t
  have h : t.val % 8 < 8 := Nat.mod_lt _ (by decide)
  simp only [last, k0_cond3, e]; word_cmp

end Cert.Pooling

end
-- ==== Proof.Pool.RunFirst.lean ====
module

public import proofs.«01_k».proof.Proof.Gen.PoolIdeal.Skeleton
public import proofs.«01_k».proof.Proof.Pool.Points

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

/-- What the body does at a batch's first block: the pieces it stores into the block of the output and into the kept rows, found by running it.
    The kept rows are as the block before left them (`xs`). -/
noncomputable def runFirst (c : Dev nD) (i : grid0.Coords) (a0 : Memref sig .tc .vmem S1x512x1024 .f32) (h0 : a0.IsWhole) (a1 : Memref sig .tc .vmem S1x1x3072 .f32) (h1 : a1.IsWhole) (a2 : Memref sig .tc .vmem S1x15x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x2048 .bf16) (h5 : a5.IsWhole) (a6 : Memref sig .tc .vmem S4x256x256 .bf16) (h6 : a6.IsWhole) (a7 : Memref sig .tc .vmem S1x1024 .f32) (h7 : a7.IsWhole) (a8 : Memref sig .tc .vmem S1024x1024 .bf16) (h8 : a8.IsWhole) (a9 : Memref sig .tc .vmem S1x512x1024 .f32) (h9 : a9.IsWhole) (a10 : Memref sig .tc .vmem S1x15x1024 .f32) (h10 : a10.IsWhole) (a11 : Memref sig .tc .vmem S1x528x1024 .f32) (h11 : a11.IsWhole)
    (hc0 : first i) (hc1 : ¬later i) (hc2 : ¬last i)
    (x0 : Vec F S1x512x1024 .f32) (x1 : Vec F S1x1x3072 .f32) (x2 : Vec F S1x15x1024 .f32) (x3 : Vec F S1x1024 .f32) (x4 : Vec F S1x1024 .f32) (x5 : Vec F S1024x2048 .bf16) (x6 : Vec F S4x256x256 .bf16) (x7 : Vec F S1x1024 .f32) (x8 : Vec F S1024x1024 .bf16) (xs : Vec F S1x528x1024 .f32) :
    Σ' (L : List (View.Piece (Elt F) S1x512x1024 .f32)), { S : List (View.Piece (Elt F) S1x528x1024 .f32) //
      ∀ (x10 : Vec F S1x15x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare x10 ∗ owns (c : Thread nD τ) a11 fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L) ∗ owns (c : Thread nD τ) a10 fullShare x10 ∗ (a11.view.loc (c : Thread nD τ) ↦[a11.view.set]{fullShare} a11.view.writes (Elt F) (h11.unread xs) S)) -∗ K ⟨⟩))
          ⊢ wp frame (wpE (defs₀ (F := F)) Variants.none c none) E (cc0_pool_layer i a0 h0 a1 h1 a2 h2 a3 h3 a4 h4 a5 h5 a6 h6 a7 h7 a8 h8 a9 h9 a10 h10 a11 h11) K } := by
  refine ⟨?_, ?_, fun x10 E K => ?run⟩
  case run =>
    simp only [cc0_pool_layer_eq_skeleton]; unfold cc0_pool_layer_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := h11.eq_unread hfs
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    iexact HS

end Cert.Pooling

end
-- ==== Proof.Pool.RunMiddle.lean ====
module

public import proofs.«01_k».proof.Proof.Gen.PoolIdeal.Skeleton
public import proofs.«01_k».proof.Proof.Pool.Points

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

/-- What the body does at a block that is neither first nor last in its batch: the pieces it stores into the block of the output and into the kept rows, found by running it.
    The kept rows are as the block before left them (`xs`). -/
noncomputable def runMiddle (c : Dev nD) (i : grid0.Coords) (a0 : Memref sig .tc .vmem S1x512x1024 .f32) (h0 : a0.IsWhole) (a1 : Memref sig .tc .vmem S1x1x3072 .f32) (h1 : a1.IsWhole) (a2 : Memref sig .tc .vmem S1x15x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x2048 .bf16) (h5 : a5.IsWhole) (a6 : Memref sig .tc .vmem S4x256x256 .bf16) (h6 : a6.IsWhole) (a7 : Memref sig .tc .vmem S1x1024 .f32) (h7 : a7.IsWhole) (a8 : Memref sig .tc .vmem S1024x1024 .bf16) (h8 : a8.IsWhole) (a9 : Memref sig .tc .vmem S1x512x1024 .f32) (h9 : a9.IsWhole) (a10 : Memref sig .tc .vmem S1x15x1024 .f32) (h10 : a10.IsWhole) (a11 : Memref sig .tc .vmem S1x528x1024 .f32) (h11 : a11.IsWhole)
    (hc0 : ¬first i) (hc1 : later i) (hc2 : ¬last i)
    (x0 : Vec F S1x512x1024 .f32) (x1 : Vec F S1x1x3072 .f32) (x2 : Vec F S1x15x1024 .f32) (x3 : Vec F S1x1024 .f32) (x4 : Vec F S1x1024 .f32) (x5 : Vec F S1024x2048 .bf16) (x6 : Vec F S4x256x256 .bf16) (x7 : Vec F S1x1024 .f32) (x8 : Vec F S1024x1024 .bf16) (xs : Vec F S1x528x1024 .f32) :
    Σ' (L : List (View.Piece (Elt F) S1x512x1024 .f32)), { S : List (View.Piece (Elt F) S1x528x1024 .f32) //
      ∀ (x10 : Vec F S1x15x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare x10 ∗ owns (c : Thread nD τ) a11 fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L) ∗ owns (c : Thread nD τ) a10 fullShare x10 ∗ (a11.view.loc (c : Thread nD τ) ↦[a11.view.set]{fullShare} a11.view.writes (Elt F) (h11.unread xs) S)) -∗ K ⟨⟩))
          ⊢ wp frame (wpE (defs₀ (F := F)) Variants.none c none) E (cc0_pool_layer i a0 h0 a1 h1 a2 h2 a3 h3 a4 h4 a5 h5 a6 h6 a7 h7 a8 h8 a9 h9 a10 h10 a11 h11) K } := by
  refine ⟨?_, ?_, fun x10 E K => ?run⟩
  case run =>
    simp only [cc0_pool_layer_eq_skeleton]; unfold cc0_pool_layer_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := h11.eq_unread hfs
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    iexact HS

end Cert.Pooling

end
-- ==== Proof.Pool.RunLast.lean ====
module

public import proofs.«01_k».proof.Proof.Gen.PoolIdeal.Skeleton
public import proofs.«01_k».proof.Proof.Pool.Points

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

/-- What the body does at a batch's last block: the pieces it stores into the block of the output, into the history and into the kept rows, found by running it.
    The kept rows are as the block before left them (`xs`). -/
noncomputable def runLast (c : Dev nD) (i : grid0.Coords) (a0 : Memref sig .tc .vmem S1x512x1024 .f32) (h0 : a0.IsWhole) (a1 : Memref sig .tc .vmem S1x1x3072 .f32) (h1 : a1.IsWhole) (a2 : Memref sig .tc .vmem S1x15x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x2048 .bf16) (h5 : a5.IsWhole) (a6 : Memref sig .tc .vmem S4x256x256 .bf16) (h6 : a6.IsWhole) (a7 : Memref sig .tc .vmem S1x1024 .f32) (h7 : a7.IsWhole) (a8 : Memref sig .tc .vmem S1024x1024 .bf16) (h8 : a8.IsWhole) (a9 : Memref sig .tc .vmem S1x512x1024 .f32) (h9 : a9.IsWhole) (a10 : Memref sig .tc .vmem S1x15x1024 .f32) (h10 : a10.IsWhole) (a11 : Memref sig .tc .vmem S1x528x1024 .f32) (h11 : a11.IsWhole)
    (hc0 : ¬first i) (hc1 : later i) (hc2 : last i)
    (x0 : Vec F S1x512x1024 .f32) (x1 : Vec F S1x1x3072 .f32) (x2 : Vec F S1x15x1024 .f32) (x3 : Vec F S1x1024 .f32) (x4 : Vec F S1x1024 .f32) (x5 : Vec F S1024x2048 .bf16) (x6 : Vec F S4x256x256 .bf16) (x7 : Vec F S1x1024 .f32) (x8 : Vec F S1024x1024 .bf16) (xs : Vec F S1x528x1024 .f32) :
    Σ' (L : List (View.Piece (Elt F) S1x512x1024 .f32)), Σ' (H : List (View.Piece (Elt F) S1x15x1024 .f32)), { S : List (View.Piece (Elt F) S1x528x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ owns (c : Thread nD τ) a11 fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L) ∗ (∃ f, a10.view.loc (c : Thread nD τ) ↦[a10.view.set]{fullShare} a10.view.writes (Elt F) f H) ∗ (a11.view.loc (c : Thread nD τ) ↦[a11.view.set]{fullShare} a11.view.writes (Elt F) (h11.unread xs) S)) -∗ K ⟨⟩))
          ⊢ wp frame (wpE (defs₀ (F := F)) Variants.none c none) E (cc0_pool_layer i a0 h0 a1 h1 a2 h2 a3 h3 a4 h4 a5 h5 a6 h6 a7 h7 a8 h8 a9 h9 a10 h10 a11 h11) K } := by
  refine ⟨?_, ?_, ?_, fun E K => ?run⟩
  case run =>
    simp only [cc0_pool_layer_eq_skeleton]; unfold cc0_pool_layer_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h11.eq_unread hfs
    sl_exec (disch := first | sl_exact hc0 | sl_exact hc1 | sl_exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    iexact HS

end Cert.Pooling

end
-- ==== Proof.Pool.Block.lean ====
module

public import Idealize.ShloMosaic.Lib.VecWindow
public import Idealize.ShloMosaic.Lib.WholeRead
public import proofs.«01_k».proof.Proof.Pool.RunFirst
public import proofs.«01_k».proof.Proof.Pool.RunMiddle
public import proofs.«01_k».proof.Proof.Pool.RunLast

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

/-- 512 rows of the kept rows, 256 columns of them. -/
def window (Z : S1x528x1024.Idx → Elt F .f32) {o g : ℕ} (inb : ∀ a, (![0, o, g] : Fin 3 → ℕ) a + S1x512x256.size a ≤ S1x528x1024.size a) :
    Vec F S1x512x256 .f32 := fun j => Z ((Rect.unit (s := S1x528x1024) ![0, o, g] ![1, 512, 256] inb).toLoadRect.idx j)

/-- One group's weights. -/
def weights (x6 : Vec F S4x256x256 .bf16) {g : ℕ} (inb : ∀ a, (![g, 0, 0] : Fin 3 → ℕ) a + S1x256x256.size a ≤ S4x256x256.size a) :
    Vec F S1x256x256 .bf16 := fun j => x6 ((Rect.unit (s := S4x256x256) ![g, 0, 0] ![1, 256, 256] inb).toLoadRect.idx j)

/-- The pooling input of a block. -/
def input (x0 : Vec F S1x512x1024 .f32) (x1 : Vec F S1x1x3072 .f32) (x3 : Vec F S1x1024 .f32) (x5 : Vec F S1024x2048 .bf16) : Vec F S1x512x1024 .f32 :=
  k0_pay7 (k0_pay6 x1 x0 x3 x5)

/-- What is kept in a batch's first block: the history, then the block's pooling input. -/
def keptFirst (x0 : Vec F S1x512x1024 .f32) (x1 : Vec F S1x1x3072 .f32) (x2 : Vec F S1x15x1024 .f32) (x3 : Vec F S1x1024 .f32) (x5 : Vec F S1024x2048 .bf16) :
    List (View.Piece (Elt F) S1x528x1024 .f32) :=
  [⟨Rect.unit (s := S1x528x1024) ![0, 16, 0] S1x512x1024.size inb_S1x528x1024_S1x512x1024_0_16_0, input x0 x1 x3 x5⟩,
    ⟨Rect.unit (s := S1x528x1024) ![0, 1, 0] S1x15x1024.size inb_S1x528x1024_S1x15x1024_0_1_0, k0_pay2 x2⟩]

/-- The last rows of what the block before kept. -/
def tail (xs : Vec F S1x528x1024 .f32) : Vec F S1x16x1024 .f32 :=
  fun j => xs ((Rect.unit (s := S1x528x1024) ![0, 512, 0] S1x16x1024.size inb_S1x528x1024_S1x16x1024_0_512_0).toLoadRect.idx j)

/-- What is kept in a later block: the last rows of the block before, then the block's pooling input. -/
def keptLater (x0 : Vec F S1x512x1024 .f32) (x1 : Vec F S1x1x3072 .f32) (x3 : Vec F S1x1024 .f32) (x5 : Vec F S1024x2048 .bf16) (w : Vec F S1x16x1024 .f32) :
    List (View.Piece (Elt F) S1x528x1024 .f32) :=
  [⟨Rect.unit (s := S1x528x1024) ![0, 16, 0] S1x512x1024.size inb_S1x528x1024_S1x512x1024_0_16_0, input x0 x1 x3 x5⟩,
    ⟨Rect.unit (s := S1x528x1024) ![0, 0, 0] S1x16x1024.size inb_S1x528x1024_S1x16x1024_0_0_0, k0_pay3 w⟩]

/-- The first group's token mixing: windows of 2 rows. -/
def mix2 (i : grid0.Coords) (x6 : Vec F S4x256x256 .bf16) (Z : S1x528x1024.Idx → Elt F .f32) : FVec F S512x256 .f32 :=
  k0_pay9 (BitVec.ofNat 32 (i 1).val) (window Z inb_S1x528x1024_S1x512x256_0_16_0) (window Z inb_S1x528x1024_S1x512x256_0_15_0) (window Z inb_S1x528x1024_S1x512x256_0_16_0) (weights x6 inb_S4x256x256_S1x256x256_0_0_0)

/-- The second group's: windows of 4 rows. -/
def mix4 (i : grid0.Coords) (x6 : Vec F S4x256x256 .bf16) (Z : S1x528x1024.Idx → Elt F .f32) : FVec F S512x256 .f32 :=
  k0_pay11 (k0_pay8 (BitVec.ofNat 32 (i 1).val)) (k0_pay10 (window Z inb_S1x528x1024_S1x512x256_0_16_256) (window Z inb_S1x528x1024_S1x512x256_0_15_256)) (window Z inb_S1x528x1024_S1x512x256_0_14_256) (window Z inb_S1x528x1024_S1x512x256_0_13_256) (window Z inb_S1x528x1024_S1x512x256_0_16_256) (weights x6 inb_S4x256x256_S1x256x256_1_0_0)

/-- The third group's: windows of 8 rows. -/
def mix8 (i : grid0.Coords) (x6 : Vec F S4x256x256 .bf16) (Z : S1x528x1024.Idx → Elt F .f32) : FVec F S512x256 .f32 :=
  k0_pay13 (k0_pay8 (BitVec.ofNat 32 (i 1).val))
    (k0_pay12 (window Z inb_S1x528x1024_S1x512x256_0_16_512) (window Z inb_S1x528x1024_S1x512x256_0_15_512) (window Z inb_S1x528x1024_S1x512x256_0_14_512) (window Z inb_S1x528x1024_S1x512x256_0_13_512) (window Z inb_S1x528x1024_S1x512x256_0_12_512) (window Z inb_S1x528x1024_S1x512x256_0_11_512))
    (window Z inb_S1x528x1024_S1x512x256_0_10_512) (window Z inb_S1x528x1024_S1x512x256_0_9_512) (window Z inb_S1x528x1024_S1x512x256_0_16_512) (weights x6 inb_S4x256x256_S1x256x256_2_0_0)

/-- The means of the fourth group's windows, of 16 rows. -/
def mean16 (i : grid0.Coords) (Z : S1x528x1024.Idx → Elt F .f32) : FVec F S1x512x256 .f32 :=
  k0_pay15 (k0_pay8 (BitVec.ofNat 32 (i 1).val))
    (k0_pay14 (window Z inb_S1x528x1024_S1x512x256_0_16_768) (window Z inb_S1x528x1024_S1x512x256_0_15_768) (window Z inb_S1x528x1024_S1x512x256_0_14_768) (window Z inb_S1x528x1024_S1x512x256_0_13_768) (window Z inb_S1x528x1024_S1x512x256_0_12_768) (window Z inb_S1x528x1024_S1x512x256_0_11_768))
    (window Z inb_S1x528x1024_S1x512x256_0_10_768) (window Z inb_S1x528x1024_S1x512x256_0_9_768) (window Z inb_S1x528x1024_S1x512x256_0_8_768) (window Z inb_S1x528x1024_S1x512x256_0_7_768) (window Z inb_S1x528x1024_S1x512x256_0_6_768) (window Z inb_S1x528x1024_S1x512x256_0_5_768) (window Z inb_S1x528x1024_S1x512x256_0_4_768) (window Z inb_S1x528x1024_S1x512x256_0_3_768) (window Z inb_S1x528x1024_S1x512x256_0_2_768) (window Z inb_S1x528x1024_S1x512x256_0_1_768)

/-- A block of the output, from the operands and the kept rows `Z`. -/
def result (i : grid0.Coords) (x0 : Vec F S1x512x1024 .f32) (x1 : Vec F S1x1x3072 .f32) (x3 x4 : Vec F S1x1024 .f32) (x5 : Vec F S1024x2048 .bf16)
    (x6 : Vec F S4x256x256 .bf16) (x7 : Vec F S1x1024 .f32) (x8 : Vec F S1024x1024 .bf16) (Z : S1x528x1024.Idx → Elt F .f32) : FVec F S1x512x1024 .f32 :=
  k0_pay1 (k0_pay4 x1) x0 (k0_pay16 (k0_pay5 x1 x0 x3 x5) (mix2 i x6 Z) (mix4 i x6 Z) (mix8 i x6 Z) (mean16 i Z) (window Z inb_S1x528x1024_S1x512x256_0_16_768)
    (weights x6 inb_S4x256x256_S1x256x256_3_0_0) x7 x8 x4)

section

variable {a0 : Memref sig .tc .vmem S1x512x1024 .f32} (h0 : a0.IsWhole) (x0 : Vec F S1x512x1024 .f32) {a1 : Memref sig .tc .vmem S1x1x3072 .f32} (h1 : a1.IsWhole) (x1 : Vec F S1x1x3072 .f32) {a2 : Memref sig .tc .vmem S1x15x1024 .f32} (h2 : a2.IsWhole) (x2 : Vec F S1x15x1024 .f32) {a3 : Memref sig .tc .vmem S1x1024 .f32} (h3 : a3.IsWhole) (x3 : Vec F S1x1024 .f32) {a4 : Memref sig .tc .vmem S1x1024 .f32} (h4 : a4.IsWhole) (x4 : Vec F S1x1024 .f32) {a5 : Memref sig .tc .vmem S1024x2048 .bf16} (h5 : a5.IsWhole) (x5 : Vec F S1024x2048 .bf16) {a6 : Memref sig .tc .vmem S4x256x256 .bf16} (h6 : a6.IsWhole) (x6 : Vec F S4x256x256 .bf16) {a7 : Memref sig .tc .vmem S1x1024 .f32} (h7 : a7.IsWhole) (x7 : Vec F S1x1024 .f32) {a8 : Memref sig .tc .vmem S1024x1024 .bf16} (h8 : a8.IsWhole) (x8 : Vec F S1024x1024 .bf16) {a11 : Memref sig .tc .vmem S1x528x1024 .f32} (h11 : a11.IsWhole) (xs : Vec F S1x528x1024 .f32)

theorem whole0 : View.readAt (Elt F) a0.view (Rect.unit (s := S1x512x1024) ![0, 0, 0] ![1, 512, 1024] inb_S1x512x1024_S1x512x1024_0_0_0).toLoadRect (h0.unread x0) = x0 :=
  (View.readAt_full a0.view _ inb_S1x512x1024_S1x512x1024_0_0_0).trans (h0.read_unread x0)

theorem whole1 : View.readAt (Elt F) a1.view (Rect.unit (s := S1x1x3072) ![0, 0, 0] ![1, 1, 3072] inb_S1x1x3072_S1x1x3072_0_0_0).toLoadRect (h1.unread x1) = x1 :=
  (View.readAt_full a1.view _ inb_S1x1x3072_S1x1x3072_0_0_0).trans (h1.read_unread x1)

theorem whole2 : View.readAt (Elt F) a2.view (Rect.unit (s := S1x15x1024) ![0, 0, 0] ![1, 15, 1024] inb_S1x15x1024_S1x15x1024_0_0_0).toLoadRect (h2.unread x2) = x2 :=
  (View.readAt_full a2.view _ inb_S1x15x1024_S1x15x1024_0_0_0).trans (h2.read_unread x2)

theorem whole3 : View.readAt (Elt F) a3.view (Rect.unit (s := S1x1024) ![0, 0] ![1, 1024] inb_S1x1024_S1x1024_0_0).toLoadRect (h3.unread x3) = x3 :=
  (View.readAt_full a3.view _ inb_S1x1024_S1x1024_0_0).trans (h3.read_unread x3)

theorem whole4 : View.readAt (Elt F) a4.view (Rect.unit (s := S1x1024) ![0, 0] ![1, 1024] inb_S1x1024_S1x1024_0_0).toLoadRect (h4.unread x4) = x4 :=
  (View.readAt_full a4.view _ inb_S1x1024_S1x1024_0_0).trans (h4.read_unread x4)

theorem whole5 : View.readAt (Elt F) a5.view (Rect.unit (s := S1024x2048) ![0, 0] ![1024, 2048] inb_S1024x2048_S1024x2048_0_0).toLoadRect (h5.unread x5) = x5 :=
  (View.readAt_full a5.view _ inb_S1024x2048_S1024x2048_0_0).trans (h5.read_unread x5)

theorem whole7 : View.readAt (Elt F) a7.view (Rect.unit (s := S1x1024) ![0, 0] ![1, 1024] inb_S1x1024_S1x1024_0_0).toLoadRect (h7.unread x7) = x7 :=
  (View.readAt_full a7.view _ inb_S1x1024_S1x1024_0_0).trans (h7.read_unread x7)

theorem whole8 : View.readAt (Elt F) a8.view (Rect.unit (s := S1024x1024) ![0, 0] ![1024, 1024] inb_S1024x1024_S1024x1024_0_0).toLoadRect (h8.unread x8) = x8 :=
  (View.readAt_full a8.view _ inb_S1024x1024_S1024x1024_0_0).trans (h8.read_unread x8)

theorem weights_0 : View.readAt (Elt F) a6.view (Rect.unit (s := S4x256x256) ![0, 0, 0] ![1, 256, 256] inb_S4x256x256_S1x256x256_0_0_0).toLoadRect (h6.unread x6) = weights x6 inb_S4x256x256_S1x256x256_0_0_0 :=
  funext fun j => h6.readAt_unread x6 _ j

theorem weights_1 : View.readAt (Elt F) a6.view (Rect.unit (s := S4x256x256) ![1, 0, 0] ![1, 256, 256] inb_S4x256x256_S1x256x256_1_0_0).toLoadRect (h6.unread x6) = weights x6 inb_S4x256x256_S1x256x256_1_0_0 :=
  funext fun j => h6.readAt_unread x6 _ j

theorem weights_2 : View.readAt (Elt F) a6.view (Rect.unit (s := S4x256x256) ![2, 0, 0] ![1, 256, 256] inb_S4x256x256_S1x256x256_2_0_0).toLoadRect (h6.unread x6) = weights x6 inb_S4x256x256_S1x256x256_2_0_0 :=
  funext fun j => h6.readAt_unread x6 _ j

theorem weights_3 : View.readAt (Elt F) a6.view (Rect.unit (s := S4x256x256) ![3, 0, 0] ![1, 256, 256] inb_S4x256x256_S1x256x256_3_0_0).toLoadRect (h6.unread x6) = weights x6 inb_S4x256x256_S1x256x256_3_0_0 :=
  funext fun j => h6.readAt_unread x6 _ j

theorem tail_read : View.readAt (Elt F) a11.view (Rect.unit (s := S1x528x1024) ![0, 512, 0] ![1, 16, 1024] inb_S1x528x1024_S1x16x1024_0_512_0).toLoadRect (h11.unread xs) = tail xs :=
  funext fun j => h11.readAt_unread xs _ j

end

variable (c : Dev nD) (i : grid0.Coords) (a0 : Memref sig .tc .vmem S1x512x1024 .f32) (h0 : a0.IsWhole) (a1 : Memref sig .tc .vmem S1x1x3072 .f32) (h1 : a1.IsWhole) (a2 : Memref sig .tc .vmem S1x15x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x2048 .bf16) (h5 : a5.IsWhole) (a6 : Memref sig .tc .vmem S4x256x256 .bf16) (h6 : a6.IsWhole) (a7 : Memref sig .tc .vmem S1x1024 .f32) (h7 : a7.IsWhole) (a8 : Memref sig .tc .vmem S1024x1024 .bf16) (h8 : a8.IsWhole) (a9 : Memref sig .tc .vmem S1x512x1024 .f32) (h9 : a9.IsWhole) (a10 : Memref sig .tc .vmem S1x15x1024 .f32) (h10 : a10.IsWhole) (a11 : Memref sig .tc .vmem S1x528x1024 .f32) (h11 : a11.IsWhole)
  (x0 : Vec F S1x512x1024 .f32) (x1 : Vec F S1x1x3072 .f32) (x2 : Vec F S1x15x1024 .f32) (x3 : Vec F S1x1024 .f32) (x4 : Vec F S1x1024 .f32) (x5 : Vec F S1024x2048 .bf16) (x6 : Vec F S4x256x256 .bf16) (x7 : Vec F S1x1024 .f32) (x8 : Vec F S1024x1024 .bf16) (xs : Vec F S1x528x1024 .f32)

theorem kept_first (hc0 : first i) (hc1 : ¬later i) (hc2 : ¬last i) : (runFirst c i a0 h0 a1 h1 a2 h2 a3 h3 a4 h4 a5 h5 a6 h6 a7 h7 a8 h8 a9 h9 a10 h10 a11 h11 hc0 hc1 hc2 x0 x1 x2 x3 x4 x5 x6 x7 x8 xs).2.1 = keptFirst x0 x1 x2 x3 x5 := by
  unfold runFirst; dsimp only
  simp only [runFirst.sl.HS_2, runFirst.sl.r_3, whole0, whole1, whole2, whole3, whole5, tail_read]
  rfl

theorem result_first (hc0 : first i) (hc1 : ¬later i) (hc2 : ¬last i) : (runFirst c i a0 h0 a1 h1 a2 h2 a3 h3 a4 h4 a5 h5 a6 h6 a7 h7 a8 h8 a9 h9 a10 h10 a11 h11 hc0 hc1 hc2 x0 x1 x2 x3 x4 x5 x6 x7 x8 xs).1 = [⟨Rect.unit (s := S1x512x1024) ![0, 0, 0] S1x512x1024.size inb_S1x512x1024_S1x512x1024_0_0_0,
    result i x0 x1 x3 x4 x5 x6 x7 x8 (View.canon (keptFirst x0 x1 x2 x3 x5))⟩] := by
  have e : runFirst.sl.HS_2 c a0 h0 a1 h1 a2 h2 a3 h3 a5 h5 x0 x1 x2 x3 x5 = keptFirst x0 x1 x2 x3 x5 := kept_first c i a0 h0 a1 h1 a2 h2 a3 h3 a4 h4 a5 h5 a6 h6 a7 h7 a8 h8 a9 h9 a10 h10 a11 h11 x0 x1 x2 x3 x4 x5 x6 x7 x8 xs hc0 hc1 hc2
  unfold runFirst; dsimp only
  simp only [runFirst.sl.v46, runFirst.sl.v47, runFirst.sl.v63, runFirst.sl.v64, runFirst.sl.v66, runFirst.sl.v68, runFirst.sl.v84, runFirst.sl.v85, runFirst.sl.v87, runFirst.sl.v89, runFirst.sl.v91, runFirst.sl.v93, runFirst.sl.v95, runFirst.sl.v97, runFirst.sl.v113, runFirst.sl.v114, runFirst.sl.v116, runFirst.sl.v118, runFirst.sl.v120, runFirst.sl.v122, runFirst.sl.v124, runFirst.sl.v126, runFirst.sl.v128, runFirst.sl.v130, runFirst.sl.v132, runFirst.sl.v134, runFirst.sl.v136, runFirst.sl.v138, runFirst.sl.v140, runFirst.sl.v142, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, e]
  simp only [View.readCov_eq_canon']
  simp only [whole0, whole1, whole3, whole4, whole5, whole7, whole8, weights_0, weights_1, weights_2, weights_3]
  unfold result mix2 mix4 mix8 mean16 window
  rfl

theorem kept_middle (hc0 : ¬first i) (hc1 : later i) (hc2 : ¬last i) : (runMiddle c i a0 h0 a1 h1 a2 h2 a3 h3 a4 h4 a5 h5 a6 h6 a7 h7 a8 h8 a9 h9 a10 h10 a11 h11 hc0 hc1 hc2 x0 x1 x2 x3 x4 x5 x6 x7 x8 xs).2.1 = keptLater x0 x1 x3 x5 (tail xs) := by
  unfold runMiddle; dsimp only
  simp only [runMiddle.sl.HS_2, runMiddle.sl.r_3, whole0, whole1, whole2, whole3, whole5, tail_read]
  rfl

theorem result_middle (hc0 : ¬first i) (hc1 : later i) (hc2 : ¬last i) : (runMiddle c i a0 h0 a1 h1 a2 h2 a3 h3 a4 h4 a5 h5 a6 h6 a7 h7 a8 h8 a9 h9 a10 h10 a11 h11 hc0 hc1 hc2 x0 x1 x2 x3 x4 x5 x6 x7 x8 xs).1 = [⟨Rect.unit (s := S1x512x1024) ![0, 0, 0] S1x512x1024.size inb_S1x512x1024_S1x512x1024_0_0_0,
    result i x0 x1 x3 x4 x5 x6 x7 x8 (View.canon (keptLater x0 x1 x3 x5 (tail xs)))⟩] := by
  have e : runMiddle.sl.HS_2 c a0 h0 a1 h1 a3 h3 a5 h5 a11 h11 x0 x1 x3 x5 xs = keptLater x0 x1 x3 x5 (tail xs) := kept_middle c i a0 h0 a1 h1 a2 h2 a3 h3 a4 h4 a5 h5 a6 h6 a7 h7 a8 h8 a9 h9 a10 h10 a11 h11 x0 x1 x2 x3 x4 x5 x6 x7 x8 xs hc0 hc1 hc2
  unfold runMiddle; dsimp only
  simp only [runMiddle.sl.v46, runMiddle.sl.v47, runMiddle.sl.v63, runMiddle.sl.v64, runMiddle.sl.v66, runMiddle.sl.v68, runMiddle.sl.v84, runMiddle.sl.v85, runMiddle.sl.v87, runMiddle.sl.v89, runMiddle.sl.v91, runMiddle.sl.v93, runMiddle.sl.v95, runMiddle.sl.v97, runMiddle.sl.v113, runMiddle.sl.v114, runMiddle.sl.v116, runMiddle.sl.v118, runMiddle.sl.v120, runMiddle.sl.v122, runMiddle.sl.v124, runMiddle.sl.v126, runMiddle.sl.v128, runMiddle.sl.v130, runMiddle.sl.v132, runMiddle.sl.v134, runMiddle.sl.v136, runMiddle.sl.v138, runMiddle.sl.v140, runMiddle.sl.v142, runMiddle.sl.r, runMiddle.sl.r_1, runMiddle.sl.r_2, runMiddle.sl.r_3, runMiddle.sl.r_4, runMiddle.sl.r_5, runMiddle.sl.r_6, runMiddle.sl.r_7, runMiddle.sl.r_8, runMiddle.sl.r_9, runMiddle.sl.r_10, runMiddle.sl.r_11, runMiddle.sl.r_12, e]
  simp only [View.readCov_eq_canon']
  simp only [whole0, whole1, whole3, whole4, whole5, whole7, whole8, weights_0, weights_1, weights_2, weights_3]
  unfold result mix2 mix4 mix8 mean16 window
  rfl

theorem kept_last (hc0 : ¬first i) (hc1 : later i) (hc2 : last i) : (runLast c i a0 h0 a1 h1 a2 h2 a3 h3 a4 h4 a5 h5 a6 h6 a7 h7 a8 h8 a9 h9 a10 h10 a11 h11 hc0 hc1 hc2 x0 x1 x2 x3 x4 x5 x6 x7 x8 xs).2.2.1 = keptLater x0 x1 x3 x5 (tail xs) := by
  unfold runLast; dsimp only
  simp only [runLast.sl.HS_2, runLast.sl.r_3, whole0, whole1, whole2, whole3, whole5, tail_read]
  rfl

theorem result_last (hc0 : ¬first i) (hc1 : later i) (hc2 : last i) : (runLast c i a0 h0 a1 h1 a2 h2 a3 h3 a4 h4 a5 h5 a6 h6 a7 h7 a8 h8 a9 h9 a10 h10 a11 h11 hc0 hc1 hc2 x0 x1 x2 x3 x4 x5 x6 x7 x8 xs).1 = [⟨Rect.unit (s := S1x512x1024) ![0, 0, 0] S1x512x1024.size inb_S1x512x1024_S1x512x1024_0_0_0,
    result i x0 x1 x3 x4 x5 x6 x7 x8 (View.canon (keptLater x0 x1 x3 x5 (tail xs)))⟩] := by
  have e : runLast.sl.HS_2 c a0 h0 a1 h1 a3 h3 a5 h5 a11 h11 x0 x1 x3 x5 xs = keptLater x0 x1 x3 x5 (tail xs) := kept_last c i a0 h0 a1 h1 a2 h2 a3 h3 a4 h4 a5 h5 a6 h6 a7 h7 a8 h8 a9 h9 a10 h10 a11 h11 x0 x1 x2 x3 x4 x5 x6 x7 x8 xs hc0 hc1 hc2
  unfold runLast; dsimp only
  simp only [runLast.sl.v46, runLast.sl.v47, runLast.sl.v63, runLast.sl.v64, runLast.sl.v66, runLast.sl.v68, runLast.sl.v84, runLast.sl.v85, runLast.sl.v87, runLast.sl.v89, runLast.sl.v91, runLast.sl.v93, runLast.sl.v95, runLast.sl.v97, runLast.sl.v113, runLast.sl.v114, runLast.sl.v116, runLast.sl.v118, runLast.sl.v120, runLast.sl.v122, runLast.sl.v124, runLast.sl.v126, runLast.sl.v128, runLast.sl.v130, runLast.sl.v132, runLast.sl.v134, runLast.sl.v136, runLast.sl.v138, runLast.sl.v140, runLast.sl.v142, runLast.sl.r, runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.v199, e]
  simp only [View.readCov_eq_canon']
  simp only [whole0, whole1, whole3, whole4, whole5, whole7, whole8, weights_0, weights_1, weights_2, weights_3]
  unfold result mix2 mix4 mix8 mean16 window
  rfl

theorem history_last (hc0 : ¬first i) (hc1 : later i) (hc2 : last i) : (runLast c i a0 h0 a1 h1 a2 h2 a3 h3 a4 h4 a5 h5 a6 h6 a7 h7 a8 h8 a9 h9 a10 h10 a11 h11 hc0 hc1 hc2 x0 x1 x2 x3 x4 x5 x6 x7 x8 xs).2.1 = [⟨Rect.unit (s := S1x15x1024) ![0, 0, 0] S1x15x1024.size inb_S1x15x1024_S1x15x1024_0_0_0,
    fun j => View.canon (keptLater x0 x1 x3 x5 (tail xs)) ((Rect.unit (s := S1x528x1024) ![0, 513, 0] S1x15x1024.size inb_S1x528x1024_S1x15x1024_0_513_0).toLoadRect.idx j)⟩] := by
  have e : runLast.sl.HS_2 c a0 h0 a1 h1 a3 h3 a5 h5 a11 h11 x0 x1 x3 x5 xs = keptLater x0 x1 x3 x5 (tail xs) := kept_last c i a0 h0 a1 h1 a2 h2 a3 h3 a4 h4 a5 h5 a6 h6 a7 h7 a8 h8 a9 h9 a10 h10 a11 h11 x0 x1 x2 x3 x4 x5 x6 x7 x8 xs hc0 hc1 hc2
  unfold runLast; dsimp only
  simp only [runLast.sl.v199, e, View.readCov_eq_canon']
  rfl

end Cert.Pooling

end
-- ==== Proof.Pool.Left.lean ====
module

public import proofs.«01_k».proof.Proof.Pool.Block
public import Idealize.ShloMosaic.Lib.Pointwise.Index

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

/-- A block's last 16 rows. -/
def lastRows (u : Vec F S1x512x1024 .f32) : Vec F S1x16x1024 .f32 := fun j =>
  u (ix3 (n0 := 1) (n1 := 512) (n2 := 1024) 0 ⟨496 + (j 1).val, by have h : (j 1).val < 16 := (j 1).isLt; omega⟩ (j 2))

/-- Rows 512 on of the kept rows are the last rows of the pooling input stored last. -/
theorem tail_writes (v : View sig .tc .vmem S1x528x1024 .f32) (f : v.ty.Contents (Elt F)) (u : Vec F S1x512x1024 .f32) (L : List (View.Piece (Elt F) S1x528x1024 .f32)) :
    tail (v.read (Elt F) (v.writes (Elt F) f (⟨Rect.unit (s := S1x528x1024) ![0, 16, 0] S1x512x1024.size inb_S1x528x1024_S1x512x1024_0_16_0, u⟩ :: L))) = lastRows u := by
  funext j
  unfold tail lastRows
  refine View.read_writes_cons_hit v f (Rect.unit (s := S1x528x1024) ![0, 16, 0] S1x512x1024.size inb_S1x528x1024_S1x512x1024_0_16_0) u L
    (ix3 (n0 := 1) (n1 := 512) (n2 := 1024) 0 ⟨496 + (j 1).val, by have h : (j 1).val < 16 := (j 1).isLt; omega⟩ (j 2))
    ((Rect.unit (s := S1x528x1024) ![0, 512, 0] S1x16x1024.size inb_S1x528x1024_S1x16x1024_0_512_0).toLoadRect.idx j) ?_
  funext a
  apply Fin.ext
  have h : (j 0).val < 1 := (j 0).isLt
  match a with
  | ⟨0, _⟩ => show 0 + 1 * 0 = 0 + 1 * (j 0).val; omega
  | ⟨1, _⟩ => show 16 + 1 * (496 + (j 1).val) = 512 + 1 * (j 1).val; omega
  | ⟨2, _⟩ => rfl

variable (c : Dev nD) (i : grid0.Coords) (a0 : Memref sig .tc .vmem S1x512x1024 .f32) (h0 : a0.IsWhole) (a1 : Memref sig .tc .vmem S1x1x3072 .f32) (h1 : a1.IsWhole) (a2 : Memref sig .tc .vmem S1x15x1024 .f32) (h2 : a2.IsWhole) (a3 : Memref sig .tc .vmem S1x1024 .f32) (h3 : a3.IsWhole) (a4 : Memref sig .tc .vmem S1x1024 .f32) (h4 : a4.IsWhole) (a5 : Memref sig .tc .vmem S1024x2048 .bf16) (h5 : a5.IsWhole) (a6 : Memref sig .tc .vmem S4x256x256 .bf16) (h6 : a6.IsWhole) (a7 : Memref sig .tc .vmem S1x1024 .f32) (h7 : a7.IsWhole) (a8 : Memref sig .tc .vmem S1024x1024 .bf16) (h8 : a8.IsWhole) (a9 : Memref sig .tc .vmem S1x512x1024 .f32) (h9 : a9.IsWhole) (a10 : Memref sig .tc .vmem S1x15x1024 .f32) (h10 : a10.IsWhole) (a11 : Memref sig .tc .vmem S1x528x1024 .f32) (h11 : a11.IsWhole)
  (x0 : Vec F S1x512x1024 .f32) (x1 : Vec F S1x1x3072 .f32) (x2 : Vec F S1x15x1024 .f32) (x3 : Vec F S1x1024 .f32) (x4 : Vec F S1x1024 .f32) (x5 : Vec F S1024x2048 .bf16) (x6 : Vec F S4x256x256 .bf16) (x7 : Vec F S1x1024 .f32) (x8 : Vec F S1024x1024 .bf16) (xs : Vec F S1x528x1024 .f32)

theorem first_result (hc0 : first i) (hc1 : ¬later i) (hc2 : ¬last i) (f : a9.view.ty.Contents (Elt F)) : a9.view.read (Elt F) (a9.view.writes (Elt F) f (runFirst c i a0 h0 a1 h1 a2 h2 a3 h3 a4 h4 a5 h5 a6 h6 a7 h7 a8 h8 a9 h9 a10 h10 a11 h11 hc0 hc1 hc2 x0 x1 x2 x3 x4 x5 x6 x7 x8 xs).1)
    = result i x0 x1 x3 x4 x5 x6 x7 x8 (View.canon (keptFirst x0 x1 x2 x3 x5)) := by
  rw [result_first]; exact View.read_writes_full a9.view f _ _ _

theorem first_tail (hc0 : first i) (hc1 : ¬later i) (hc2 : ¬last i) : tail (a11.view.read (Elt F) (a11.view.writes (Elt F) (h11.unread xs) (runFirst c i a0 h0 a1 h1 a2 h2 a3 h3 a4 h4 a5 h5 a6 h6 a7 h7 a8 h8 a9 h9 a10 h10 a11 h11 hc0 hc1 hc2 x0 x1 x2 x3 x4 x5 x6 x7 x8 xs).2.1)) = lastRows (input x0 x1 x3 x5) := by
  rw [kept_first]; exact tail_writes a11.view _ _ _

theorem middle_result (hc0 : ¬first i) (hc1 : later i) (hc2 : ¬last i) (f : a9.view.ty.Contents (Elt F)) : a9.view.read (Elt F) (a9.view.writes (Elt F) f (runMiddle c i a0 h0 a1 h1 a2 h2 a3 h3 a4 h4 a5 h5 a6 h6 a7 h7 a8 h8 a9 h9 a10 h10 a11 h11 hc0 hc1 hc2 x0 x1 x2 x3 x4 x5 x6 x7 x8 xs).1)
    = result i x0 x1 x3 x4 x5 x6 x7 x8 (View.canon (keptLater x0 x1 x3 x5 (tail xs))) := by
  rw [result_middle]; exact View.read_writes_full a9.view f _ _ _

theorem middle_tail (hc0 : ¬first i) (hc1 : later i) (hc2 : ¬last i) : tail (a11.view.read (Elt F) (a11.view.writes (Elt F) (h11.unread xs) (runMiddle c i a0 h0 a1 h1 a2 h2 a3 h3 a4 h4 a5 h5 a6 h6 a7 h7 a8 h8 a9 h9 a10 h10 a11 h11 hc0 hc1 hc2 x0 x1 x2 x3 x4 x5 x6 x7 x8 xs).2.1)) = lastRows (input x0 x1 x3 x5) := by
  rw [kept_middle]; exact tail_writes a11.view _ _ _

theorem last_result (hc0 : ¬first i) (hc1 : later i) (hc2 : last i) (f : a9.view.ty.Contents (Elt F)) : a9.view.read (Elt F) (a9.view.writes (Elt F) f (runLast c i a0 h0 a1 h1 a2 h2 a3 h3 a4 h4 a5 h5 a6 h6 a7 h7 a8 h8 a9 h9 a10 h10 a11 h11 hc0 hc1 hc2 x0 x1 x2 x3 x4 x5 x6 x7 x8 xs).1)
    = result i x0 x1 x3 x4 x5 x6 x7 x8 (View.canon (keptLater x0 x1 x3 x5 (tail xs))) := by
  rw [result_last]; exact View.read_writes_full a9.view f _ _ _

theorem last_tail (hc0 : ¬first i) (hc1 : later i) (hc2 : last i) : tail (a11.view.read (Elt F) (a11.view.writes (Elt F) (h11.unread xs) (runLast c i a0 h0 a1 h1 a2 h2 a3 h3 a4 h4 a5 h5 a6 h6 a7 h7 a8 h8 a9 h9 a10 h10 a11 h11 hc0 hc1 hc2 x0 x1 x2 x3 x4 x5 x6 x7 x8 xs).2.2.1)) = lastRows (input x0 x1 x3 x5) := by
  rw [kept_last]; exact tail_writes a11.view _ _ _

theorem last_history (hc0 : ¬first i) (hc1 : later i) (hc2 : last i) (f : a10.view.ty.Contents (Elt F)) : a10.view.read (Elt F) (a10.view.writes (Elt F) f (runLast c i a0 h0 a1 h1 a2 h2 a3 h3 a4 h4 a5 h5 a6 h6 a7 h7 a8 h8 a9 h9 a10 h10 a11 h11 hc0 hc1 hc2 x0 x1 x2 x3 x4 x5 x6 x7 x8 xs).2.1)
    = fun j => View.canon (keptLater x0 x1 x3 x5 (tail xs)) ((Rect.unit (s := S1x528x1024) ![0, 513, 0] S1x15x1024.size inb_S1x528x1024_S1x15x1024_0_513_0).toLoadRect.idx j) := by
  rw [history_last]; exact View.read_writes_full a10.view f _ _ _

end Cert.Pooling

end
-- ==== Proof.Pool.Frame.lean ====
module

public import proofs.«01_k».proof.Proof.Pool.Left
public import proofs.«01_k».proof.Proof.Gen.PoolIdeal.Launch
public import proofs.«01_k».proof.Proof.Gen.PoolIdeal.Frame
public import Idealize.ShloMosaic.Lib.Claim

@[expose] public section

set_option maxRecDepth 16384

noncomputable section

namespace Cert.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal Cert.PoolIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a number. -/
def point (n : ℕ) : Fin cfg0.N := ⟨n % 32, lt_of_lt_of_eq (Nat.mod_lt _ (by decide)) N_0.symm⟩

theorem point_val (t : Fin cfg0.N) : point t.val = t :=
  Fin.ext (Nat.mod_eq_of_lt (lt_of_lt_of_eq t.isLt N_0))

/-- The pooling input of the block at a point. -/
def inputAt (c : Dev nD) (t : Fin cfg0.N) : Vec F S1x512x1024 .f32 := input (iblk m c 0 t) (iblk m c 1 t) (iblk m c 3 t) (iblk m c 5 t)

/-- The rows kept at a point. -/
def keptAt (c : Dev nD) (t : Fin cfg0.N) : List (View.Piece (Elt F) S1x528x1024 .f32) :=
  if t.val % 8 = 0 then keptFirst (iblk m c 0 t) (iblk m c 1 t) (iblk m c 2 t) (iblk m c 3 t) (iblk m c 5 t)
  else keptLater (iblk m c 0 t) (iblk m c 1 t) (iblk m c 3 t) (iblk m c 5 t) (lastRows (inputAt m c (point (t.val - 1))))

/-- The block of the output at a point. -/
def resultAt (c : Dev nD) (t : Fin cfg0.N) : Vec F S1x512x1024 .f32 :=
  result (grid0.coords t) (iblk m c 0 t) (iblk m c 1 t) (iblk m c 3 t) (iblk m c 4 t) (iblk m c 5 t) (iblk m c 6 t) (iblk m c 7 t) (iblk m c 8 t)
    (View.canon (keptAt m c t))

/-- The new history, of the rows kept at a point. -/
def historyAt (c : Dev nD) (t : Fin cfg0.N) : Vec F S1x15x1024 .f32 := fun j => View.canon (keptAt m c t)
  ((Rect.unit (s := S1x528x1024) ![0, 513, 0] S1x15x1024.size inb_S1x528x1024_S1x15x1024_0_513_0).toLoadRect.idx j)

/-- The kept rows' buffer. -/
abbrev kept : Memref sig .tc .vmem S1x528x1024 .f32 := Memref.whole cc0_scratch0

/-- Between points: the kept rows end in the last rows of the block before. -/
def between (c : Dev nD) (n : ℕ) : sProp 𝕄 :=
  iprop(∃ xs, ⌜n ≠ 0 → tail xs = lastRows (inputAt m c (point (n - 1)))⌝ ∗ owns (c : Thread nD τ) kept fullShare xs ∗ ∃ r, prngReg c r)

theorem start_eq (c : Dev nD) : (Pipeline.ΦA spec0 c : sProp 𝕄) = iprop((∃ d, owns (c : Thread nD τ) kept fullShare d) ∗ ∃ r, prngReg c r) := by
  unfold Pipeline.ΦA; rw [scopedRest0_eq]; simp only [kept, owns_whole]; try rfl

/-- What each window's buffer holds after each point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resultAt m c t
    | ⟨10, _⟩ => historyAt m c t
  Φ t := between m c t.val
  q _ := fullShare
  owed _ := 0

theorem data_array (c : Dev nD) (w : Fin cfg0.W) : (data m 0 c).A w = V m c (Pipeline.arrRef spec0 w) := by dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]
theorem after_9 (c : Dev nD) (t : Fin cfg0.N) : (data m 0 c).after 9 t = resultAt m c t := by dsimp only [data]
theorem after_10 (c : Dev nD) (t : Fin cfg0.N) : (data m 0 c).after 10 t = historyAt m c t := by dsimp only [data]

theorem before_0 (c : Dev nD) (t : Fin cfg0.N) (d) : (data m 0 c).before 0 t d = iblk m c 0 t :=
  before0_0_of m (data m 0 c) (data_array m c 0) (after_0 m c) t d
theorem before_1 (c : Dev nD) (t : Fin cfg0.N) (d) : (data m 0 c).before 1 t d = iblk m c 1 t :=
  before0_1_of m (data m 0 c) (data_array m c 1) (after_1 m c) t d
theorem before_2 (c : Dev nD) (t : Fin cfg0.N) (d) : (data m 0 c).before 2 t d = iblk m c 2 t :=
  before0_2_of m (data m 0 c) (data_array m c 2) (after_2 m c) t d
theorem before_3 (c : Dev nD) (t : Fin cfg0.N) (d) : (data m 0 c).before 3 t d = iblk m c 3 t :=
  before0_3_of m (data m 0 c) (data_array m c 3) (after_3 m c) t d
theorem before_4 (c : Dev nD) (t : Fin cfg0.N) (d) : (data m 0 c).before 4 t d = iblk m c 4 t :=
  before0_4_of m (data m 0 c) (data_array m c 4) (after_4 m c) t d
theorem before_5 (c : Dev nD) (t : Fin cfg0.N) (d) : (data m 0 c).before 5 t d = iblk m c 5 t :=
  before0_5_of m (data m 0 c) (data_array m c 5) (after_5 m c) t d
theorem before_6 (c : Dev nD) (t : Fin cfg0.N) (d) : (data m 0 c).before 6 t d = iblk m c 6 t :=
  before0_6_of m (data m 0 c) (data_array m c 6) (after_6 m c) t d
theorem before_7 (c : Dev nD) (t : Fin cfg0.N) (d) : (data m 0 c).before 7 t d = iblk m c 7 t :=
  before0_7_of m (data m 0 c) (data_array m c 7) (after_7 m c) t d
theorem before_8 (c : Dev nD) (t : Fin cfg0.N) (d) : (data m 0 c).before 8 t d = iblk m c 8 t :=
  before0_8_of m (data m 0 c) (data_array m c 8) (after_8 m c) t d

/-- The history's window is left alone at all points but a batch's last. -/
theorem idle_10 : ∀ t : Fin cfg0.N, ¬last (grid0.coords t) → cfg0.idle 10 (grid0.coords t) = true := by decide +kernel
theorem live_10 : ∀ t : Fin cfg0.N, last (grid0.coords t) → cfg0.idle 10 (grid0.coords t) = false := by decide +kernel
theorem unflushed_10 (t : Fin cfg0.N) (h : ¬t.val % 8 = 7) : (cfg0.win 10).flush t = false := by
  rcases e : (cfg0.win 10).flush t with _ | _
  · rfl
  · exact absurd ((flush0_10 t).mp e) h

abbrev b0 (t : Fin cfg0.N) : Memref sig .tc .vmem S1x512x1024 .f32 := win0_0.stage (cfg0.slots t 0)
theorem whole_b0 (t : Fin cfg0.N) : (b0 t).IsWhole := hstage0_0 ((cfg0.slots t 0).cast nbuf0_0)
abbrev b1 (t : Fin cfg0.N) : Memref sig .tc .vmem S1x1x3072 .f32 := win0_1.stage (cfg0.slots t 1)
theorem whole_b1 (t : Fin cfg0.N) : (b1 t).IsWhole := hstage0_1 ((cfg0.slots t 1).cast nbuf0_1)
abbrev b2 (t : Fin cfg0.N) : Memref sig .tc .vmem S1x15x1024 .f32 := win0_2.stage (cfg0.slots t 2)
theorem whole_b2 (t : Fin cfg0.N) : (b2 t).IsWhole := hstage0_2 ((cfg0.slots t 2).cast nbuf0_2)
abbrev b3 (t : Fin cfg0.N) : Memref sig .tc .vmem S1x1024 .f32 := win0_3.stage (cfg0.slots t 3)
theorem whole_b3 (t : Fin cfg0.N) : (b3 t).IsWhole := hstage0_3 ((cfg0.slots t 3).cast nbuf0_3)
abbrev b4 (t : Fin cfg0.N) : Memref sig .tc .vmem S1x1024 .f32 := win0_4.stage (cfg0.slots t 4)
theorem whole_b4 (t : Fin cfg0.N) : (b4 t).IsWhole := hstage0_4 ((cfg0.slots t 4).cast nbuf0_4)
abbrev b5 (t : Fin cfg0.N) : Memref sig .tc .vmem S1024x2048 .bf16 := win0_5.stage (cfg0.slots t 5)
theorem whole_b5 (t : Fin cfg0.N) : (b5 t).IsWhole := hstage0_5 ((cfg0.slots t 5).cast nbuf0_5)
abbrev b6 (t : Fin cfg0.N) : Memref sig .tc .vmem S4x256x256 .bf16 := win0_6.stage (cfg0.slots t 6)
theorem whole_b6 (t : Fin cfg0.N) : (b6 t).IsWhole := hstage0_6 ((cfg0.slots t 6).cast nbuf0_6)
abbrev b7 (t : Fin cfg0.N) : Memref sig .tc .vmem S1x1024 .f32 := win0_7.stage (cfg0.slots t 7)
theorem whole_b7 (t : Fin cfg0.N) : (b7 t).IsWhole := hstage0_7 ((cfg0.slots t 7).cast nbuf0_7)
abbrev b8 (t : Fin cfg0.N) : Memref sig .tc .vmem S1024x1024 .bf16 := win0_8.stage (cfg0.slots t 8)
theorem whole_b8 (t : Fin cfg0.N) : (b8 t).IsWhole := hstage0_8 ((cfg0.slots t 8).cast nbuf0_8)
abbrev b9 (t : Fin cfg0.N) : Memref sig .tc .vmem S1x512x1024 .f32 := win0_9.stage (cfg0.slots t 9)
theorem whole_b9 (t : Fin cfg0.N) : (b9 t).IsWhole := hstage0_9 ((cfg0.slots t 9).cast nbuf0_9)
abbrev b10 (t : Fin cfg0.N) : Memref sig .tc .vmem S1x15x1024 .f32 := win0_10.stage (cfg0.slots t 10)
theorem whole_b10 (t : Fin cfg0.N) : (b10 t).IsWhole := hstage0_10 ((cfg0.slots t 10).cast nbuf0_10)

theorem leaves_0 (c : Dev nD) (t : Fin cfg0.N) : (data m 0 c).leavesExact 0 t = owns (c : Thread nD τ) (b0 t) fullShare (iblk m c 0 t) := by
  unfold Dat.leavesExact; rw [show cfg0.idle 0 (grid0.coords t) = false from rfl, after_0]
theorem leaves_1 (c : Dev nD) (t : Fin cfg0.N) : (data m 0 c).leavesExact 1 t = owns (c : Thread nD τ) (b1 t) fullShare (iblk m c 1 t) := by
  unfold Dat.leavesExact; rw [show cfg0.idle 1 (grid0.coords t) = false from rfl, after_1]
theorem leaves_2 (c : Dev nD) (t : Fin cfg0.N) : (data m 0 c).leavesExact 2 t = owns (c : Thread nD τ) (b2 t) fullShare (iblk m c 2 t) := by
  unfold Dat.leavesExact; rw [show cfg0.idle 2 (grid0.coords t) = false from rfl, after_2]
theorem leaves_3 (c : Dev nD) (t : Fin cfg0.N) : (data m 0 c).leavesExact 3 t = owns (c : Thread nD τ) (b3 t) fullShare (iblk m c 3 t) := by
  unfold Dat.leavesExact; rw [show cfg0.idle 3 (grid0.coords t) = false from rfl, after_3]
theorem leaves_4 (c : Dev nD) (t : Fin cfg0.N) : (data m 0 c).leavesExact 4 t = owns (c : Thread nD τ) (b4 t) fullShare (iblk m c 4 t) := by
  unfold Dat.leavesExact; rw [show cfg0.idle 4 (grid0.coords t) = false from rfl, after_4]
theorem leaves_5 (c : Dev nD) (t : Fin cfg0.N) : (data m 0 c).leavesExact 5 t = owns (c : Thread nD τ) (b5 t) fullShare (iblk m c 5 t) := by
  unfold Dat.leavesExact; rw [show cfg0.idle 5 (grid0.coords t) = false from rfl, after_5]
theorem leaves_6 (c : Dev nD) (t : Fin cfg0.N) : (data m 0 c).leavesExact 6 t = owns (c : Thread nD τ) (b6 t) fullShare (iblk m c 6 t) := by
  unfold Dat.leavesExact; rw [show cfg0.idle 6 (grid0.coords t) = false from rfl, after_6]
theorem leaves_7 (c : Dev nD) (t : Fin cfg0.N) : (data m 0 c).leavesExact 7 t = owns (c : Thread nD τ) (b7 t) fullShare (iblk m c 7 t) := by
  unfold Dat.leavesExact; rw [show cfg0.idle 7 (grid0.coords t) = false from rfl, after_7]
theorem leaves_8 (c : Dev nD) (t : Fin cfg0.N) : (data m 0 c).leavesExact 8 t = owns (c : Thread nD τ) (b8 t) fullShare (iblk m c 8 t) := by
  unfold Dat.leavesExact; rw [show cfg0.idle 8 (grid0.coords t) = false from rfl, after_8]
theorem leaves_9 (c : Dev nD) (t : Fin cfg0.N) : (data m 0 c).leavesExact 9 t = owns (c : Thread nD τ) (b9 t) fullShare (resultAt m c t) := by
  unfold Dat.leavesExact; rw [show cfg0.idle 9 (grid0.coords t) = false from rfl, after_9]
theorem leaves_10 (c : Dev nD) (t : Fin cfg0.N) (h : last (grid0.coords t)) : (data m 0 c).leavesExact 10 t = owns (c : Thread nD τ) (b10 t) fullShare (historyAt m c t) := by
  unfold Dat.leavesExact; rw [live_10 t h, after_10]

/-- What the body finds at a point. -/
def found (c : Dev nD) (t : Fin cfg0.N) : sProp 𝕄 :=
  iprop((data m 0 c).Φ t.castSucc ∗ (data m 0 c).owesAt () t.castSucc
    ∗ (∃ d, owns (c : Thread nD τ) (b0 t) fullShare ((data m 0 c).before 0 t d))
    ∗ (∃ d, owns (c : Thread nD τ) (b1 t) fullShare ((data m 0 c).before 1 t d))
    ∗ (∃ d, owns (c : Thread nD τ) (b2 t) fullShare ((data m 0 c).before 2 t d))
    ∗ (∃ d, owns (c : Thread nD τ) (b3 t) fullShare ((data m 0 c).before 3 t d))
    ∗ (∃ d, owns (c : Thread nD τ) (b4 t) fullShare ((data m 0 c).before 4 t d))
    ∗ (∃ d, owns (c : Thread nD τ) (b5 t) fullShare ((data m 0 c).before 5 t d))
    ∗ (∃ d, owns (c : Thread nD τ) (b6 t) fullShare ((data m 0 c).before 6 t d))
    ∗ (∃ d, owns (c : Thread nD τ) (b7 t) fullShare ((data m 0 c).before 7 t d))
    ∗ (∃ d, owns (c : Thread nD τ) (b8 t) fullShare ((data m 0 c).before 8 t d))
    ∗ (∃ d, owns (c : Thread nD τ) (b9 t) fullShare ((data m 0 c).before 9 t d))
    ∗ (∃ d, owns (c : Thread nD τ) (b10 t) fullShare ((data m 0 c).before 10 t d)))

/-- What it leaves there. -/
def left (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t)

set_option maxHeartbeats 1600000 in
theorem body_runs (c : Dev nD) (t : Fin cfg0.N) :
    found m c t ⊢ wp frame (wpE (defs₀ (F := F)) Variants.none c none) Set.univ (bodyAt0 t) (fun _ => left m c t) := by
  unfold found left bodyAt0
  simp only [before_0, before_1, before_2, before_3, before_4, before_5, before_6, before_7, before_8]
  rw [show (data m 0 c).owesAt () t.succ = (data m 0 c).owesAt () t.castSucc from rfl,
    show (data m 0 c).Φ t.castSucc = between m c t.val from rfl, show (data m 0 c).Φ t.succ = between m c (t.val + 1) from rfl,
    leaves_0, leaves_1, leaves_2, leaves_3, leaves_4, leaves_5, leaves_6, leaves_7, leaves_8, leaves_9]
  unfold between resultAt
  by_cases h0 : t.val % 8 = 0
  · have h7 : ¬t.val % 8 = 7 := by omega
    rw [Dat.leavesExact_idle (data m 0 c) 10 t (idle_10 t (fun h => h7 ((last_iff t).mp h))) (unflushed_10 t h7),
      show keptAt m c t = _ from if_pos h0]
    iintro ⟨⟨%xs, %hx, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runFirst c (grid0.coords t) (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) ((first_iff t).mpr h0) (fun h => ((later_iff t).mp h) h0) (fun h => h7 ((last_iff t).mp h)) (iblk m c 0 t) (iblk m c 1 t) (iblk m c 2 t) (iblk m c 3 t) (iblk m c 4 t) (iblk m c 5 t) (iblk m c 6 t) (iblk m c 7 t) (iblk m c 8 t) xs).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [HS]; · iexact HS
    iintro ⟨H0, H1, H2, H3, H4, H5, H6, H7, H8, ⟨%e9, H9⟩, H10, HS⟩
    isplitl [HS Hg]
    · iexists _; isplitr
      · ipureintro; intro _; rw [Nat.add_sub_cancel, point_val]; exact first_tail c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs ((first_iff t).mpr h0) (fun h => ((later_iff t).mp h) h0) (fun h => h7 ((last_iff t).mp h))
      isplitl [HS]
      · unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact first_result c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs ((first_iff t).mpr h0) (fun h => ((later_iff t).mp h) h0) (fun h => h7 ((last_iff t).mp h)) _
    iexists _; iexact H10
  · rw [show keptAt m c t = _ from if_neg h0]
    by_cases h7 : t.val % 8 = 7
    · rw [leaves_10 m c t ((last_iff t).mpr h7)]
      unfold historyAt
      rw [show keptAt m c t = _ from if_neg h0]
      iintro ⟨⟨%xs, %hx, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      rw [← hx (by omega)]
      iapply ((runLast c (grid0.coords t) (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (fun h => h0 ((first_iff t).mp h)) ((later_iff t).mpr h0) ((last_iff t).mpr h7) (iblk m c 0 t) (iblk m c 1 t) (iblk m c 2 t) (iblk m c 3 t) (iblk m c 4 t) (iblk m c 5 t) (iblk m c 6 t) (iblk m c 7 t) (iblk m c 8 t) xs).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, ⟨%e9, H9⟩, ⟨%e10, H10⟩, HS⟩
      isplitl [HS Hg]
      · iexists _; isplitr
        · ipureintro; intro _; rw [Nat.add_sub_cancel, point_val]; exact last_tail c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs (fun h => h0 ((first_iff t).mp h)) ((later_iff t).mpr h0) ((last_iff t).mpr h7)
        isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact last_result c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs (fun h => h0 ((first_iff t).mp h)) ((later_iff t).mpr h0) ((last_iff t).mpr h7) _
      unfold owns; iexists _; isplitr
      swap; · iexact H10
      ipureintro; exact last_history c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs (fun h => h0 ((first_iff t).mp h)) ((later_iff t).mpr h0) ((last_iff t).mpr h7) _
    · rw [Dat.leavesExact_idle (data m 0 c) 10 t (idle_10 t (fun h => h7 ((last_iff t).mp h))) (unflushed_10 t h7)]
      iintro ⟨⟨%xs, %hx, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      rw [← hx (by omega)]
      iapply ((runMiddle c (grid0.coords t) (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (fun h => h0 ((first_iff t).mp h)) ((later_iff t).mpr h0) (fun h => h7 ((last_iff t).mp h)) (iblk m c 0 t) (iblk m c 1 t) (iblk m c 2 t) (iblk m c 3 t) (iblk m c 4 t) (iblk m c 5 t) (iblk m c 6 t) (iblk m c 7 t) (iblk m c 8 t) xs).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HS]; · iexact HS
      iintro ⟨H0, H1, H2, H3, H4, H5, H6, H7, H8, ⟨%e9, H9⟩, H10, HS⟩
      isplitl [HS Hg]
      · iexists _; isplitr
        · ipureintro; intro _; rw [Nat.add_sub_cancel, point_val]; exact middle_tail c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs (fun h => h0 ((first_iff t).mp h)) ((later_iff t).mpr h0) (fun h => h7 ((last_iff t).mp h))
        isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact middle_result c _ (b0 t) (whole_b0 t) (b1 t) (whole_b1 t) (b2 t) (whole_b2 t) (b3 t) (whole_b3 t) (b4 t) (whole_b4 t) (b5 t) (whole_b5 t) (b6 t) (whole_b6 t) (b7 t) (whole_b7 t) (b8 t) (whole_b8 t) (b9 t) (whole_b9 t) (b10 t) (whole_b10 t) kept (Memref.isWhole_whole _) (iblk m c 0 t) (iblk m c 1 t) (iblk m c 2 t) (iblk m c 3 t) (iblk m c 4 t) (iblk m c 5 t) (iblk m c 6 t) (iblk m c 7 t) (iblk m c 8 t) xs (fun h => h0 ((first_iff t).mp h)) ((later_iff t).mpr h0) (fun h => h7 ((last_iff t).mp h)) _
      iexists _; iexact H10

theorem body_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, body_row]
  exact triple_restated (body_runs m c t) rfl .rfl fun _ => .rfl

theorem enters (c : Dev nD) : Pipeline.ΦA spec0 c ⊢ (data m 0 c).Φ 0 := by
  rw [show (data m 0 c).Φ 0 = between m c 0 from rfl, start_eq]
  unfold between
  iintro ⟨⟨%d, HS⟩, Hg⟩
  iexists d
  isplitr
  · ipureintro; intro h; exact absurd rfl h
  isplitl [HS]; · iexact HS
  iexact Hg

theorem leaves (c : Dev nD) : (data m 0 c).Φ (Fin.last cfg0.N) ⊢ Pipeline.ΦA spec0 c := by
  rw [show (data m 0 c).Φ (Fin.last cfg0.N) = between m c (Fin.last cfg0.N).val from rfl, start_eq]
  unfold between
  iintro ⟨%xs, -, HS, Hg⟩
  isplitl [HS]
  · iexists _; iexact HS
  iexact Hg

set_option backward.isDefEq.respectTransparency.types false in
/-- The kernel's run: every array ends at what the points leave in it, and every counter at zero. -/
theorem runs : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_array m) (hin := enters m) (hout := leaves m)

theorem ends : θ_run defs (onTc (τ := τ) (main (F := F))) (s₀ m ρ) (Pipeline.FramePost cfgs (data m) 0 (V m)) :=
  (θ_run defs _ _).mono (fun _ h => h.1) (runs m ρ)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_array m) (ends m ρ)) ((θ_run defs _ _).mono (fun _ h => h.2) (runs m ρ))

end Cert.Pooling

end
-- ==== Proof.Pool.Plain.lean ====
module

public import proofs.«01_k».proof.Proof.Pool.Frame
public import proofs.«01_k».proof.Proof.Gen.Pool.Frame
public import Idealize.ShloMosaic.PureOps.BitExact

@[expose] public section

set_option maxRecDepth 16384

noncomputable section

/-! The two printed programs of the pooling layer's kernel are one text, so one run serves both. -/

namespace Cert.Pooling

open Idealize.ShloMosaic Idealize.ShloMosaic.TcCoe Idealize.SL.Sem

variable {F : FTy → Type} [FloatOps F]

/-- The two bodies are one. -/
theorem same_body : (Cert.Pool.defs₀ (F := F) : Defs Cert.Pool.nD Cert.Pool.τ Cert.Pool.sig (Elt F) Cert.Pool.Λ₀) = Cert.PoolIdeal.defs₀ (F := F) := by
  unfold Cert.Pool.defs₀ Cert.PoolIdeal.defs₀
  refine congrArg Defs.onTc (funext fun l => ?_)
  match l with
  | ⟨0, _⟩ => rfl
  | ⟨n + 1, h⟩ => exact absurd h (Nat.not_lt.2 (Nat.le_add_left _ _))

theorem frame_plain (m : (ℓ : Loc Cert.Pool.nD Cert.Pool.τ Cert.Pool.sig) → Buf (Elt Bits) ℓ) (ρ : Dev Cert.Pool.nD → PrngReg) :
    θ_run (Cert.Pool.defs (F := Bits)) (onTc (τ := Cert.Pool.τ) (Cert.Pool.main (F := Bits))) ⟨m, fun _ => 0, ρ⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8))
      ∧ r.2.sem = fun _ => 0) := by
  unfold Cert.Pool.defs
  rw [same_body]
  exact frame (F := Bits) m ρ

end Cert.Pooling

end
-- ==== Proof.Pool.Row.lean ====
module

public import proofs.«01_k».proof.Proof.Layer

@[expose] public section

set_option maxRecDepth 16384

noncomputable section

/-! The pooling layer's functions of a row: the trailing means, the mixing of their groups of columns, and the output. -/

namespace Cert.Layer

open Idealize.ShloMosaic

/-- The number of rows that a window of `w` rows holds at position `p`, as a number. -/
def count (p w : BitVec 32) : EReal := FloatOps.sitofp (F := Ideal) .f32 (IntOp.minsi (IntOp.addi p 1#32) w)

/-- The rows a window of a group of columns spans. -/
def span (g : Fin 4) : ℕ := 2 ^ (g.val + 1)

/-- The mean over a group's window less the row itself, where `z i` is the row `i` places back and `p` the position. -/
def mean (z : ℕ → Fin 1024 → EReal) (p : BitVec 32) (g : Fin 4) (d : Fin 1024) : EReal :=
  Ideal.div (∑ i ∈ Finset.range (span g), z i d) (count p (BitVec.ofNat 32 (span g))) - z 0 d

/-- The means mixed within each group of 256 columns. -/
def mixed (z : ℕ → Fin 1024 → EReal) (p : BitVec 32) (W : Fin 4 → Fin 256 → Fin 256 → EReal) (g : Fin 4) (e : Fin 256) : EReal :=
  ∑ k : Fin 256, mean z p g ⟨256 * g.val + k.val, by omega⟩ * W g k e

/-- The layer's output, from its row `x`, the mixed row `y` and the gates `u`. -/
def pooled (x y scale u gate g : Fin 1024 → EReal) (W : Fin 1024 → Fin 1024 → EReal) (d : Fin 1024) : EReal :=
  x d + gate d * rms (fun e => ∑ k : Fin 1024, (y k * scale k * silu (u k)) * W k e) g d

end Cert.Layer
-- ==== Proof.Pool.Payload.lean ====
module

public import proofs.«01_k».proof.Proof.Pool.Row
public import proofs.«01_k».proof.Proof.Pool.Block

@[expose] public section

set_option maxRecDepth 16384

noncomputable section

/-! What the pooling kernel computes at one entry of its blocks. -/

namespace Cert.Pooling

open Idealize.ShloMosaic Idealize.ShloMosaic.TcCoe Idealize.ShloMosaic.Tactic
open Cert.PoolIdeal Cert.PoolIdeal.Gen Cert.Layer

section
variable (x : FVec Ideal S1x512x1024 .f32) (mod : FVec Ideal S1x1x3072 .f32) (g : FVec Ideal S1x1024 .f32)
  (w : FVec Ideal S1024x2048 .bf16)

theorem product_apply (r : Fin 512) (e : Fin 2048) : k0_pay5 (F := Ideal) mod x g w (ix2 r e)
    = ∑ k : Fin 1024, modulated (fun k => x (ix3 0 r k)) (fun k => g (ix2 0 k)) (fun k => mod (ix3 0 0 ⟨k.val, by omega⟩))
        (fun k => mod (ix3 0 0 ⟨1024 + k.val, by omega⟩)) k * w (ix2 k e) := by
  pointwise [k0_pay5]
  rfl

theorem columns_apply (u : FVec Ideal S512x2048 .f32) (r : Fin 512) (d : Fin 1024) :
    k0_pay7 (F := Ideal) (extractStridedSlice S512x1024 ![0, 0] u slices_S512x2048_o0_0_S512x1024) (ix3 0 r d) = u (ix2 r ⟨d.val, by omega⟩) := by
  pointwise [k0_pay7]

theorem input_apply (r : Fin 512) (d : Fin 1024) : input (F := Ideal) x mod g w (ix3 0 r d) = k0_pay5 (F := Ideal) mod x g w (ix2 r ⟨d.val, by omega⟩) :=
  columns_apply _ r d

theorem gate_apply (r : Fin 1) (d : Fin 1024) : k0_pay4 (F := Ideal) mod (ix3 0 0 d) = mod (ix3 0 0 ⟨2048 + d.val, by omega⟩) := by
  pointwise [k0_pay4]

end

/-- The position of row `r` of the block at a grid point. -/
def position (i : grid0.Coords) (r : Fin 512) : BitVec 32 := IntOp.addi (IntOp.addi 0#32 (IntOp.muli (BitVec.ofNat 32 (i 1).val) 512#32)) (BitVec.ofNat 32 r.val)

section
variable (i : grid0.Coords) (W : FVec Ideal S1x256x256 .bf16) (a0 a1 a2 a3 a4 a5 a6 a7 a8 a9 a10 a11 a12 a13 a14 a15 v : FVec Ideal S1x512x256 .f32)
  (r : Fin 512) (e : Fin 256)

theorem mix2_apply : k0_pay9 (F := Ideal) (BitVec.ofNat 32 (i 1).val) a0 a1 v W (ix2 r e)
    = ∑ k : Fin 256, (Ideal.div (a0 (ix3 0 r k) + a1 (ix3 0 r k)) (count (position i r) 2#32) - v (ix3 0 r k)) * W (ix3 0 k e) := by
  pointwise [k0_pay9, k0_pay8]
  rfl

theorem mix4_apply : k0_pay11 (F := Ideal) (k0_pay8 (BitVec.ofNat 32 (i 1).val)) (k0_pay10 a0 a1) a2 a3 v W (ix2 r e)
    = ∑ k : Fin 256, (Ideal.div (a0 (ix3 0 r k) + a1 (ix3 0 r k) + a2 (ix3 0 r k) + a3 (ix3 0 r k)) (count (position i r) 4#32) - v (ix3 0 r k)) * W (ix3 0 k e) := by
  pointwise [k0_pay11, k0_pay10, k0_pay8]
  rfl

theorem mix8_apply : k0_pay13 (F := Ideal) (k0_pay8 (BitVec.ofNat 32 (i 1).val)) (k0_pay12 a0 a1 a2 a3 a4 a5) a6 a7 v W (ix2 r e)
    = ∑ k : Fin 256, (Ideal.div (a0 (ix3 0 r k) + a1 (ix3 0 r k) + a2 (ix3 0 r k) + a3 (ix3 0 r k) + a4 (ix3 0 r k) + a5 (ix3 0 r k) + a6 (ix3 0 r k) + a7 (ix3 0 r k))
        (count (position i r) 8#32) - v (ix3 0 r k)) * W (ix3 0 k e) := by
  pointwise [k0_pay13, k0_pay12, k0_pay8]
  rfl

theorem mean16_apply : k0_pay15 (F := Ideal) (k0_pay8 (BitVec.ofNat 32 (i 1).val)) (k0_pay14 a0 a1 a2 a3 a4 a5) a6 a7 a8 a9 a10 a11 a12 a13 a14 a15 (ix3 0 r e)
    = Ideal.div (a0 (ix3 0 r e) + a1 (ix3 0 r e) + a2 (ix3 0 r e) + a3 (ix3 0 r e) + a4 (ix3 0 r e) + a5 (ix3 0 r e) + a6 (ix3 0 r e) + a7 (ix3 0 r e)
        + a8 (ix3 0 r e) + a9 (ix3 0 r e) + a10 (ix3 0 r e) + a11 (ix3 0 r e) + a12 (ix3 0 r e) + a13 (ix3 0 r e) + a14 (ix3 0 r e) + a15 (ix3 0 r e))
        (count (position i r) 16#32) := by
  pointwise [k0_pay15, k0_pay14, k0_pay8]
  rfl

end

section
variable (u : FVec Ideal S512x2048 .f32) (y0 y1 y2 y3 : FVec Ideal S512x256 .f32) (m16 v : FVec Ideal S1x512x256 .f32) (W : FVec Ideal S1x256x256 .bf16)
  (scale g : FVec Ideal S1x1024 .f32) (w : FVec Ideal S1024x1024 .bf16)

/-- The last group's mixed means. -/
def last16 : FVec Ideal S512x256 .f32 :=
  matmul dot_S512x256_S256x256_S512x256_1_0_0_1_n_n none (truncf .bf16 (shapeCast S512x256 (subf m16 v) shapeCasts_S1x512x256_S512x256) bitsLt_bf16_f32)
    (shapeCast S256x256 W shapeCasts_S1x256x256_S256x256) (constant S512x256 .f32 0x00000000#32)

theorem last16_apply (r : Fin 512) (e : Fin 256) : last16 m16 v W (ix2 r e) = ∑ k : Fin 256, (m16 (ix3 0 r k) - v (ix3 0 r k)) * W (ix3 0 k e) := by
  pointwise [last16]

/-- The four groups side by side. -/
def joined : FVec Ideal S512x1024 .f32 :=
  concatenate S512x1024 1 [⟨S512x256, y0⟩, ⟨S512x256, y1⟩, ⟨S512x256, y2⟩, ⟨S512x256, y3⟩] concatenates_S512x256_S512x256_S512x256_S512x256_S512x1024_d1

theorem output_apply (r : Fin 512) (d : Fin 1024) : k0_pay16 (F := Ideal) u y0 y1 y2 m16 v W scale w g (ix3 0 r d)
    = rms (fun e => ∑ k : Fin 1024, (joined y0 y1 y2 (last16 m16 v W) (ix2 r k) * scale (ix2 0 k) * silu (u (ix2 r ⟨1024 + k.val, by omega⟩))) * w (ix2 k e))
        (fun e => g (ix2 0 e)) d := by
  unfold k0_pay16 joined last16
  generalize (concatenate S512x1024 1 _ _ : FVec Ideal S512x1024 .f32) = J
  pointwise
  simp only [zero_sub]
  rfl

theorem sum_apply (gate : FVec Ideal S1x1x1024 .f32) (x z : FVec Ideal S1x512x1024 .f32) (r : Fin 512) (d : Fin 1024) :
    k0_pay1 (F := Ideal) gate x z (ix3 0 r d) = x (ix3 0 r d) + gate (ix3 0 0 d) * z (ix3 0 r d) := by
  pointwise [k0_pay1]

end

end Cert.Pooling
-- ==== Proof.Pool.Reads.lean ====
module

public import proofs.«01_k».proof.Proof.Pool.Payload
public import proofs.«01_k».proof.Proof.Pool.Frame

@[expose] public section

set_option maxRecDepth 16384

noncomputable section

/-! What the blocks of the pooling layer's arguments hold at each grid point. -/

namespace Cert.Pooling

open Idealize.ShloMosaic Idealize.ShloMosaic.TcCoe Idealize.SL.Sem
open Idealize.ShloMosaic.Tactic
open Idealize.ShloMosaic.Pipeline (Dat)
open Cert.PoolIdeal Cert.PoolIdeal.Gen Cert.Layer

variable (m : (ℓ : Loc nD τ sig) → Buf (Elt Ideal) ℓ)

theorem index_rows : ∀ t : Fin grid0.N, win0_0.index t 0 = (grid0.coords t 0).val ∧ win0_0.index t 1 = (grid0.coords t 1).val ∧ win0_0.index t 2 = 0 := by
  decide +kernel

theorem index_batch : ∀ t : Fin grid0.N, (win0_1.index t 0 = (grid0.coords t 0).val ∧ win0_1.index t 1 = 0 ∧ win0_1.index t 2 = 0)
    ∧ (win0_2.index t 0 = (grid0.coords t 0).val ∧ win0_2.index t 1 = 0 ∧ win0_2.index t 2 = 0) := by
  decide +kernel

theorem index_whole : ∀ t : Fin grid0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0) := by
  decide +kernel

theorem index_out : ∀ t : Fin grid0.N, (win0_9.index t 0 = (grid0.coords t 0).val ∧ win0_9.index t 1 = (grid0.coords t 1).val ∧ win0_9.index t 2 = 0)
    ∧ (win0_10.index t 0 = (grid0.coords t 0).val ∧ win0_10.index t 1 = 0 ∧ win0_10.index t 2 = 0) := by
  decide +kernel

theorem point_coords : ∀ t : Fin grid0.N, (grid0.coords t 0).val = t.val / 8 ∧ (grid0.coords t 1).val = t.val % 8 := by decide +kernel

/-- The array's row that row `r` of the block of grid point `t` is. -/
def row (t : Fin cfg0.N) (r : Fin 512) : Fin 4096 :=
  ⟨512 * (grid0.coords t 1).val + r.val, by have h : (grid0.coords t 1).val < 8 := (grid0.coords t 1).isLt; omega⟩

theorem read0 (c : Dev nD) (t : Fin cfg0.N) (r : Fin 512) (k : Fin 1024) : (iblk m c 0 t : Vec Ideal S1x512x1024 .f32) (ix3 0 r k)
    = (m ((c : Thread nD τ).loc main_arg0) : Vec Ideal S4x4096x1024 .f32) (ix3 (grid0.coords t 0) (row t r) k) := by
  unfold iblk
  rw [View.read_apply]
  refine (congrFun (V_main_arg0 m c) _).trans (congrArg (m ((c : Thread nD τ).loc main_arg0)) (funext fun a => Fin.ext ?_))
  obtain ⟨e0, e1, e2⟩ := index_rows t
  match a with
  | ⟨0, _⟩ => show win0_0.index t 0 * 1 + 1 * 0 = (grid0.coords t 0).val; rw [e0]; omega
  | ⟨1, _⟩ => show win0_0.index t 1 * 512 + 1 * r.val = 512 * (grid0.coords t 1).val + r.val; rw [e1]; omega
  | ⟨2, _⟩ => show win0_0.index t 2 * 1024 + 1 * k.val = k.val; rw [e2]; omega

theorem read1 (c : Dev nD) (t : Fin cfg0.N) (k : Fin 3072) : (iblk m c 1 t : Vec Ideal S1x1x3072 .f32) (ix3 0 0 k)
    = (m ((c : Thread nD τ).loc main_arg1) : Vec Ideal S4x1x3072 .f32) (ix3 (grid0.coords t 0) 0 k) := by
  unfold iblk
  rw [View.read_apply]
  refine (congrFun (V_main_arg1 m c) _).trans (congrArg (m ((c : Thread nD τ).loc main_arg1)) (funext fun a => Fin.ext ?_))
  obtain ⟨⟨e0, e1, e2⟩, -⟩ := index_batch t
  match a with
  | ⟨0, _⟩ => show win0_1.index t 0 * 1 + 1 * 0 = (grid0.coords t 0).val; rw [e0]; omega
  | ⟨1, _⟩ => show win0_1.index t 1 * 1 + 1 * 0 = 0; rw [e1]
  | ⟨2, _⟩ => show win0_1.index t 2 * 3072 + 1 * k.val = k.val; rw [e2]; omega

theorem read2 (c : Dev nD) (t : Fin cfg0.N) (r : Fin 15) (k : Fin 1024) : (iblk m c 2 t : Vec Ideal S1x15x1024 .f32) (ix3 0 r k)
    = (m ((c : Thread nD τ).loc main_arg2) : Vec Ideal S4x15x1024 .f32) (ix3 (grid0.coords t 0) r k) := by
  unfold iblk
  rw [View.read_apply]
  refine (congrFun (V_main_arg2 m c) _).trans (congrArg (m ((c : Thread nD τ).loc main_arg2)) (funext fun a => Fin.ext ?_))
  obtain ⟨-, e0, e1, e2⟩ := index_batch t
  match a with
  | ⟨0, _⟩ => show win0_2.index t 0 * 1 + 1 * 0 = (grid0.coords t 0).val; rw [e0]; omega
  | ⟨1, _⟩ => show win0_2.index t 1 * 15 + 1 * r.val = r.val; rw [e1]; omega
  | ⟨2, _⟩ => show win0_2.index t 2 * 1024 + 1 * k.val = k.val; rw [e2]; omega

theorem reshaped3 (c : Dev nD) : (V m c main_v0 : Vec Ideal S1x1024 .f32)
    = shapeCast S1x1024 (m ((c : Thread nD τ).loc main_arg3) : Vec Ideal S1024 .f32) shapeCasts_S1024_S1x1024 := by
  unfold_abbrev_sides
  after_results
  rfl

theorem read3 (c : Dev nD) (t : Fin cfg0.N) (k : Fin 1024) : (iblk m c 3 t : Vec Ideal S1x1024 .f32) (ix2 0 k)
    = (m ((c : Thread nD τ).loc main_arg3) : Vec Ideal S1024 .f32) (ix1 k) := by
  unfold iblk
  rw [View.read_apply]
  have e : (V m c main_v0 : Vec Ideal S1x1024 .f32) (ix2 0 k) = (m ((c : Thread nD τ).loc main_arg3) : Vec Ideal S1024 .f32) (ix1 k) := by
    rw [reshaped3]
    pointwise
  refine Eq.trans (congrArg (V m c main_v0) (funext fun a => Fin.ext ?_)) e
  obtain ⟨⟨e0, e1⟩, -⟩ := index_whole t
  match a with
  | ⟨0, _⟩ => show win0_3.index t 0 * 1 + 1 * 0 = 0; rw [e0]
  | ⟨1, _⟩ => show win0_3.index t 1 * 1024 + 1 * k.val = k.val; rw [e1]; omega

theorem reshaped4 (c : Dev nD) : (V m c main_v1 : Vec Ideal S1x1024 .f32)
    = shapeCast S1x1024 (m ((c : Thread nD τ).loc main_arg4) : Vec Ideal S1024 .f32) shapeCasts_S1024_S1x1024 := by
  unfold_abbrev_sides
  after_results
  rfl

theorem read4 (c : Dev nD) (t : Fin cfg0.N) (k : Fin 1024) : (iblk m c 4 t : Vec Ideal S1x1024 .f32) (ix2 0 k)
    = (m ((c : Thread nD τ).loc main_arg4) : Vec Ideal S1024 .f32) (ix1 k) := by
  unfold iblk
  rw [View.read_apply]
  have e : (V m c main_v1 : Vec Ideal S1x1024 .f32) (ix2 0 k) = (m ((c : Thread nD τ).loc main_arg4) : Vec Ideal S1024 .f32) (ix1 k) := by
    rw [reshaped4]
    pointwise
  refine Eq.trans (congrArg (V m c main_v1) (funext fun a => Fin.ext ?_)) e
  obtain ⟨-, ⟨e0, e1⟩, -⟩ := index_whole t
  match a with
  | ⟨0, _⟩ => show win0_4.index t 0 * 1 + 1 * 0 = 0; rw [e0]
  | ⟨1, _⟩ => show win0_4.index t 1 * 1024 + 1 * k.val = k.val; rw [e1]; omega

theorem read5 (c : Dev nD) (t : Fin cfg0.N) (k : Fin 1024) (e : Fin 2048) : (iblk m c 5 t : Vec Ideal S1024x2048 .bf16) (ix2 k e)
    = (m ((c : Thread nD τ).loc main_arg5) : Vec Ideal S1024x2048 .bf16) (ix2 k e) := by
  unfold iblk
  rw [View.read_apply]
  refine (congrFun (V_main_arg5 m c) _).trans (congrArg (m ((c : Thread nD τ).loc main_arg5)) (funext fun a => Fin.ext ?_))
  obtain ⟨-, -, ⟨e0, e1⟩, -⟩ := index_whole t
  match a with
  | ⟨0, _⟩ => show win0_5.index t 0 * 1024 + 1 * k.val = k.val; rw [e0]; omega
  | ⟨1, _⟩ => show win0_5.index t 1 * 2048 + 1 * e.val = e.val; rw [e1]; omega

theorem read6 (c : Dev nD) (t : Fin cfg0.N) (g : Fin 4) (k e : Fin 256) : (iblk m c 6 t : Vec Ideal S4x256x256 .bf16) (ix3 g k e)
    = (m ((c : Thread nD τ).loc main_arg6) : Vec Ideal S4x256x256 .bf16) (ix3 g k e) := by
  unfold iblk
  rw [View.read_apply]
  refine (congrFun (V_main_arg6 m c) _).trans (congrArg (m ((c : Thread nD τ).loc main_arg6)) (funext fun a => Fin.ext ?_))
  obtain ⟨-, -, -, ⟨e0, e1, e2⟩, -⟩ := index_whole t
  match a with
  | ⟨0, _⟩ => show win0_6.index t 0 * 4 + 1 * g.val = g.val; rw [e0]; omega
  | ⟨1, _⟩ => show win0_6.index t 1 * 256 + 1 * k.val = k.val; rw [e1]; omega
  | ⟨2, _⟩ => show win0_6.index t 2 * 256 + 1 * e.val = e.val; rw [e2]; omega

theorem reshaped7 (c : Dev nD) : (V m c main_v2 : Vec Ideal S1x1024 .f32)
    = shapeCast S1x1024 (m ((c : Thread nD τ).loc main_arg7) : Vec Ideal S1024 .f32) shapeCasts_S1024_S1x1024 := by
  unfold_abbrev_sides
  after_results
  rfl

theorem read7 (c : Dev nD) (t : Fin cfg0.N) (k : Fin 1024) : (iblk m c 7 t : Vec Ideal S1x1024 .f32) (ix2 0 k)
    = (m ((c : Thread nD τ).loc main_arg7) : Vec Ideal S1024 .f32) (ix1 k) := by
  unfold iblk
  rw [View.read_apply]
  have e : (V m c main_v2 : Vec Ideal S1x1024 .f32) (ix2 0 k) = (m ((c : Thread nD τ).loc main_arg7) : Vec Ideal S1024 .f32) (ix1 k) := by
    rw [reshaped7]
    pointwise
  refine Eq.trans (congrArg (V m c main_v2) (funext fun a => Fin.ext ?_)) e
  obtain ⟨-, -, -, -, ⟨e0, e1⟩, -⟩ := index_whole t
  match a with
  | ⟨0, _⟩ => show win0_7.index t 0 * 1 + 1 * 0 = 0; rw [e0]
  | ⟨1, _⟩ => show win0_7.index t 1 * 1024 + 1 * k.val = k.val; rw [e1]; omega

theorem read8 (c : Dev nD) (t : Fin cfg0.N) (k e : Fin 1024) : (iblk m c 8 t : Vec Ideal S1024x1024 .bf16) (ix2 k e)
    = (m ((c : Thread nD τ).loc main_arg8) : Vec Ideal S1024x1024 .bf16) (ix2 k e) := by
  unfold iblk
  rw [View.read_apply]
  refine (congrFun (V_main_arg8 m c) _).trans (congrArg (m ((c : Thread nD τ).loc main_arg8)) (funext fun a => Fin.ext ?_))
  obtain ⟨-, -, -, -, -, e0, e1⟩ := index_whole t
  match a with
  | ⟨0, _⟩ => show win0_8.index t 0 * 1024 + 1 * k.val = k.val; rw [e0]; omega
  | ⟨1, _⟩ => show win0_8.index t 1 * 1024 + 1 * e.val = e.val; rw [e1]; omega

end Cert.Pooling
-- ==== Proof.Pool.Closed.lean ====
module

public import proofs.«01_k».proof.Proof.Pool.Row
public import proofs.«01_k».proof.PoolIdeal

@[expose] public section

set_option maxRecDepth 16384

noncomputable section

/-! The pooling layer's results, entry by entry, from its arguments. -/

namespace Cert.Pooling

open Idealize.ShloMosaic
open Cert.PoolIdeal Cert.Layer

/-- The history's 15 rows followed by the rows pooled; 0 past their end. -/
def joinedRows (hist : Fin 15 → Fin 1024 → EReal) (u : Fin 4096 → Fin 1024 → EReal) (n : ℕ) (d : Fin 1024) : EReal :=
  if h : n < 15 then hist ⟨n, h⟩ d else if h' : n - 15 < 4096 then u ⟨n - 15, h'⟩ d else 0

variable (x : FVec Ideal S4x4096x1024 .f32) (mod : FVec Ideal S4x1x3072 .f32) (hist : FVec Ideal S4x15x1024 .f32) (g gpost : FVec Ideal S1024 .f32)
  (w : FVec Ideal S1024x2048 .bf16) (W : FVec Ideal S4x256x256 .bf16) (scale : FVec Ideal S1024 .f32) (wout : FVec Ideal S1024x1024 .bf16)

/-- The input projection of the modulated row `n` of sequence `b`, at column `e`. -/
def proj (b : Fin 4) (n : Fin 4096) (e : Fin 2048) : EReal :=
  ∑ k : Fin 1024, modulated (fun k => x (ix3 b n k)) (fun k => g (ix1 k)) (fun k => mod (ix3 b 0 ⟨k.val, by omega⟩))
    (fun k => mod (ix3 b 0 ⟨1024 + k.val, by omega⟩)) k * w (ix2 k e)

/-- The history of sequence `b` followed by its rows pooled. -/
def rows (b : Fin 4) (n : ℕ) (d : Fin 1024) : EReal :=
  joinedRows (fun r d => hist (ix3 b r d)) (fun n d => proj x mod g w b n ⟨d.val, by omega⟩) n d

/-- The row `i` places back from row `n` of sequence `b`. -/
def back (b : Fin 4) (n : Fin 4096) (i : ℕ) (d : Fin 1024) : EReal := rows x mod hist g w b (n.val + 15 - i) d

/-- The mixed means of row `n` of sequence `b`. -/
def mixedRow (b : Fin 4) (n : Fin 4096) (d : Fin 1024) : EReal :=
  mixed (back x mod hist g w b n) (BitVec.ofNat 32 n.val) (fun p k e => W (ix3 p k e)) ⟨d.val / 256, by omega⟩ ⟨d.val % 256, by omega⟩

/-- The layer's output for row `n` of sequence `b`. -/
def output (b : Fin 4) (n : Fin 4096) (d : Fin 1024) : EReal :=
  pooled (fun d => x (ix3 b n d)) (mixedRow x mod hist g w W b n) (fun d => scale (ix1 d)) (fun k => proj x mod g w b n ⟨1024 + k.val, by omega⟩)
    (fun d => mod (ix3 b 0 ⟨2048 + d.val, by omega⟩)) (fun d => gpost (ix1 d)) (fun k e => wout (ix2 k e)) d

/-- The layer's output. -/
def outputArr : FVec Ideal S4x4096x1024 .f32 := fun y => output x mod hist g gpost w W scale wout (y 0) (y 1) (y 2)

/-- The new history: the last 15 rows. -/
def historyArr : FVec Ideal S4x15x1024 .f32 := fun y => rows x mod hist g w (y 0) (4096 + (y 1).val) (y 2)

end Cert.Pooling
-- ==== Proof.Pool.Kept.lean ====
module

public import proofs.«01_k».proof.Proof.Pool.Reads
public import proofs.«01_k».proof.Proof.Pool.Closed

@[expose] public section

set_option maxRecDepth 16384

noncomputable section

/-! The rows kept at each grid point are rows of the history followed by the pooling input. -/

namespace Cert.Pooling

open Idealize.ShloMosaic Idealize.ShloMosaic.TcCoe Idealize.SL.Sem
open Idealize.ShloMosaic.Tactic
open Idealize.ShloMosaic.Pipeline (Dat)
open Cert.PoolIdeal Cert.PoolIdeal.Gen Cert.Layer

section
variable (L : List (View.Piece (Elt Ideal) S1x528x1024 .f32)) (q : ℕ) (hq : q < 528) (d : Fin 1024)

theorem canon_new (u : Vec Ideal S1x512x1024 .f32) (h : 16 ≤ q) :
    View.canon (⟨Rect.unit (s := S1x528x1024) ![0, 16, 0] S1x512x1024.size inb_S1x528x1024_S1x512x1024_0_16_0, u⟩ :: L) (ix3 0 ⟨q, hq⟩ d)
      = u (ix3 0 ⟨q - 16, by omega⟩ d) := by
  have e : (ix3 0 ⟨q, hq⟩ d : S1x528x1024.Idx)
      = (Rect.unit (s := S1x528x1024) ![0, 16, 0] S1x512x1024.size inb_S1x528x1024_S1x512x1024_0_16_0).emb (ix3 0 ⟨q - 16, by omega⟩ d : S1x512x1024.Idx) := by
    funext a
    apply Fin.ext
    match a with
    | ⟨0, _⟩ => rfl
    | ⟨1, _⟩ => show q = 16 + 1 * (q - 16); omega
    | ⟨2, _⟩ => show d.val = 0 + 1 * d.val; omega
  rw [e]
  exact View.canon_cons_emb _ _ _ _

theorem canon_old (u : Vec Ideal S1x512x1024 .f32) (h : q < 16) :
    View.canon (⟨Rect.unit (s := S1x528x1024) ![0, 16, 0] S1x512x1024.size inb_S1x528x1024_S1x512x1024_0_16_0, u⟩ :: L) (ix3 0 ⟨q, hq⟩ d)
      = View.canon L (ix3 0 ⟨q, hq⟩ d) := by
  refine View.canon_cons_of_not_mem _ L fun hm => ?_
  have h1 : 16 ≤ q := ((Rect.mem_set_unit.1 (show (ix3 0 ⟨q, hq⟩ d : S1x528x1024.Idx)
    ∈ (Rect.unit (s := S1x528x1024) ![0, 16, 0] S1x512x1024.size inb_S1x528x1024_S1x512x1024_0_16_0).set from hm)) 1).1
  omega

theorem canon_history (v : Vec Ideal S1x15x1024 .f32) (h : 1 ≤ q) (h' : q < 16) :
    View.canon (⟨Rect.unit (s := S1x528x1024) ![0, 1, 0] S1x15x1024.size inb_S1x528x1024_S1x15x1024_0_1_0, v⟩ :: L) (ix3 0 ⟨q, hq⟩ d)
      = v (ix3 0 ⟨q - 1, by omega⟩ d) := by
  have e : (ix3 0 ⟨q, hq⟩ d : S1x528x1024.Idx)
      = (Rect.unit (s := S1x528x1024) ![0, 1, 0] S1x15x1024.size inb_S1x528x1024_S1x15x1024_0_1_0).emb (ix3 0 ⟨q - 1, by omega⟩ d : S1x15x1024.Idx) := by
    funext a
    apply Fin.ext
    match a with
    | ⟨0, _⟩ => rfl
    | ⟨1, _⟩ => show q = 1 + 1 * (q - 1); omega
    | ⟨2, _⟩ => show d.val = 0 + 1 * d.val; omega
  rw [e]
  exact View.canon_cons_emb _ _ _ _

theorem canon_before (v : Vec Ideal S1x16x1024 .f32) (h' : q < 16) :
    View.canon (⟨Rect.unit (s := S1x528x1024) ![0, 0, 0] S1x16x1024.size inb_S1x528x1024_S1x16x1024_0_0_0, v⟩ :: L) (ix3 0 ⟨q, hq⟩ d)
      = v (ix3 0 ⟨q, h'⟩ d) := by
  have e : (ix3 0 ⟨q, hq⟩ d : S1x528x1024.Idx)
      = (Rect.unit (s := S1x528x1024) ![0, 0, 0] S1x16x1024.size inb_S1x528x1024_S1x16x1024_0_0_0).emb (ix3 0 ⟨q, h'⟩ d : S1x16x1024.Idx) := by
    funext a
    apply Fin.ext
    match a with
    | ⟨0, _⟩ => rfl
    | ⟨1, _⟩ => show q = 0 + 1 * q; omega
    | ⟨2, _⟩ => show d.val = 0 + 1 * d.val; omega
  rw [e]
  exact View.canon_cons_emb _ _ _ _

theorem history_cast (v : Vec Ideal S1x15x1024 .f32) : k0_pay2 (F := Ideal) v = v := Idealize.ShloMosaic.shapeCast_self _ _

theorem before_cast (v : Vec Ideal S1x16x1024 .f32) : k0_pay3 (F := Ideal) v = v := Idealize.ShloMosaic.shapeCast_self _ _

end

variable (m : (ℓ : Loc nD τ sig) → Buf (Elt Ideal) ℓ)

/-- `proj` of the launch contents of the arguments. -/
abbrev projOf (c : Dev nD) : Fin 4 → Fin 4096 → Fin 2048 → EReal :=
  proj (m ((c : Thread nD τ).loc main_arg0)) (m ((c : Thread nD τ).loc main_arg1)) (m ((c : Thread nD τ).loc main_arg3)) (m ((c : Thread nD τ).loc main_arg5))

/-- `rows` of the launch contents of the arguments. -/
abbrev rowsAt (c : Dev nD) : Fin 4 → ℕ → Fin 1024 → EReal :=
  rows (m ((c : Thread nD τ).loc main_arg0)) (m ((c : Thread nD τ).loc main_arg1)) (m ((c : Thread nD τ).loc main_arg2)) (m ((c : Thread nD τ).loc main_arg3)) (m ((c : Thread nD τ).loc main_arg5))

theorem product (c : Dev nD) (t : Fin cfg0.N) (r : Fin 512) (e : Fin 2048) :
    k0_pay5 (F := Ideal) (iblk m c 1 t) (iblk m c 0 t) (iblk m c 3 t) (iblk m c 5 t) (ix2 r e) = projOf m c (grid0.coords t 0) (row t r) e := by
  refine (product_apply _ _ _ _ r e).trans ?_
  unfold projOf proj
  simp only [read0, read1, read3, read5]

theorem inputAt_apply (c : Dev nD) (t : Fin cfg0.N) (r : Fin 512) (d : Fin 1024) :
    inputAt m c t (ix3 0 r d) = projOf m c (grid0.coords t 0) (row t r) ⟨d.val, by omega⟩ :=
  (input_apply _ _ _ _ r d).trans (product m c t r _)

theorem rowsAt_history (c : Dev nD) (b : Fin 4) (n : ℕ) (h : n < 15) (d : Fin 1024) :
    rowsAt m c b n d = (m ((c : Thread nD τ).loc main_arg2) : Vec Ideal S4x15x1024 .f32) (ix3 b ⟨n, h⟩ d) := by
  unfold rowsAt rows joinedRows
  rw [dif_pos h]

theorem rowsAt_input (c : Dev nD) (b : Fin 4) (n : ℕ) (k : Fin 4096) (h : n = k.val + 15) (d : Fin 1024) :
    rowsAt m c b n d = projOf m c b k ⟨d.val, by omega⟩ := by
  subst h
  unfold rowsAt rows joinedRows
  rw [dif_neg (by omega), dif_pos (by omega)]
  exact congrArg (fun k => projOf m c b k _) (Fin.ext (by show k.val + 15 - 15 = k.val; omega))

/-- Row `q` of the rows kept at a point. -/
theorem kept_row (c : Dev nD) (t : Fin cfg0.N) (q : ℕ) (hq : q < 528) (h1 : 1 ≤ q) (d : Fin 1024) :
    View.canon (keptAt m c t) (ix3 0 ⟨q, hq⟩ d) = rowsAt m c (grid0.coords t 0) (512 * (grid0.coords t 1).val + q - 1) d := by
  have hj : (grid0.coords t 1).val < 8 := (grid0.coords t 1).isLt
  have hN : cfg0.N = 32 := N_0
  obtain ⟨c0, c1⟩ := point_coords t
  by_cases h : 16 ≤ q
  · have e : View.canon (keptAt m c t) (ix3 0 ⟨q, hq⟩ d) = inputAt m c t (ix3 0 ⟨q - 16, by omega⟩ d) := by
      unfold keptAt keptFirst keptLater
      split
      · exact canon_new _ q hq d _ h
      · exact canon_new _ q hq d _ h
    rw [e, inputAt_apply]
    refine (rowsAt_input m c _ _ (row t ⟨q - 16, by omega⟩) ?_ d).symm
    show _ = 512 * (grid0.coords t 1).val + (q - 16) + 15
    omega
  · by_cases h0 : t.val % 8 = 0
    · unfold keptAt keptFirst
      rw [if_pos h0, canon_old _ q hq d _ (by omega), canon_history _ q hq d _ h1 (by omega)]
      refine (congrFun (history_cast _) _).trans ((read2 m c t ⟨q - 1, by omega⟩ d).trans ?_)
      refine Eq.trans ?_ (rowsAt_history m c (grid0.coords t 0) _ (by omega) d).symm
      exact congrArg (fun k => (m ((c : Thread nD τ).loc main_arg2) : Vec Ideal S4x15x1024 .f32) (ix3 (grid0.coords t 0) k d)) (Fin.ext (by
        show q - 1 = 512 * (grid0.coords t 1).val + q - 1; omega))
    · unfold keptAt keptLater
      rw [if_neg h0, canon_old _ q hq d _ (by omega), canon_before _ q hq d _ (by omega)]
      refine (congrFun (before_cast _) _).trans ?_
      have hp : (point (t.val - 1)).val = t.val - 1 := Nat.mod_eq_of_lt (by have := t.isLt; omega)
      obtain ⟨p0, p1⟩ := point_coords (point (t.val - 1))
      rw [hp] at p0 p1
      refine (inputAt_apply m c _ ⟨496 + q, by omega⟩ d).trans ?_
      have eb : grid0.coords (point (t.val - 1)) 0 = grid0.coords t 0 := Fin.ext (by rw [p0, c0]; omega)
      refine (congrArg (fun b : Fin 4 => projOf m c b (row (point (t.val - 1)) ⟨496 + q, by omega⟩) ⟨d.val, by omega⟩) eb).trans ?_
      refine (rowsAt_input m c _ _ (row (point (t.val - 1)) ⟨496 + q, by omega⟩) ?_ d).symm
      show _ = 512 * (grid0.coords (point (t.val - 1)) 1).val + (496 + q) + 15
      rw [p1, c1]
      omega

end Cert.Pooling
-- ==== Proof.Pool.Array.lean ====
module

public import proofs.«01_k».proof.Proof.Pool.Kept

@[expose] public section

set_option maxRecDepth 16384

noncomputable section

/-! Each block the pooling kernel writes holds the layer's results at the block's place. -/

namespace Cert.Pooling

open Idealize.ShloMosaic Idealize.ShloMosaic.TcCoe Idealize.SL.Sem
open Idealize.ShloMosaic.Tactic
open Idealize.ShloMosaic.Pipeline (Dat)
open Cert.PoolIdeal Cert.PoolIdeal.Gen Cert.Layer

section
variable (y0 y1 y2 y3 : FVec Ideal S512x256 .f32) (r : Fin 512) (f : Fin 4 → Fin 256 → EReal)

/-- The four groups side by side, at column `d`. -/
theorem joined_apply (h0 : ∀ k, y0 (ix2 r k) = f 0 k) (h1 : ∀ k, y1 (ix2 r k) = f 1 k) (h2 : ∀ k, y2 (ix2 r k) = f 2 k)
    (h3 : ∀ k, y3 (ix2 r k) = f 3 k) (d : Fin 1024) :
    joined y0 y1 y2 y3 (ix2 r d) = f ⟨d.val / 256, by omega⟩ ⟨d.val % 256, by omega⟩ := by
  have hd := d.isLt
  have hi : ∀ b : Fin 2, b ≠ 1 → ((ix2 r ⟨d.val % 256, by omega⟩ : S512x256.Idx) b).val = ((ix2 r d : S512x1024.Idx) b).val := fun b hb => by
    match b with
    | ⟨0, _⟩ => rfl
    | ⟨1, _⟩ => exact absurd rfl hb
  obtain h | h | h | h : d.val / 256 = 0 ∨ d.val / 256 = 1 ∨ d.val / 256 = 2 ∨ d.val / 256 = 3 := by omega
  · exact (concatenate_apply_piece (t := S512x1024) 1 _ _ (ix2 r d) 0 (by show 0 < 4; decide) S512x256 y0 rfl rfl 0 rfl (ix2 r ⟨d.val % 256, by omega⟩) hi
      (by show 0 + d.val % 256 = d.val; omega)).trans ((h0 _).trans (congrArg (fun g => f g _) (Fin.ext h.symm)))
  · exact (concatenate_apply_piece (t := S512x1024) 1 _ _ (ix2 r d) 1 (by show 1 < 4; decide) S512x256 y1 rfl rfl 256 rfl (ix2 r ⟨d.val % 256, by omega⟩) hi
      (by show 256 + d.val % 256 = d.val; omega)).trans ((h1 _).trans (congrArg (fun g => f g _) (Fin.ext h.symm)))
  · exact (concatenate_apply_piece (t := S512x1024) 1 _ _ (ix2 r d) 2 (by show 2 < 4; decide) S512x256 y2 rfl rfl 512 rfl (ix2 r ⟨d.val % 256, by omega⟩) hi
      (by show 512 + d.val % 256 = d.val; omega)).trans ((h2 _).trans (congrArg (fun g => f g _) (Fin.ext h.symm)))
  · exact (concatenate_apply_piece (t := S512x1024) 1 _ _ (ix2 r d) 3 (by show 3 < 4; decide) S512x256 y3 rfl rfl 768 rfl (ix2 r ⟨d.val % 256, by omega⟩) hi
      (by show 768 + d.val % 256 = d.val; omega)).trans ((h3 _).trans (congrArg (fun g => f g _) (Fin.ext h.symm)))

end

variable (m : (ℓ : Loc nD τ sig) → Buf (Elt Ideal) ℓ)

/-- `back` of the launch contents of the arguments. -/
abbrev backOf (c : Dev nD) : Fin 4 → Fin 4096 → ℕ → Fin 1024 → EReal :=
  back (m ((c : Thread nD τ).loc main_arg0)) (m ((c : Thread nD τ).loc main_arg1)) (m ((c : Thread nD τ).loc main_arg2)) (m ((c : Thread nD τ).loc main_arg3)) (m ((c : Thread nD τ).loc main_arg5))

/-- A window of the rows kept, at an entry. -/
theorem window_back (c : Dev nD) (t : Fin cfg0.N) {o g : ℕ} (inb : ∀ a, (![0, o, g] : Fin 3 → ℕ) a + S1x512x256.size a ≤ S1x528x1024.size a)
    (h1 : 1 ≤ o) (h2 : o ≤ 16) (hg : g ≤ 768) (r : Fin 512) (k : Fin 256) :
    window (View.canon (keptAt m c t)) inb (ix3 0 r k) = backOf m c (grid0.coords t 0) (row t r) (16 - o) ⟨g + k.val, by omega⟩ := by
  have e : (Rect.unit (s := S1x528x1024) ![0, o, g] ![1, 512, 256] inb).toLoadRect.idx (ix3 0 r k : S1x512x256.Idx)
      = ix3 (n0 := 1) (n1 := 528) (n2 := 1024) 0 ⟨o + r.val, by omega⟩ ⟨g + k.val, by omega⟩ := by
    funext a
    apply Fin.ext
    match a with
    | ⟨0, _⟩ => rfl
    | ⟨1, _⟩ => show o + 1 * r.val = o + r.val; omega
    | ⟨2, _⟩ => show g + 1 * k.val = g + k.val; omega
  unfold window
  rw [e, kept_row m c t (o + r.val) (by omega) (by omega)]
  unfold backOf back
  refine congrArg (fun n => rowsAt m c (grid0.coords t 0) n _) ?_
  show 512 * (grid0.coords t 1).val + (o + r.val) - 1 = 512 * (grid0.coords t 1).val + r.val + 15 - (16 - o)
  omega

theorem weights_apply (c : Dev nD) (t : Fin cfg0.N) {g : ℕ} (inb : ∀ a, (![g, 0, 0] : Fin 3 → ℕ) a + S1x256x256.size a ≤ S4x256x256.size a)
    (hg : g < 4) (k e : Fin 256) :
    weights (F := Ideal) (iblk m c 6 t) inb (ix3 0 k e) = (m ((c : Thread nD τ).loc main_arg6) : Vec Ideal S4x256x256 .bf16) (ix3 ⟨g, hg⟩ k e) := by
  have e' : (Rect.unit (s := S4x256x256) ![g, 0, 0] ![1, 256, 256] inb).toLoadRect.idx (ix3 0 k e : S1x256x256.Idx)
      = ix3 (n0 := 4) (n1 := 256) (n2 := 256) ⟨g, hg⟩ k e := by
    funext a
    apply Fin.ext
    match a with
    | ⟨0, _⟩ => rfl
    | ⟨1, _⟩ => show 0 + 1 * k.val = k.val; omega
    | ⟨2, _⟩ => show 0 + 1 * e.val = e.val; omega
  unfold weights
  rw [e']
  exact read6 m c t ⟨g, hg⟩ k e

theorem position_row (t : Fin cfg0.N) (r : Fin 512) : position (grid0.coords t) r = BitVec.ofNat 32 (row t r).val := by
  have hj : (grid0.coords t 1).val < 8 := (grid0.coords t 1).isLt
  show 0#32 + BitVec.ofNat 32 (grid0.coords t 1).val * BitVec.ofNat 32 512 + BitVec.ofNat 32 r.val = BitVec.ofNat 32 (512 * (grid0.coords t 1).val + r.val)
  rw [← BitVec.ofNat_mul, BitVec.zero_add, ← BitVec.ofNat_add, Nat.mul_comm]

section
variable (c : Dev nD) (t : Fin cfg0.N) (r : Fin 512) (e : Fin 256)

/-- `mixed` of the launch contents of the arguments, at a row of a block. -/
abbrev mixedOf : Fin 4 → Fin 256 → EReal := mixed (backOf m c (grid0.coords t 0) (row t r)) (BitVec.ofNat 32 (row t r).val)
  (fun p k e => (m ((c : Thread nD τ).loc main_arg6) : Vec Ideal S4x256x256 .bf16) (ix3 p k e))

theorem group0 : mix2 (F := Ideal) (grid0.coords t) (iblk m c 6 t) (View.canon (keptAt m c t)) (ix2 r e) = mixedOf m c t r 0 e := by
  unfold mix2
  refine (mix2_apply _ _ _ _ _ r e).trans (Finset.sum_congr rfl fun k _ => ?_)
  rw [position_row, weights_apply m c t _ (by decide)]
  simp (disch := decide) only [window_back, Nat.reduceSub]
  unfold mean
  simp only [show span 0 = 2 from rfl, Fin.val_zero, Nat.mul_zero, Finset.sum_range_succ, Finset.sum_range_zero, zero_add]
  rfl

theorem group1 : mix4 (F := Ideal) (grid0.coords t) (iblk m c 6 t) (View.canon (keptAt m c t)) (ix2 r e) = mixedOf m c t r 1 e := by
  unfold mix4
  refine (mix4_apply _ _ _ _ _ _ _ r e).trans (Finset.sum_congr rfl fun k _ => ?_)
  rw [position_row, weights_apply m c t _ (by decide)]
  simp (disch := decide) only [window_back, Nat.reduceSub]
  unfold mean
  simp only [show span 1 = 4 from rfl, Finset.sum_range_succ, Finset.sum_range_zero, zero_add]
  rfl

theorem group2 : mix8 (F := Ideal) (grid0.coords t) (iblk m c 6 t) (View.canon (keptAt m c t)) (ix2 r e) = mixedOf m c t r 2 e := by
  unfold mix8
  refine (mix8_apply _ _ _ _ _ _ _ _ _ _ _ r e).trans (Finset.sum_congr rfl fun k _ => ?_)
  rw [position_row, weights_apply m c t _ (by decide)]
  simp (disch := decide) only [window_back, Nat.reduceSub]
  unfold mean
  simp only [show span 2 = 8 from rfl, Finset.sum_range_succ, Finset.sum_range_zero, zero_add]
  rfl

theorem group3 : last16 (mean16 (F := Ideal) (grid0.coords t) (View.canon (keptAt m c t))) (window (View.canon (keptAt m c t)) inb_S1x528x1024_S1x512x256_0_16_768)
    (weights (iblk m c 6 t) inb_S4x256x256_S1x256x256_3_0_0) (ix2 r e) = mixedOf m c t r 3 e := by
  refine (last16_apply _ _ _ r e).trans (Finset.sum_congr rfl fun k _ => ?_)
  unfold mean16
  rw [mean16_apply, position_row, weights_apply m c t _ (by decide)]
  simp (disch := decide) only [window_back, Nat.reduceSub]
  unfold mean
  simp only [show span 3 = 16 from rfl, Finset.sum_range_succ, Finset.sum_range_zero, zero_add]
  rfl

end

/-- The output, from the launch contents of the arguments. -/
abbrev outputs (c : Dev nD) : Buf (Elt Ideal) ((c : Thread nD τ).loc main_v3_0) :=
  outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The new history, from the launch contents of the arguments. -/
abbrev histories (c : Dev nD) : Buf (Elt Ideal) ((c : Thread nD τ).loc main_v3_1) :=
  historyArr (m ((c : Thread nD τ).loc main_arg0)) (m ((c : Thread nD τ).loc main_arg1)) (m ((c : Thread nD τ).loc main_arg2)) (m ((c : Thread nD τ).loc main_arg3)) (m ((c : Thread nD τ).loc main_arg5))

theorem resultAt_apply (c : Dev nD) (t : Fin cfg0.N) (r : Fin 512) (d : Fin 1024) :
    resultAt m c t (ix3 0 r d) = outputs m c (ix3 (grid0.coords t 0) (row t r) d) := by
  unfold resultAt result
  refine (sum_apply _ _ _ r d).trans ?_
  rw [output_apply, gate_apply _ 0, read1, read0]
  simp only [joined_apply _ _ _ _ r (mixedOf m c t r) (group0 m c t r) (group1 m c t r) (group2 m c t r) (group3 m c t r), product, read4, read7, read8]
  rfl

theorem historyAt_apply (c : Dev nD) (t : Fin cfg0.N) (ht : t.val % 8 = 7) (r : Fin 15) (d : Fin 1024) :
    historyAt m c t (ix3 0 r d) = histories m c (ix3 (grid0.coords t 0) r d) := by
  have e : (Rect.unit (s := S1x528x1024) ![0, 513, 0] S1x15x1024.size inb_S1x528x1024_S1x15x1024_0_513_0).toLoadRect.idx (ix3 0 r d : S1x15x1024.Idx)
      = ix3 (n0 := 1) (n1 := 528) (n2 := 1024) 0 ⟨513 + r.val, by omega⟩ d := by
    funext a
    apply Fin.ext
    match a with
    | ⟨0, _⟩ => rfl
    | ⟨1, _⟩ => show 513 + 1 * r.val = 513 + r.val; omega
    | ⟨2, _⟩ => show 0 + 1 * d.val = d.val; omega
  obtain ⟨c0, c1⟩ := point_coords t
  unfold historyAt
  rw [e, kept_row m c t (513 + r.val) (by omega) (by omega), c1, ht]
  refine congrArg (fun n => rowsAt m c (grid0.coords t 0) n d) ?_
  show 512 * 7 + (513 + r.val) - 1 = 4096 + r.val
  omega

end Cert.Pooling
-- ==== Proof.Pool.Final.lean ====
module

public import proofs.«01_k».proof.Proof.Pool.Array

@[expose] public section

set_option maxRecDepth 16384

noncomputable section

/-! The blocks the pooling kernel writes back make up its results. -/

namespace Cert.Pooling

open Idealize.ShloMosaic Idealize.ShloMosaic.TcCoe Idealize.SL.Sem
open Idealize.ShloMosaic.Tactic
open Idealize.ShloMosaic.Pipeline (Dat)
open Cert.PoolIdeal Cert.PoolIdeal.Gen Cert.Layer

variable (m : (ℓ : Loc nD τ sig) → Buf (Elt Ideal) ℓ) (ρ : Dev nD → PrngReg)

theorem flushed9_eq (c : Dev nD) (t : Fin cfg0.N) (hf : (cfg0.win 9).flush t = true) :
    (data m 0 c).flushed 9 t = ((cfg0.win 9).blk t).view.read (Elt Ideal) (outputs m c) := by
  show (cfg0.win 9).cut (grid0.coords t) ((data m 0 c).after 9 t) = _
  rw [after_9]
  obtain ⟨e0, e1, e2⟩ := (index_out t).1
  funext j
  have hj0 : (j 0).val < 1 := (j 0).isLt
  have ej : (j : S1x512x1024.Idx) = ix3 0 (j 1) (j 2) := funext fun a => Fin.ext (by
    match a with
    | ⟨0, _⟩ => show (j 0).val = 0; omega
    | ⟨1, _⟩ => rfl
    | ⟨2, _⟩ => rfl)
  rw [View.read_apply]
  refine ((congrArg (resultAt m c t) ej).trans (resultAt_apply m c t (j 1) (j 2))).trans (congrArg (outputs m c) (funext fun a => Fin.ext ?_))
  match a with
  | ⟨0, _⟩ => show (grid0.coords t 0).val = win0_9.index t 0 * 1 + 1 * (j 0).val; rw [e0]; omega
  | ⟨1, _⟩ => show 512 * (grid0.coords t 1).val + (j 1).val = win0_9.index t 1 * 512 + 1 * (j 1).val; rw [e1]; omega
  | ⟨2, _⟩ => show (j 2).val = win0_9.index t 2 * 1024 + 1 * (j 2).val; rw [e2]; omega

theorem final9 (c : Dev nD) : (data m 0 c).arrAt 9 cfg0.N = outputs m c :=
  (data m 0 c).arrAt_eq_of_cover 9 (outputs m c) (flushed9_eq m c) fun j => by
    have h0 : (j 0 : Nat) < 4 := (j 0).isLt
    have h1 : (j 1 : Nat) < 4096 := (j 1).isLt
    have h2 : (j 2 : Nat) < 1024 := (j 2).isLt
    have hN : cfg0.N = 32 := N_0
    refine ⟨⟨(j 0 : Nat) * 8 + (j 1 : Nat) / 512, by omega⟩, flush0_9 _, ?_⟩
    generalize ht : (⟨(j 0 : Nat) * 8 + (j 1 : Nat) / 512, _⟩ : Fin cfg0.N) = t
    have htv : t.val = (j 0 : Nat) * 8 + (j 1 : Nat) / 512 := by rw [← ht]
    obtain ⟨e0, e1, e2⟩ := (index_out t).1
    obtain ⟨c0, c1⟩ := point_coords t
    show j ∈ ((View.whole main_v3_0).slice (win0_9.rect t)).set
    rw [View.set_slice_whole, Rect.mem_set_unit]
    intro a
    match a with
    | ⟨0, _⟩ => show win0_9.index t 0 * 1 ≤ (j 0 : Nat) ∧ (j 0 : Nat) < win0_9.index t 0 * 1 + 1; rw [e0, c0]; omega
    | ⟨1, _⟩ => show win0_9.index t 1 * 512 ≤ (j 1 : Nat) ∧ (j 1 : Nat) < win0_9.index t 1 * 512 + 512; rw [e1, c1]; omega
    | ⟨2, _⟩ => show win0_9.index t 2 * 1024 ≤ (j 2 : Nat) ∧ (j 2 : Nat) < win0_9.index t 2 * 1024 + 1024; rw [e2]; omega

theorem flushed10_eq (c : Dev nD) (t : Fin cfg0.N) (hf : (cfg0.win 10).flush t = true) :
    (data m 0 c).flushed 10 t = ((cfg0.win 10).blk t).view.read (Elt Ideal) (histories m c) := by
  show (cfg0.win 10).cut (grid0.coords t) ((data m 0 c).after 10 t) = _
  rw [after_10]
  obtain ⟨e0, e1, e2⟩ := (index_out t).2
  funext j
  have hj0 : (j 0).val < 1 := (j 0).isLt
  have ej : (j : S1x15x1024.Idx) = ix3 0 (j 1) (j 2) := funext fun a => Fin.ext (by
    match a with
    | ⟨0, _⟩ => show (j 0).val = 0; omega
    | ⟨1, _⟩ => rfl
    | ⟨2, _⟩ => rfl)
  rw [View.read_apply]
  refine ((congrArg (historyAt m c t) ej).trans (historyAt_apply m c t ((flush0_10 t).1 hf) (j 1) (j 2))).trans (congrArg (histories m c) (funext fun a => Fin.ext ?_))
  match a with
  | ⟨0, _⟩ => show (grid0.coords t 0).val = win0_10.index t 0 * 1 + 1 * (j 0).val; rw [e0]; omega
  | ⟨1, _⟩ => show (j 1).val = win0_10.index t 1 * 15 + 1 * (j 1).val; rw [e1]; omega
  | ⟨2, _⟩ => show (j 2).val = win0_10.index t 2 * 1024 + 1 * (j 2).val; rw [e2]; omega

theorem final10 (c : Dev nD) : (data m 0 c).arrAt 10 cfg0.N = histories m c :=
  (data m 0 c).arrAt_eq_of_cover 10 (histories m c) (flushed10_eq m c) fun j => by
    have h0 : (j 0 : Nat) < 4 := (j 0).isLt
    have h1 : (j 1 : Nat) < 15 := (j 1).isLt
    have h2 : (j 2 : Nat) < 1024 := (j 2).isLt
    have hN : cfg0.N = 32 := N_0
    refine ⟨⟨(j 0 : Nat) * 8 + 7, by omega⟩, (flush0_10 _).2 (by show ((j 0 : Nat) * 8 + 7) % 8 = 7; omega), ?_⟩
    generalize ht : (⟨(j 0 : Nat) * 8 + 7, _⟩ : Fin cfg0.N) = t
    have htv : t.val = (j 0 : Nat) * 8 + 7 := by rw [← ht]
    obtain ⟨e0, e1, e2⟩ := (index_out t).2
    obtain ⟨c0, c1⟩ := point_coords t
    show j ∈ ((View.whole main_v3_1).slice (win0_10.rect t)).set
    rw [View.set_slice_whole, Rect.mem_set_unit]
    intro a
    match a with
    | ⟨0, _⟩ => show win0_10.index t 0 * 1 ≤ (j 0 : Nat) ∧ (j 0 : Nat) < win0_10.index t 0 * 1 + 1; rw [e0, c0]; omega
    | ⟨1, _⟩ => show win0_10.index t 1 * 15 ≤ (j 1 : Nat) ∧ (j 1 : Nat) < win0_10.index t 1 * 15 + 15; rw [e1]; omega
    | ⟨2, _⟩ => show win0_10.index t 2 * 1024 ≤ (j 2 : Nat) ∧ (j 2 : Nat) < win0_10.index t 2 * 1024 + 1024; rw [e2]; omega

end Cert.Pooling
-- ==== Proof.Pool.Cumsum.lean ====
module

public import Idealize.ShloMosaic.Lib.Pointwise
public import proofs.«01_k».proof.Proof.Gen.PoolRefIdeal.Read

@[expose] public section

set_option maxRecDepth 16384

noncomputable section

/-! Running sums, and the difference of two of them. -/

namespace Cert.PoolRefIdeal.Running

open Idealize.ShloMosaic Cert.PoolRefIdeal Cert.PoolRefIdeal.Gen

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A sum over windows whose padding is zero, as a sum over the window's places. -/
theorem reduceWindowAdd_apply {s t u : Shape} (window strides lo hi : Fin s.rank → ℕ) (x : FVec Ideal s .f32) (init : FVec Ideal u .f32)
    (h : s.ReduceWindows window strides lo hi t) (hu : 0 < u.numel) (hi0 : init (Shape.Idx.first hu) = (0 : EReal)) (j : t.Idx) :
    Host.reduceWindowAdd (F := Ideal) window strides lo hi x init h hu j
      = ∑ w : (⟨s.rank, window⟩ : Shape).Idx, if hin : ∀ a, lo a ≤ (j (a.cast h.1.symm)).val * strides a + (w a).val
          ∧ (j (a.cast h.1.symm)).val * strides a + (w a).val - lo a < s.size a
        then (show EReal from x (fun a => ⟨(j (a.cast h.1.symm)).val * strides a + (w a).val - lo a, (hin a).2⟩)) else 0 := by
  have e : Host.reduceWindowAdd (F := Ideal) window strides lo hi x init h hu j
      = Host.reduceWindow (fun a b : EReal => a + b) window strides lo hi x (fun _ : (⟨0, ![]⟩ : Shape).Idx => init (Shape.Idx.first hu)) h (by decide) j := rfl
  rw [e, hi0]
  unfold Host.reduceWindow
  refine (foldl_add _ _ _).trans ?_
  rw [zero_add, ← Fin.sum_univ_def]
  rw [← Equiv.sum_comp (⟨s.rank, window⟩ : Shape).rowMajor.symm]
  exact Finset.sum_congr rfl fun n _ => dite_congr rfl (fun _ => rfl) (fun _ => rfl)

/-- A window down one column. -/
abbrev S1x4111x1 : Shape := ⟨3, ![1, 4111, 1]⟩

/-- Its places, by row. -/
def places : S1x4111x1.Idx ≃ Fin 4111 where
  toFun w := w 1
  invFun k := ix3 0 k 0
  left_inv w := funext fun a => Fin.ext (by
    match a with
    | ⟨0, _⟩ => have h : (w 0).val < 1 := (w 0).isLt; show 0 = (w 0).val; omega
    | ⟨1, _⟩ => rfl
    | ⟨2, _⟩ => have h : (w 2).val < 1 := (w 2).isLt; show 0 = (w 2).val; omega)
  right_inv k := rfl

theorem sum_late (f : ℕ → EReal) (n N : ℕ) (hn : n ≤ N) :
    (∑ k ∈ Finset.range (N + 1), if N ≤ n + k then f (n + k - N) else 0) = ∑ j ∈ Finset.range (n + 1), f j := by
  obtain ⟨d, rfl⟩ := Nat.exists_eq_add_of_le' hn
  rw [add_assoc, Finset.sum_range_add, Finset.sum_eq_zero fun k hk => if_neg (by have := Finset.mem_range.1 hk; omega), zero_add]
  refine Finset.sum_congr rfl fun k hk => ?_
  rw [if_pos (by omega)]
  exact congrArg f (by omega)

/-- The running sum down the rows of an array of three axes. -/
theorem running_apply (x : FVec Ideal S4x4111x1024 .f32) (init : FVec Ideal S_ .f32) (hi : init (Shape.Idx.first h_S_) = (0 : EReal))
    (b : Fin 4) (n : Fin 4111) (c : Fin 1024) (f : ℕ → EReal) (hf : ∀ k : Fin 4111, x (ix3 b k c) = f k.val) :
    Host.reduceWindowAdd (F := Ideal) ![1, 4111, 1] ![1, 1, 1] ![0, 4110, 0] ![0, 0, 0] x init
      reduceWindows_S4x4111x1024_S4x4111x1024_w1s1p0_0_w4111s1p4110_0_w1s1p0_0 h_S_ (ix3 b n c) = ∑ j ∈ Finset.range (n.val + 1), f j := by
  refine (reduceWindowAdd_apply (s := S4x4111x1024) (t := S4x4111x1024) _ _ _ _ x init _ h_S_ hi (ix3 b n c)).trans ?_
  rw [← Equiv.sum_comp places.symm, ← sum_late f n.val 4110 (by omega), ← Fin.sum_univ_eq_sum_range (fun k => if 4110 ≤ n.val + k then f (n.val + k - 4110) else 0)]
  refine Finset.sum_congr rfl fun k _ => ?_
  by_cases h : 4110 ≤ n.val + k.val
  · have hin : ∀ a, (![0, 4110, 0] : Fin 3 → ℕ) a ≤ ((ix3 b n c : S4x4111x1024.Idx) a).val * (![1, 1, 1] : Fin 3 → ℕ) a + (places.symm k a).val
      ∧ ((ix3 b n c : S4x4111x1024.Idx) a).val * (![1, 1, 1] : Fin 3 → ℕ) a + (places.symm k a).val - (![0, 4110, 0] : Fin 3 → ℕ) a < S4x4111x1024.size a := fun a => by
      match a with
      | ⟨0, _⟩ => show 0 ≤ b.val * 1 + 0 ∧ b.val * 1 + 0 - 0 < 4; omega
      | ⟨1, _⟩ => show 4110 ≤ n.val * 1 + k.val ∧ n.val * 1 + k.val - 4110 < 4111; omega
      | ⟨2, _⟩ => show 0 ≤ c.val * 1 + 0 ∧ c.val * 1 + 0 - 0 < 1024; omega
    rw [if_pos h]
    refine (dif_pos hin).trans ((congrArg x (funext fun a => Fin.ext ?_)).trans (hf ⟨n.val + k.val - 4110, by omega⟩))
    match a with
    | ⟨0, _⟩ => show b.val * 1 + 0 - 0 = b.val; omega
    | ⟨1, _⟩ => show n.val * 1 + k.val - 4110 = n.val + k.val - 4110; omega
    | ⟨2, _⟩ => show c.val * 1 + 0 - 0 = c.val; omega
  · rw [if_neg h]
    refine dif_neg fun hin => ?_
    have h1 : 4110 ≤ n.val * 1 + k.val := (hin 1).1
    omega

theorem add_sub_real (r : ℝ) (x : EReal) : (r : EReal) + x - r = x := by
  induction x using EReal.rec with
  | bot => simp
  | coe x => rw [← EReal.coe_add, ← EReal.coe_sub]; exact congrArg _ (by ring)
  | top => simp

theorem sum_real (f : ℕ → EReal) (hf : ∀ n, ∃ r : ℝ, f n = r) (n : ℕ) : ∃ r : ℝ, ∑ j ∈ Finset.range n, f j = r := by
  induction n with
  | zero => exact ⟨0, by simp⟩
  | succ n ih =>
    obtain ⟨r, hr⟩ := ih
    obtain ⟨q, hq⟩ := hf n
    exact ⟨r + q, by rw [Finset.sum_range_succ, hr, hq, EReal.coe_add]⟩

/-- The difference of two running sums of reals is the sum of the rows between, here taken backwards. -/
theorem window (f : ℕ → EReal) (hf : ∀ n, ∃ r : ℝ, f n = r) (n w : ℕ) (hw : w ≤ n) :
    (∑ j ∈ Finset.range n, f j) - ∑ j ∈ Finset.range (n - w), f j = ∑ i ∈ Finset.range w, f (n - 1 - i) := by
  obtain ⟨r, hr⟩ := sum_real f hf (n - w)
  rw [show Finset.range n = Finset.range ((n - w) + w) from congrArg Finset.range (by omega), Finset.sum_range_add, hr, add_sub_real,
    ← Finset.sum_range_reflect]
  refine Finset.sum_congr rfl fun i hi => congrArg f ?_
  have := Finset.mem_range.1 hi
  omega

end Cert.PoolRefIdeal.Running
-- ==== Proof.Pool.Ref.lean ====
module

public import proofs.«01_k».proof.Proof.Pool.Cumsum
public import proofs.«01_k».proof.Proof.Pool.Closed
public import proofs.«01_k».proof.Proof.Gen.PoolRefIdeal.Read

@[expose] public section

set_option maxRecDepth 16384

noncomputable section

/-! What the pooling layer's reference computes at one entry of each result. -/

namespace Cert.PoolRefIdeal.Pooling

open Idealize.ShloMosaic Idealize.ShloMosaic.Tactic
open Cert.PoolRefIdeal Cert.PoolRefIdeal.Gen Cert.PoolRefIdeal.Read Cert.Layer Cert.Pooling

variable (x : FVec Ideal S4x4096x1024 .f32) (mod : FVec Ideal S4x1x3072 .f32) (hist : FVec Ideal S4x15x1024 .f32) (g gpost : FVec Ideal S1024 .f32)
  (w : FVec Ideal S1024x2048 .bf16) (W : FVec Ideal S4x256x256 .bf16) (scale : FVec Ideal S1024 .f32) (wout : FVec Ideal S1024x1024 .bf16)

theorem product_apply (b : Fin 4) (n : Fin 4096) (e : Fin 2048) : val_main_v26 (F := Ideal) x mod g w (ix3 b n e) = proj x mod g w b n e := by
  pointwise [val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v1, val_main_v0, val_main_cst, val_main_cst_0, val_main_cst_1,
    val_main_cst_2]
  rfl

theorem input_apply (b : Fin 4) (n : Fin 4096) (d : Fin 1024) :
    val_main_v27 (F := Ideal) x mod g w (ix3 b n d) = proj x mod g w b n ⟨d.val, by omega⟩ := by
  rw [← product_apply]
  pointwise [val_main_v27]

/-- The history followed by the rows pooled. -/
theorem rows_apply (b : Fin 4) (n : Fin 4111) (d : Fin 1024) :
    val_main_v28 (F := Ideal) x mod hist g w (ix3 b n d) = rows x mod hist g w b n.val d := by
  unfold val_main_v28 rows joinedRows
  by_cases h : n.val < 15
  · rw [dif_pos h]
    exact concatenate_pair_apply_left (t := S4x4111x1024) (s₁ := S4x15x1024) (s₂ := S4x4096x1024) 1 _ _ _ (ix3 b n d) rfl (ix3 b ⟨n.val, h⟩ d : S4x15x1024.Idx) fun a => by
      match a with
      | ⟨0, _⟩ => rfl
      | ⟨1, _⟩ => rfl
      | ⟨2, _⟩ => rfl
  · have hn : n.val - 15 < 4096 := by omega
    rw [dif_neg h, dif_pos hn]
    refine Eq.trans ?_ (input_apply x mod g w b ⟨n.val - 15, hn⟩ d)
    exact concatenate_pair_apply_right (t := S4x4111x1024) (s₁ := S4x15x1024) (s₂ := S4x4096x1024) 1 _ _ _ (ix3 b n d) rfl rfl (ix3 b ⟨n.val - 15, hn⟩ d : S4x4096x1024.Idx) (fun a ha => by
      match a with
      | ⟨0, _⟩ => rfl
      | ⟨1, _⟩ => exact absurd rfl ha
      | ⟨2, _⟩ => rfl) (by show n.val - 15 + 15 = n.val; omega)

theorem zero_first : val_main_call0_call0_v0 (F := Ideal) (Shape.Idx.first h_S_) = (0 : EReal) := by
  show Ideal.ofBits .f32 0x00000000#32 = 0
  exact zero_word

/-- The sum of the rows before row `n`. -/
theorem sums_apply (b : Fin 4) (n : Fin 4112) (d : Fin 1024) :
    val_main_v32 (F := Ideal) x mod hist g w (ix3 b n d) = ∑ j ∈ Finset.range n.val, rows x mod hist g w b j d := by
  unfold val_main_v32
  by_cases h : n.val < 1
  · refine (concatenate_pair_apply_left (t := S4x4112x1024) (s₁ := S4x1x1024) (s₂ := S4x4111x1024) 1 _ _ _ (ix3 b n d) rfl (ix3 b ⟨n.val, h⟩ d : S4x1x1024.Idx) fun a => by
      match a with
      | ⟨0, _⟩ => rfl
      | ⟨1, _⟩ => rfl
      | ⟨2, _⟩ => rfl).trans ?_
    refine Eq.trans ?_ (congrArg (fun k => ∑ j ∈ Finset.range k, rows x mod hist g w b j d) (show 0 = n.val by omega))
    rw [Finset.sum_range_zero]
    show Ideal.ofBits .f32 0x00000000#32 = 0
    exact zero_word
  · have hn : n.val - 1 < 4111 := by omega
    refine (concatenate_pair_apply_right (t := S4x4112x1024) (s₁ := S4x1x1024) (s₂ := S4x4111x1024) 1 _ _ _ (ix3 b n d) rfl rfl (ix3 b ⟨n.val - 1, hn⟩ d : S4x4111x1024.Idx) (fun a ha => by
      match a with
      | ⟨0, _⟩ => rfl
      | ⟨1, _⟩ => exact absurd rfl ha
      | ⟨2, _⟩ => rfl) (by show n.val - 1 + 1 = n.val; omega)).trans ?_
    unfold val_main_v29
    refine (Running.running_apply _ _ zero_first b ⟨n.val - 1, hn⟩ d (fun j => rows x mod hist g w b j d) fun k => rows_apply x mod hist g w b k d).trans ?_
    rw [show n.val - 1 + 1 = n.val by omega]

section
variable (real : ∀ b n d, ∃ r : ℝ, rows x mod hist g w b n d = r)
include real

/-- The difference of two running sums is the sum over a window. -/
theorem difference (b : Fin 4) (n : Fin 4096) (s : ℕ) (hs : s ≤ 16) (d : Fin 1024) :
    val_main_v32 (F := Ideal) x mod hist g w (ix3 b ⟨16 + n.val, by omega⟩ d) - val_main_v32 (F := Ideal) x mod hist g w (ix3 b ⟨16 - s + n.val, by omega⟩ d)
      = ∑ i ∈ Finset.range s, back x mod hist g w b n i d := by
  rw [sums_apply, sums_apply]
  refine Eq.trans ?_ ((Running.window (fun j => rows x mod hist g w b j d) (fun j => real b j d) (16 + n.val) s (by omega)).trans ?_)
  · rw [show 16 + n.val - s = 16 - s + n.val by omega]
  · refine Finset.sum_congr rfl fun i _ => congrArg (fun j => rows x mod hist g w b j d) ?_
    show 16 + n.val - 1 - i = n.val + 15 - i
    omega

end

theorem back_zero (b : Fin 4) (n : Fin 4096) (d : Fin 1024) : val_main_v27 (F := Ideal) x mod g w (ix3 b n d) = back x mod hist g w b n 0 d := by
  unfold back rows joinedRows
  rw [input_apply, dif_neg (by omega), dif_pos (by omega)]
  exact congrArg (fun k => proj x mod g w b k _) (Fin.ext (by show n.val = n.val + 15 - 0 - 15; omega))

section
variable (real : ∀ b n d, ∃ r : ℝ, rows x mod hist g w b n d = r) (b : Fin 4) (n : Fin 4096) (e : Fin 256)
include real

/-- `mixed` of a row, from the reference's arguments. -/
abbrev mixedOf : Fin 4 → Fin 256 → EReal := mixed (back x mod hist g w b n) (BitVec.ofNat 32 n.val) (fun p k e => W (ix3 p k e))

theorem group0 : val_main_v51 (F := Ideal) x mod hist g w W (ix3 b n e) = mixedOf x mod hist g w W b n 0 e := by
  have e1 : val_main_v51 (F := Ideal) x mod hist g w W (ix3 b n e) = ∑ k : Fin 256, (Ideal.div
      (val_main_v32 (F := Ideal) x mod hist g w (ix3 b ⟨16 + n.val, by omega⟩ ⟨k.val, by omega⟩) - val_main_v32 (F := Ideal) x mod hist g w (ix3 b ⟨14 + n.val, by omega⟩ ⟨k.val, by omega⟩))
      (count (BitVec.ofNat 32 n.val) 2#32) - val_main_v27 (F := Ideal) x mod g w (ix3 b n ⟨k.val, by omega⟩)) * W (ix3 0 k e) := by
    pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_c, val_main_c_4]
    rfl
  refine e1.trans (Finset.sum_congr rfl fun k _ => ?_)
  rw [difference x mod hist g w real b n 2 (by decide), back_zero x mod hist]
  unfold mean
  simp only [Fin.val_zero, Nat.mul_zero, zero_add]
  rfl

theorem group1 : val_main_v68 (F := Ideal) x mod hist g w W (ix3 b n e) = mixedOf x mod hist g w W b n 1 e := by
  have e1 : val_main_v68 (F := Ideal) x mod hist g w W (ix3 b n e) = ∑ k : Fin 256, (Ideal.div
      (val_main_v32 (F := Ideal) x mod hist g w (ix3 b ⟨16 + n.val, by omega⟩ ⟨256 + k.val, by omega⟩) - val_main_v32 (F := Ideal) x mod hist g w (ix3 b ⟨12 + n.val, by omega⟩ ⟨256 + k.val, by omega⟩))
      (count (BitVec.ofNat 32 n.val) 4#32) - val_main_v27 (F := Ideal) x mod g w (ix3 b n ⟨256 + k.val, by omega⟩)) * W (ix3 1 k e) := by
    pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v34, val_main_v33, val_main_c_5, val_main_c_6]
    rfl
  refine e1.trans (Finset.sum_congr rfl fun k _ => ?_)
  rw [difference x mod hist g w real b n 4 (by decide), back_zero x mod hist]
  rfl

theorem group2 : val_main_v85 (F := Ideal) x mod hist g w W (ix3 b n e) = mixedOf x mod hist g w W b n 2 e := by
  have e1 : val_main_v85 (F := Ideal) x mod hist g w W (ix3 b n e) = ∑ k : Fin 256, (Ideal.div
      (val_main_v32 (F := Ideal) x mod hist g w (ix3 b ⟨16 + n.val, by omega⟩ ⟨512 + k.val, by omega⟩) - val_main_v32 (F := Ideal) x mod hist g w (ix3 b ⟨8 + n.val, by omega⟩ ⟨512 + k.val, by omega⟩))
      (count (BitVec.ofNat 32 n.val) 8#32) - val_main_v27 (F := Ideal) x mod g w (ix3 b n ⟨512 + k.val, by omega⟩)) * W (ix3 2 k e) := by
    pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v34, val_main_v33, val_main_c_7, val_main_c_8]
    rfl
  refine e1.trans (Finset.sum_congr rfl fun k _ => ?_)
  rw [difference x mod hist g w real b n 8 (by decide), back_zero x mod hist]
  rfl

theorem group3 : val_main_v102 (F := Ideal) x mod hist g w W (ix3 b n e) = mixedOf x mod hist g w W b n 3 e := by
  have e1 : val_main_v102 (F := Ideal) x mod hist g w W (ix3 b n e) = ∑ k : Fin 256, (Ideal.div
      (val_main_v32 (F := Ideal) x mod hist g w (ix3 b ⟨16 + n.val, by omega⟩ ⟨768 + k.val, by omega⟩) - val_main_v32 (F := Ideal) x mod hist g w (ix3 b ⟨0 + n.val, by omega⟩ ⟨768 + k.val, by omega⟩))
      (count (BitVec.ofNat 32 n.val) 16#32) - val_main_v27 (F := Ideal) x mod g w (ix3 b n ⟨768 + k.val, by omega⟩)) * W (ix3 3 k e) := by
    pointwise [val_main_v102, val_main_v101, val_main_v100, val_main_v99, val_main_v98, val_main_v97, val_main_v96, val_main_v95, val_main_v94, val_main_v93, val_main_v92, val_main_v91, val_main_v90, val_main_v89, val_main_v88, val_main_v87, val_main_v86, val_main_v34, val_main_v33, val_main_c_9, val_main_c_10]
    rfl
  refine e1.trans (Finset.sum_congr rfl fun k _ => ?_)
  rw [difference x mod hist g w real b n 16 (by decide), back_zero x mod hist]
  rfl

/-- The four groups side by side, at column `d`. -/
theorem joined_apply (d : Fin 1024) : val_main_v103 (F := Ideal) x mod hist g w W (ix3 b n d) = mixedRow x mod hist g w W b n d := by
  have hd := d.isLt
  have hi : ∀ a : Fin 3, a ≠ 2 → ((ix3 b n ⟨d.val % 256, by omega⟩ : S4x4096x256.Idx) a).val = ((ix3 b n d : S4x4096x1024.Idx) a).val := fun a ha => by
    match a with
    | ⟨0, _⟩ => rfl
    | ⟨1, _⟩ => rfl
    | ⟨2, _⟩ => exact absurd rfl ha
  unfold val_main_v103 mixedRow
  obtain h | h | h | h : d.val / 256 = 0 ∨ d.val / 256 = 1 ∨ d.val / 256 = 2 ∨ d.val / 256 = 3 := by omega
  · exact (concatenate_apply_piece (t := S4x4096x1024) 2 _ _ (ix3 b n d) 0 (by show 0 < 4; decide) S4x4096x256 _ rfl rfl 0 rfl (ix3 b n ⟨d.val % 256, by omega⟩) hi
      (by show 0 + d.val % 256 = d.val; omega)).trans ((group0 x mod hist g w W real b n _).trans (congrArg (fun p => mixedOf x mod hist g w W b n p _) (Fin.ext h.symm)))
  · exact (concatenate_apply_piece (t := S4x4096x1024) 2 _ _ (ix3 b n d) 1 (by show 1 < 4; decide) S4x4096x256 _ rfl rfl 256 rfl (ix3 b n ⟨d.val % 256, by omega⟩) hi
      (by show 256 + d.val % 256 = d.val; omega)).trans ((group1 x mod hist g w W real b n _).trans (congrArg (fun p => mixedOf x mod hist g w W b n p _) (Fin.ext h.symm)))
  · exact (concatenate_apply_piece (t := S4x4096x1024) 2 _ _ (ix3 b n d) 2 (by show 2 < 4; decide) S4x4096x256 _ rfl rfl 512 rfl (ix3 b n ⟨d.val % 256, by omega⟩) hi
      (by show 512 + d.val % 256 = d.val; omega)).trans ((group2 x mod hist g w W real b n _).trans (congrArg (fun p => mixedOf x mod hist g w W b n p _) (Fin.ext h.symm)))
  · exact (concatenate_apply_piece (t := S4x4096x1024) 2 _ _ (ix3 b n d) 3 (by show 3 < 4; decide) S4x4096x256 _ rfl rfl 768 rfl (ix3 b n ⟨d.val % 256, by omega⟩) hi
      (by show 768 + d.val % 256 = d.val; omega)).trans ((group3 x mod hist g w W real b n _).trans (congrArg (fun p => mixedOf x mod hist g w W b n p _) (Fin.ext h.symm)))

/-- The reference's output, at an entry. -/
theorem output_apply (d : Fin 1024) : val_main_v127 (F := Ideal) x mod hist g gpost w W scale wout (ix3 b n d) = output x mod hist g gpost w W scale wout b n d := by
  have e1 : val_main_v127 (F := Ideal) x mod hist g gpost w W scale wout (ix3 b n d)
      = pooled (fun d => x (ix3 b n d)) (fun d => val_main_v103 (F := Ideal) x mod hist g w W (ix3 b n d)) (fun d => scale (ix1 d))
          (fun k => val_main_v26 (F := Ideal) x mod g w (ix3 b n ⟨1024 + k.val, by omega⟩)) (fun d => mod (ix3 b 0 ⟨2048 + d.val, by omega⟩)) (fun d => gpost (ix1 d)) (fun k e => wout (ix2 k e)) d := by
    pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v2, val_main_call1_v0, val_main_call1_v1, val_main_call1_v2, val_main_call1_v3, val_main_call1_v4, val_main_call1_v5, val_main_call1_cst, val_main_call1_cst_0, val_main_cst_11, val_main_cst_12, val_main_cst_13]
    rfl
  rw [e1]
  simp only [joined_apply x mod hist g w W real, product_apply]
  rfl

end

/-- The reference's history, at an entry. -/
theorem history_apply (b : Fin 4) (r : Fin 15) (d : Fin 1024) :
    val_main_v128 (F := Ideal) x mod hist g w (ix3 b r d) = rows x mod hist g w b (4096 + r.val) d := by
  rw [← rows_apply x mod hist g w b ⟨4096 + r.val, by omega⟩ d]
  pointwise [val_main_v128]

end Cert.PoolRefIdeal.Pooling
-- ==== Proof.Pool.Equal.lean ====
module

public import proofs.«01_k».proof.Pre_rows_finite
public import proofs.«01_k».proof.Proof.Attn.Finite
public import proofs.«01_k».proof.Proof.Pool.Final
public import proofs.«01_k».proof.Proof.Pool.Ref

@[expose] public section

set_option maxRecDepth 16384

noncomputable section

/-! The pooling kernel's run, and its results against the reference's. -/

namespace Cert.Pooling

open Idealize.ShloMosaic Idealize.ShloMosaic.TcCoe Idealize.SL.Sem
open Cert.PoolIdeal Cert.PoolIdeal.Gen

variable (m : (ℓ : Loc nD τ sig) → Buf (Elt Ideal) ℓ) (ρ : Dev nD → PrngReg)

/-- The pooling kernel leaves the layer's two results and keeps its arguments. -/
theorem run : θ_run defs (onTc (τ := τ) (main (F := Ideal))) ⟨m, fun _ => 0, ρ⟩ (fun r => ∀ c : Dev nD,
      r.2.mem ((c.tc : Thread nD τ).loc main_v3_0) = outputs m c
      ∧ r.2.mem ((c.tc : Thread nD τ).loc main_v3_1) = histories m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.2 c).1 9).trans (final9 m c), ((h.2 c).1 10).trans (final10 m c), h.1.1 c⟩)
    (θ_run_and (frame m ρ) (ends m ρ))

end Cert.Pooling

namespace Cert.Equal

open Idealize.ShloMosaic Idealize.ShloMosaic.Tactic
open Cert.PoolRefIdeal Cert.PoolRefIdeal.Gen Cert.PoolRefIdeal.Read Cert.Pooling

theorem rows_facts : Cert.Pre_rows_finite.Facts := by constructor <;> decide

section
variable (x : FVec Ideal S4x4096x1024 .f32) (mod : FVec Ideal S4x1x3072 .f32) (hist : FVec Ideal S4x15x1024 .f32) (g gpost : FVec Ideal S1024 .f32)
  (w : FVec Ideal S1024x2048 .bf16) (W : FVec Ideal S4x256x256 .bf16) (scale : FVec Ideal S1024 .f32) (wout : FVec Ideal S1024x1024 .bf16)

/-- The history and the rows pooled are real where the precondition's array is all ones. -/
theorem rows_real [Cert.Pre_rows_finite.Facts] (h : Cert.Pre_rows_finite.fn (F := Ideal) x mod hist g gpost w W scale wout = fun _ => 1#1)
    (b : Fin 4) (n : ℕ) (d : Fin 1024) : ∃ r : ℝ, rows x mod hist g w b n d = r := by
  by_cases hn : n < 4111
  · obtain ⟨z, hz⟩ := real_of_lt (val_main_v28 (F := Ideal) x mod hist g w (ix3 b ⟨n, hn⟩ d)) (congrFun h (ix3 b ⟨n, hn⟩ d))
    exact ⟨z, (Cert.PoolRefIdeal.Pooling.rows_apply x mod hist g w b ⟨n, hn⟩ d).symm.trans hz⟩
  · refine ⟨0, ?_⟩
    unfold rows joinedRows
    rw [dif_neg (by omega), dif_neg (by omega)]
    rfl

theorem output_eq (real : ∀ b n d, ∃ r : ℝ, rows x mod hist g w b n d = r) :
    val_main_v127 (F := Ideal) x mod hist g gpost w W scale wout = outputArr x mod hist g gpost w W scale wout := funext fun y =>
  (congrArg (val_main_v127 (F := Ideal) x mod hist g gpost w W scale wout) (ix3_eta y).symm).trans
    (Cert.PoolRefIdeal.Pooling.output_apply x mod hist g gpost w W scale wout real (y 0) (y 1) (y 2))

theorem history_eq : val_main_v128 (F := Ideal) x mod hist g w = historyArr x mod hist g w := funext fun y =>
  (congrArg (val_main_v128 (F := Ideal) x mod hist g w) (ix3_eta y).symm).trans
    (Cert.PoolRefIdeal.Pooling.history_apply x mod hist g w (y 0) (y 1) (y 2))

end

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputRefIdeal
public import proofs.«01_k».proof.Proof.Gen.OutputRefIdeal.Run
public import proofs.«01_k».proof.Proof.Gen.OutputRefIdeal.Read
public import proofs.«01_k».proof.Proof.Gen.KeyValue
public import proofs.«01_k».proof.Proof.Gen.KeyValue.Skeleton
public import proofs.«01_k».proof.Proof.Gen.KeyValue.Launch
public import proofs.«01_k».proof.Proof.Gen.KeyValue.Points
public import proofs.«01_k».proof.Proof.Gen.KeyValue.Frame
public import proofs.«01_k».proof.Proof.Gen.KeyValueIdeal
public import proofs.«01_k».proof.Proof.Gen.KeyValueIdeal.Skeleton
public import proofs.«01_k».proof.Proof.Gen.KeyValueIdeal.Launch
public import proofs.«01_k».proof.Proof.Gen.KeyValueIdeal.Points
public import proofs.«01_k».proof.Proof.Gen.KeyValueIdeal.Frame
public import proofs.«01_k».proof.Proof.Gen.KeyValueIdeal.Value
public import proofs.«01_k».proof.Proof.Gen.KeyValueRefIdeal
public import proofs.«01_k».proof.Proof.Gen.KeyValueRefIdeal.Run
public import proofs.«01_k».proof.Proof.Gen.KeyValueRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolRefIdeal.Read
public import proofs.«01_k».proof.Proof.Attn.Finite
public import proofs.«01_k».proof.Proof.Out.Equal
public import proofs.«01_k».proof.Proof.Query.Equal
public import proofs.«01_k».proof.Proof.KeyValue.Equal
public import proofs.«01_k».proof.Proof.Pool.Plain
public import proofs.«01_k».proof.Proof.Pool.Equal
public import Idealize.ShloMosaic.Adequacy
public import Idealize.ShloMosaic.Init

@[expose] public section

noncomputable section

/-! The claims, put together. -/

namespace Cert.Proof

open Idealize.ShloMosaic Idealize.SL.Sem

/-- The attention of the prompt is that of the reference, where queries and keys are finite. -/
theorem attention [Cert.Pre_scores_finite.Facts] : Cert.algebraic_KernelIdeal_ReferenceIdeal_pre_scores_finite :=
  fun m ρ m' ρ' hpre hag =>
    ⟨fun c => Cert.KernelIdeal.Attn.result m c, Cert.KernelIdeal.Attn.run m ρ,
      (θ_run _ _ _).mono (fun _ h c => ⟨(h c).1.trans (by
        rw [Cert.ReferenceIdeal.Read.val_main_v115_eq, (hag c).1, (hag c).2.1, (hag c).2.2.1, (hag c).2.2.2]
        have hr := Cert.Equal.real_of_pre _ _ _ _ (hpre c)
        exact (Cert.Equal.array_eq _ _ _ _ hr.1 hr.2).symm), (h c).2⟩) (Cert.ReferenceIdeal.Value.run m' ρ')⟩

/-- The attention's reference runs, keeps its arguments and leaves no semaphore raised. -/
theorem reference_runs : Cert.quiescent_ReferenceIdeal := fun m ρ _ =>
  (θ_run _ _ _).mono (fun _ h => ⟨fun c => (h c).2, Idealize.ShloMosaic.sem_eq_zero_of_no_sems (by decide) _⟩) (Cert.ReferenceIdeal.Value.run m ρ)

/-- The query projection: the rotated queries and the gates are those of the reference. -/
theorem query : Cert.algebraic_QueryIdeal_QueryRefIdeal := fun m ρ m' ρ' _ hag =>
  ⟨fun c => Cert.QueryIdeal.Query.queries m c, fun c => Cert.QueryIdeal.Query.gates m c, Cert.QueryIdeal.Query.run m ρ,
    (θ_run _ _ _).mono (fun _ h c => ⟨
      ((h c).1.trans (Cert.QueryRefIdeal.Read.val_main_v42_eq m' c)).trans (by
        rw [(hag c).1, (hag c).2.1, (hag c).2.2.1, (hag c).2.2.2.1, (hag c).2.2.2.2.1, (hag c).2.2.2.2.2]
        exact Cert.Equal.query_eq _ _ _ _ _ _),
      ((h c).2.1.trans (Cert.QueryRefIdeal.Read.val_main_v43_eq _ _ _ _)).trans (by
        rw [(hag c).1, (hag c).2.1, (hag c).2.2.1, (hag c).2.2.2.1]
        exact Cert.Equal.gate_eq _ _ _ _),
      (h c).2.2⟩) (Cert.QueryRefIdeal.Value.run m' ρ')⟩

/-- The query reference runs, keeps its arguments and leaves no semaphore raised. -/
theorem query_reference_runs : Cert.quiescent_QueryRefIdeal := fun m ρ _ =>
  (θ_run _ _ _).mono (fun _ h => ⟨fun c => (h c).2.2, Idealize.ShloMosaic.sem_eq_zero_of_no_sems (by decide) _⟩)
    (Cert.QueryRefIdeal.Value.run m ρ)

/-- The output projection: the new residual stream is that of the reference. -/
theorem output : Cert.algebraic_OutputIdeal_OutputRefIdeal := fun m ρ m' ρ' _ hag =>
  ⟨fun c => Cert.OutputIdeal.Out.result m c, Cert.OutputIdeal.Out.run m ρ,
    (θ_run _ _ _).mono (fun _ h c => ⟨
      ((h c).1.trans (Cert.OutputRefIdeal.Read.val_main_v22_eq _ _ _ _ _ _)).trans (by
        rw [(hag c).1, (hag c).2.1, (hag c).2.2.1, (hag c).2.2.2.1, (hag c).2.2.2.2.1, (hag c).2.2.2.2.2]
        exact Cert.Equal.out_eq _ _ _ _ _ _),
      (h c).2⟩) (Cert.OutputRefIdeal.Value.run m' ρ')⟩

/-- The output reference runs, keeps its arguments and leaves no semaphore raised. -/
theorem output_reference_runs : Cert.quiescent_OutputRefIdeal := fun m ρ _ =>
  (θ_run _ _ _).mono (fun _ h => ⟨fun c => (h c).2, Idealize.ShloMosaic.sem_eq_zero_of_no_sems (by decide) _⟩)
    (Cert.OutputRefIdeal.Value.run m ρ)

/-- The key and value projection: all five arrays are those of the reference. -/
theorem key_value : Cert.algebraic_KeyValueIdeal_KeyValueRefIdeal := fun m ρ m' ρ' _ hag =>
  ⟨fun c => Cert.KeyValueIdeal.KeyValue.keys m c, fun c => Cert.KeyValueIdeal.KeyValue.values m c, fun c => Cert.KeyValueIdeal.KeyValue.flats m c,
    fun c => Cert.KeyValueIdeal.KeyValue.turneds m c, fun c => Cert.KeyValueIdeal.KeyValue.means m c, Cert.KeyValueIdeal.KeyValue.run m ρ,
    (θ_run _ _ _).mono (fun _ h c => ⟨
      ((h c).1.trans (Cert.KeyValueRefIdeal.Read.val_main_v39_eq m' c)).trans (by
        rw [(hag c).1, (hag c).2.1, (hag c).2.2.1, (hag c).2.2.2.1, (hag c).2.2.2.2.1, (hag c).2.2.2.2.2]
        exact Cert.Equal.keys_eq _ _ _ _ _ _),
      ((h c).2.1.trans (Cert.KeyValueRefIdeal.Read.val_main_v41_eq _ _ _ _)).trans (by
        rw [(hag c).1, (hag c).2.1, (hag c).2.2.1, (hag c).2.2.2.1]
        exact Cert.Equal.values_eq _ _ _ _),
      ((h c).2.2.1.trans (Cert.KeyValueRefIdeal.Read.val_main_v50_eq m' c)).trans (by
        rw [(hag c).1, (hag c).2.1, (hag c).2.2.1, (hag c).2.2.2.1, (hag c).2.2.2.2.1, (hag c).2.2.2.2.2]
        exact Cert.Equal.flat_eq _ _ _ _ _ _),
      ((h c).2.2.2.1.trans (Cert.KeyValueRefIdeal.Read.val_main_v52_eq _ _ _ _)).trans (by
        rw [(hag c).1, (hag c).2.1, (hag c).2.2.1, (hag c).2.2.2.1]
        exact Cert.Equal.turned_eq _ _ _ _),
      ((h c).2.2.2.2.1.trans (Cert.KeyValueRefIdeal.Read.val_main_v54_eq m' c)).trans (by
        rw [(hag c).1, (hag c).2.1, (hag c).2.2.1, (hag c).2.2.2.1, (hag c).2.2.2.2.1, (hag c).2.2.2.2.2]
        exact Cert.Equal.means_eq _ _ _ _ _ _),
      (h c).2.2.2.2.2⟩) (Cert.KeyValueRefIdeal.Value.run m' ρ')⟩

/-- The key and value reference runs, keeps its arguments and leaves no semaphore raised. -/
theorem key_value_reference_runs : Cert.quiescent_KeyValueRefIdeal := fun m ρ _ =>
  (θ_run _ _ _).mono (fun _ h => ⟨fun c => (h c).2.2.2.2.2, Idealize.ShloMosaic.sem_eq_zero_of_no_sems (by decide) _⟩)
    (Cert.KeyValueRefIdeal.Value.run m ρ)

/-- The pooling layer: its output and its new history are those of the reference, where the rows pooled are finite. -/
theorem pooling [Cert.Pre_rows_finite.Facts] : Cert.algebraic_PoolIdeal_PoolRefIdeal_pre_rows_finite := fun m ρ m' ρ' hpre hag =>
  ⟨fun c => Cert.Pooling.outputs m c, fun c => Cert.Pooling.histories m c, Cert.Pooling.run m ρ,
    (θ_run _ _ _).mono (fun _ h c => ⟨
      ((h c).1.trans (Cert.PoolRefIdeal.Read.val_main_v127_eq m' c)).trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
        exact Cert.Equal.output_eq _ _ _ _ _ _ _ _ _ (Cert.Equal.rows_real _ _ _ _ _ _ _ _ _ (hpre c))),
      ((h c).2.1.trans (Cert.PoolRefIdeal.Read.val_main_v128_eq _ _ _ _ _)).trans (by
        rw [(hag c).1, (hag c).2.1, (hag c).2.2.1, (hag c).2.2.2.1, (hag c).2.2.2.2.2.1]
        exact Cert.Equal.history_eq _ _ _ _ _),
      (h c).2.2⟩) (Cert.PoolRefIdeal.Value.run m' ρ')⟩

/-- The pooling reference runs, keeps its arguments and leaves no semaphore raised. -/
theorem pooling_reference_runs : Cert.quiescent_PoolRefIdeal := fun m ρ _ =>
  (θ_run _ _ _).mono (fun _ h => ⟨fun c => (h c).2.2, Idealize.ShloMosaic.sem_eq_zero_of_no_sems (by decide) _⟩)
    (Cert.PoolRefIdeal.Value.run m ρ)

/-- Every claim of the five calls. -/
theorem claim : Cert.Claim :=
  ⟨Cert.Kernel.Gen.facts, Cert.KernelIdeal.Gen.facts, Cert.ReferenceIdeal.Gen.facts,
    Cert.Query.Gen.facts, Cert.QueryIdeal.Gen.facts, Cert.QueryRefIdeal.Gen.facts,
    Cert.Output.Gen.facts, Cert.OutputIdeal.Gen.facts, Cert.OutputRefIdeal.Gen.facts,
    Cert.KeyValue.Gen.facts, Cert.KeyValueIdeal.Gen.facts, Cert.KeyValueRefIdeal.Gen.facts,
    Cert.Pool.Gen.facts, Cert.PoolIdeal.Gen.facts, Cert.PoolRefIdeal.Gen.facts,
    Cert.Equal.pre_facts, Cert.Equal.rows_facts,
    fun m ρ _ => Cert.Kernel.Gen.frame m ρ, fun m ρ _ => Cert.KernelIdeal.Gen.frame m ρ, fun m ρ _ => Cert.KernelIdeal.Gen.frame m ρ,
    reference_runs, fun m ρ _ => reference_runs m ρ trivial,
    fun m ρ _ => Cert.Query.Gen.frame m ρ, fun m ρ _ => Cert.QueryIdeal.Gen.frame m ρ, query_reference_runs,
    fun m ρ _ => Cert.Output.Gen.frame m ρ, fun m ρ _ => Cert.OutputIdeal.Gen.frame m ρ, output_reference_runs,
    fun m ρ _ => Cert.KeyValue.Gen.frame m ρ, fun m ρ _ => Cert.KeyValueIdeal.Gen.frame m ρ, key_value_reference_runs,
    fun m ρ _ => Cert.Pooling.frame_plain m ρ, fun m ρ _ => Cert.Pooling.frame m ρ, fun m ρ _ => Cert.Pooling.frame m ρ,
    pooling_reference_runs, fun m ρ _ => pooling_reference_runs m ρ trivial,
    trivial,
    letI := Cert.Equal.pre_facts
    attention,
    trivial, query, trivial, output, trivial, key_value, trivial,
    letI := Cert.Equal.rows_facts
    pooling⟩

end Cert.Proof

end
